-- ==== Defs.lean ====
def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)
      ∧ m' ((c.tc : Thread Cert.OutprojRefIdeal.nD Cert.OutprojRefIdeal.τ).loc Cert.OutprojRefIdeal.main_arg5) = m ((c.tc : Thread Cert.OutprojIdeal.nD Cert.OutprojIdeal.τ).loc Cert.OutprojIdeal.main_arg5)) →
    ∃ (v0 : (c : Dev Cert.OutprojIdeal.nD) → Buf (Elt Ideal) ((c.tc : Thread Cert.OutprojIdeal.nD Cert.OutprojIdeal.τ).loc Cert.OutprojIdeal.main_v8)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v8) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v26) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4)
          ∧ r.2.mem ((c.tc : Thread Cert.OutprojRefIdeal.nD Cert.OutprojRefIdeal.τ).loc Cert.OutprojRefIdeal.main_arg5) = m' ((c.tc : Thread Cert.OutprojRefIdeal.nD Cert.OutprojRefIdeal.τ).loc Cert.OutprojRefIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v11)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v11) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v55) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v6)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v6) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v30) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def Claim : Prop :=
  ∃ (hAttnIdeal : Cert.AttnIdeal.Facts) (hAttnRefIdeal : Cert.AttnRefIdeal.Facts) (hOutproj : Cert.Outproj.Facts) (hOutprojIdeal : Cert.OutprojIdeal.Facts) (hOutprojRefIdeal : Cert.OutprojRefIdeal.Facts) (hFfn : Cert.Ffn.Facts) (hFfnIdeal : Cert.FfnIdeal.Facts) (hFfnRefIdeal : Cert.FfnRefIdeal.Facts) (hInproj : Cert.Inproj.Facts) (hInprojIdeal : Cert.InprojIdeal.Facts) (hInprojRefIdeal : Cert.InprojRefIdeal.Facts),
    quiescent_AttnIdeal (hAttnIdeal := hAttnIdeal)
    ∧ quiescent_AttnRefIdeal (hAttnRefIdeal := hAttnRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Inproj (hInproj := hInproj)
    ∧ quiescent_InprojIdeal (hInprojIdeal := hInprojIdeal)
    ∧ quiescent_InprojRefIdeal (hInprojRefIdeal := hInprojRefIdeal)
    ∧ preserves_Outproj_OutprojIdeal
    ∧ algebraic_OutprojIdeal_OutprojRefIdeal (hOutprojIdeal := hOutprojIdeal) (hOutprojRefIdeal := hOutprojRefIdeal)
    ∧ preserves_Ffn_FfnIdeal
    ∧ algebraic_FfnIdeal_FfnRefIdeal (hFfnIdeal := hFfnIdeal) (hFfnRefIdeal := hFfnRefIdeal)
    ∧ preserves_Inproj_InprojIdeal
    ∧ algebraic_InprojIdeal_InprojRefIdeal (hInprojIdeal := hInprojIdeal) (hInprojRefIdeal := hInprojRefIdeal)
-- ==== AttnIdeal.lean ====
abbrev S4x8x2048x128 : Shape := ⟨4, ![4, 8, 2048, 128]⟩
abbrev S32x8 : Shape := ⟨2, ![32, 8]⟩
abbrev S2048 : Shape := ⟨1, ![2048]⟩
abbrev S_ : Shape := ⟨0, ![]⟩
abbrev S4x48x2048x128 : Shape := ⟨4, ![4, 48, 2048, 128]⟩
abbrev S8x32 : Shape := ⟨2, ![8, 32]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S256x256x1 : Shape := ⟨3, ![256, 256, 1]⟩
abbrev S8x256x256 : Shape := ⟨3, ![8, 256, 256]⟩
abbrev S8x1x256x256 : Shape := ⟨4, ![8, 1, 256, 256]⟩
abbrev S8x2x256x256 : Shape := ⟨4, ![8, 2, 256, 256]⟩
abbrev S1x2048 : Shape := ⟨2, ![1, 2048]⟩
abbrev S4x2048x1024 : Shape := ⟨3, ![4, 2048, 1024]⟩
abbrev S1x1x2048x128 : Shape := ⟨4, ![1, 1, 2048, 128]⟩
abbrev S1x2x256x256 : Shape := ⟨4, ![1, 2, 256, 256]⟩
abbrev S1x128 : Shape := ⟨2, ![1, 128]⟩
abbrev S1x2048x128 : Shape := ⟨3, ![1, 2048, 128]⟩
abbrev S2x256x2048 : Shape := ⟨3, ![2, 256, 2048]⟩
abbrev S2048x256 : Shape := ⟨2, ![2048, 256]⟩
abbrev S8x256x128 : Shape := ⟨3, ![8, 256, 128]⟩
abbrev S1x1 : Shape := ⟨2, ![1, 1]⟩
abbrev S2048x128 : Shape := ⟨2, ![2048, 128]⟩
abbrev S8x128 : Shape := ⟨2, ![8, 128]⟩
abbrev S16x128 : Shape := ⟨2, ![16, 128]⟩
abbrev S16x256 : Shape := ⟨2, ![16, 256]⟩
abbrev S1x1x256x128 : Shape := ⟨4, ![1, 1, 256, 128]⟩
abbrev S256x128 : Shape := ⟨2, ![256, 128]⟩
abbrev S1x1x256x256 : Shape := ⟨4, ![1, 1, 256, 256]⟩
abbrev S1x256x2048 : Shape := ⟨3, ![1, 256, 2048]⟩
abbrev S256x2048 : Shape := ⟨2, ![256, 2048]⟩
abbrev S112x256 : Shape := ⟨2, ![112, 256]⟩
abbrev S128x256 : Shape := ⟨2, ![128, 256]⟩
abbrev S1x1x512x128 : Shape := ⟨4, ![1, 1, 512, 128]⟩
abbrev S512x128 : Shape := ⟨2, ![512, 128]⟩
abbrev S1x256x256 : Shape := ⟨3, ![1, 256, 256]⟩
abbrev S1x256x128 : Shape := ⟨3, ![1, 256, 128]⟩
abbrev S1x1x768x128 : Shape := ⟨4, ![1, 1, 768, 128]⟩
abbrev S768x128 : Shape := ⟨2, ![768, 128]⟩
abbrev S256x512 : Shape := ⟨2, ![256, 512]⟩
abbrev S512x256 : Shape := ⟨2, ![512, 256]⟩
abbrev S256x768 : Shape := ⟨2, ![256, 768]⟩
abbrev S768x256 : Shape := ⟨2, ![768, 256]⟩
abbrev S256x1024 : Shape := ⟨2, ![256, 1024]⟩
abbrev S1024x256 : Shape := ⟨2, ![1024, 256]⟩
abbrev S1x256x1 : Shape := ⟨3, ![1, 256, 1]⟩
abbrev S1 : Shape := ⟨1, ![1]⟩
abbrev S1x1x1 : Shape := ⟨3, ![1, 1, 1]⟩
abbrev S256x1280 : Shape := ⟨2, ![256, 1280]⟩
abbrev S1280x256 : Shape := ⟨2, ![1280, 256]⟩
abbrev S256x1536 : Shape := ⟨2, ![256, 1536]⟩
abbrev S1536x256 : Shape := ⟨2, ![1536, 256]⟩
abbrev S256x1792 : Shape := ⟨2, ![256, 1792]⟩
abbrev S1792x256 : Shape := ⟨2, ![1792, 256]⟩

abbrev nBuf : Space → Nat
  | .hbm => 122
  | .vmem => 27
  | .smem => 1
  | _ => 0

abbrev bufTy : (tb : Table) → Fin (tcTables nBuf tb) → BufTy
  | .hbm, ⟨0, _⟩ => ⟨S4x8x2048x128, .f32⟩
  | .hbm, ⟨1, _⟩ => ⟨S4x8x2048x128, .f32⟩
  | .hbm, ⟨2, _⟩ => ⟨S4x8x2048x128, .f32⟩
  | .hbm, ⟨3, _⟩ => ⟨S4x8x2048x128, .f32⟩
  | .hbm, ⟨4, _⟩ => ⟨S4x8x2048x128, .f32⟩
  | .hbm, ⟨5, _⟩ => ⟨S4x8x2048x128, .f32⟩
  | .hbm, ⟨6, _⟩ => ⟨S32x8, .f32⟩
  | .hbm, ⟨7, _⟩ => ⟨S2048, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x8x2048x128, .f32⟩
  | .hbm, ⟨14, _⟩ => ⟨S4x8x2048x128, .f32⟩
  | .hbm, ⟨15, _⟩ => ⟨S4x8x2048x128, .f32⟩
  | .hbm, ⟨16, _⟩ => ⟨S4x8x2048x128, .f32⟩
  | .hbm, ⟨17, _⟩ => ⟨S4x48x2048x128, .f32⟩
  | .hbm, ⟨18, _⟩ => ⟨S4x48x2048x128, .bf16⟩
  | .hbm, ⟨19, _⟩ => ⟨S8x32, .f32⟩
  | .hbm, ⟨20, _⟩ => ⟨S256, .i32⟩
  | .hbm, ⟨21, _⟩ => ⟨S256x1, .i32⟩
  | .hbm, ⟨22, _⟩ => ⟨S256, .i32⟩
  | .hbm, ⟨23, _⟩ => ⟨S1x256, .i32⟩
  | .hbm, ⟨24, _⟩ => ⟨S256x256, .i32⟩
  | .hbm, ⟨25, _⟩ => ⟨S256x256, .i32⟩
  | .hbm, ⟨26, _⟩ => ⟨S256x256, .i32⟩
  | .hbm, ⟨27, _⟩ => ⟨S_, .i32⟩
  | .hbm, ⟨28, _⟩ => ⟨S256x256, .i32⟩
  | .hbm, ⟨29, _⟩ => ⟨S256x256, .i1⟩
  | .hbm, ⟨30, _⟩ => ⟨S_, .i32⟩
  | .hbm, ⟨31, _⟩ => ⟨S256x256, .i32⟩
  | .hbm, ⟨32, _⟩ => ⟨S256x256, .i32⟩
  | .hbm, ⟨33, _⟩ => ⟨S_, .i32⟩
  | .hbm, ⟨34, _⟩ => ⟨S256x256, .i32⟩
  | .hbm, ⟨35, _⟩ => ⟨S256x256, .i32⟩
  | .hbm, ⟨36, _⟩ => ⟨S256x256, .f32⟩
  | .hbm, ⟨37, _⟩ => ⟨S_, .f32⟩
  | .hbm, ⟨38, _⟩ => ⟨S256x256, .f32⟩
  | .hbm, ⟨39, _⟩ => ⟨S256x256, .f32⟩
  | .hbm, ⟨40, _⟩ => ⟨S256x256, .f32⟩
  | .hbm, ⟨41, _⟩ => ⟨S_, .f32⟩
  | .hbm, ⟨42, _⟩ => ⟨S256x256, .f32⟩
  | .hbm, ⟨43, _⟩ => ⟨S256x256, .f32⟩
  | .hbm, ⟨44, _⟩ => ⟨S_, .f32⟩
  | .hbm, ⟨45, _⟩ => ⟨S256x256, .f32⟩
  | .hbm, ⟨46, _⟩ => ⟨S256x256, .f32⟩
  | .hbm, ⟨47, _⟩ => ⟨S256x256, .i32⟩
  | .hbm, ⟨48, _⟩ => ⟨S_, .i32⟩
  | .hbm, ⟨49, _⟩ => ⟨S256x256, .i32⟩
  | .hbm, ⟨50, _⟩ => ⟨S256x256, .i32⟩
  | .hbm, ⟨51, _⟩ => ⟨S_, .i32⟩
  | .hbm, ⟨52, _⟩ => ⟨S256x256, .i32⟩
  | .hbm, ⟨53, _⟩ => ⟨S256x256, .i32⟩
  | .hbm, ⟨54, _⟩ => ⟨S_, .i32⟩
  | .hbm, ⟨55, _⟩ => ⟨S256x256, .i32⟩
  | .hbm, ⟨56, _⟩ => ⟨S256x256, .i1⟩
  | .hbm, ⟨57, _⟩ => ⟨S256x256, .i32⟩
  | .hbm, ⟨58, _⟩ => ⟨S_, .i32⟩
  | .hbm, ⟨59, _⟩ => ⟨S256x256, .i32⟩
  | .hbm, ⟨60, _⟩ => ⟨S256x256, .i1⟩
  | .hbm, ⟨61, _⟩ => ⟨S_, .i32⟩
  | .hbm, ⟨62, _⟩ => ⟨S256x256, .i32⟩
  | .hbm, ⟨63, _⟩ => ⟨S256x256, .i32⟩
  | .hbm, ⟨64, _⟩ => ⟨S256x256, .i32⟩
  | .hbm, ⟨65, _⟩ => ⟨S256x256x1, .i32⟩
  | .hbm, ⟨66, _⟩ => ⟨S8x256x256, .f32⟩
  | .hbm, ⟨67, _⟩ => ⟨S_, .f32⟩
  | .hbm, ⟨68, _⟩ => ⟨S_, .f32⟩
  | .hbm, ⟨69, _⟩ => ⟨S8x256x256, .i1⟩
  | .hbm, ⟨70, _⟩ => ⟨S8x256x256, .f32⟩
  | .hbm, ⟨71, _⟩ => ⟨S8x256x256, .f32⟩
  | .hbm, ⟨72, _⟩ => ⟨S_, .i32⟩
  | .hbm, ⟨73, _⟩ => ⟨S256x256, .i32⟩
  | .hbm, ⟨74, _⟩ => ⟨S256x256, .i32⟩
  | .hbm, ⟨75, _⟩ => ⟨S_, .i32⟩
  | .hbm, ⟨76, _⟩ => ⟨S256x256, .i32⟩
  | .hbm, ⟨77, _⟩ => ⟨S256x256, .i32⟩
  | .hbm, ⟨78, _⟩ => ⟨S_, .i32⟩
  | .hbm, ⟨79, _⟩ => ⟨S256x256, .i32⟩
  | .hbm, ⟨80, _⟩ => ⟨S256x256, .i32⟩
  | .hbm, ⟨81, _⟩ => ⟨S256x256, .f32⟩
  | .hbm, ⟨82, _⟩ => ⟨S_, .f32⟩
  | .hbm, ⟨83, _⟩ => ⟨S256x256, .f32⟩
  | .hbm, ⟨84, _⟩ => ⟨S256x256, .f32⟩
  | .hbm, ⟨85, _⟩ => ⟨S256x256, .f32⟩
  | .hbm, ⟨86, _⟩ => ⟨S_, .f32⟩
  | .hbm, ⟨87, _⟩ => ⟨S256x256, .f32⟩
  | .hbm, ⟨88, _⟩ => ⟨S256x256, .f32⟩
  | .hbm, ⟨89, _⟩ => ⟨S_, .f32⟩
  | .hbm, ⟨90, _⟩ => ⟨S256x256, .f32⟩
  | .hbm, ⟨91, _⟩ => ⟨S256x256, .f32⟩
  | .hbm, ⟨92, _⟩ => ⟨S256x256, .i32⟩
  | .hbm, ⟨93, _⟩ => ⟨S_, .i32⟩
  | .hbm, ⟨94, _⟩ => ⟨S256x256, .i32⟩
  | .hbm, ⟨95, _⟩ => ⟨S256x256, .i32⟩
  | .hbm, ⟨96, _⟩ => ⟨S_, .i32⟩
  | .hbm, ⟨97, _⟩ => ⟨S256x256, .i32⟩
  | .hbm, ⟨98, _⟩ => ⟨S256x256, .i32⟩
  | .hbm, ⟨99, _⟩ => ⟨S_, .i32⟩
  | .hbm, ⟨100, _⟩ => ⟨S256x256, .i32⟩
  | .hbm, ⟨101, _⟩ => ⟨S256x256, .i1⟩
  | .hbm, ⟨102, _⟩ => ⟨S256x256, .i32⟩
  | .hbm, ⟨103, _⟩ => ⟨S_, .i32⟩
  | .hbm, ⟨104, _⟩ => ⟨S256x256, .i32⟩
  | .hbm, ⟨105, _⟩ => ⟨S256x256, .i1⟩
  | .hbm, ⟨106, _⟩ => ⟨S_, .i32⟩
  | .hbm, ⟨107, _⟩ => ⟨S256x256, .i32⟩
  | .hbm, ⟨108, _⟩ => ⟨S256x256, .i32⟩
  | .hbm, ⟨109, _⟩ => ⟨S256x256, .i32⟩
  | .hbm, ⟨110, _⟩ => ⟨S256x256x1, .i32⟩
  | .hbm, ⟨111, _⟩ => ⟨S8x256x256, .f32⟩
  | .hbm, ⟨112, _⟩ => ⟨S8x1x256x256, .f32⟩
  | .hbm, ⟨113, _⟩ => ⟨S8x1x256x256, .f32⟩
  | .hbm, ⟨114, _⟩ => ⟨S8x2x256x256, .f32⟩
  | .hbm, ⟨115, _⟩ => ⟨S_, .f32⟩
  | .hbm, ⟨116, _⟩ => ⟨S_, .f32⟩
  | .hbm, ⟨117, _⟩ => ⟨S8x2x256x256, .f32⟩
  | .hbm, ⟨118, _⟩ => ⟨S8x2x256x256, .f32⟩
  | .hbm, ⟨119, _⟩ => ⟨S1x2048, .f32⟩
  | .hbm, ⟨120, _⟩ => ⟨S4x2048x1024, .bf16⟩
  | .hbm, ⟨121, _⟩ => ⟨S4x2048x1024, .bf16⟩
  | .local _ .vmem, ⟨0, _⟩ => ⟨S1x1x2048x128, .bf16⟩
  | .local _ .vmem, ⟨1, _⟩ => ⟨S1x1x2048x128, .bf16⟩
  | .local _ .vmem, ⟨2, _⟩ => ⟨S1x1x2048x128, .bf16⟩
  | .local _ .vmem, ⟨3, _⟩ => ⟨S1x1x2048x128, .bf16⟩
  | .local _ .vmem, ⟨4, _⟩ => ⟨S1x1x2048x128, .bf16⟩
  | .local _ .vmem, ⟨5, _⟩ => ⟨S1x1x2048x128, .bf16⟩
  | .local _ .vmem, ⟨6, _⟩ => ⟨S1x1x2048x128, .bf16⟩
  | .local _ .vmem, ⟨7, _⟩ => ⟨S1x1x2048x128, .bf16⟩
  | .local _ .vmem, ⟨8, _⟩ => ⟨S1x1x2048x128, .bf16⟩
  | .local _ .vmem, ⟨9, _⟩ => ⟨S1x1x2048x128, .bf16⟩
  | .local _ .vmem, ⟨10, _⟩ => ⟨S1x1x2048x128, .bf16⟩
  | .local _ .vmem, ⟨11, _⟩ => ⟨S1x1x2048x128, .bf16⟩
  | .local _ .vmem, ⟨12, _⟩ => ⟨S1x2x256x256, .f32⟩
  | .local _ .vmem, ⟨13, _⟩ => ⟨S1x2x256x256, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x2048x128, .bf16⟩
  | .local _ .vmem, ⟨19, _⟩ => ⟨S1x2048x128, .bf16⟩
  | .local _ .vmem, ⟨20, _⟩ => ⟨S1x2048x128, .bf16⟩
  | .local _ .vmem, ⟨21, _⟩ => ⟨S1x2048x128, .bf16⟩
  | .local _ .vmem, ⟨22, _⟩ => ⟨S2x256x2048, .f32⟩
  | .local _ .vmem, ⟨23, _⟩ => ⟨S2x256x2048, .bf16⟩
  | .local _ .vmem, ⟨24, _⟩ => ⟨S2048x256, .bf16⟩
  | .local _ .vmem, ⟨25, _⟩ => ⟨S8x256x128, .f32⟩
  | .local _ .vmem, ⟨26, _⟩ => ⟨S8x256x128, .f32⟩
  | .local _ .smem, ⟨0, _⟩ => ⟨S8x32, .f32⟩
  | _, _ => ⟨S4x8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_1 : Ref sig .tc := ⟨.hbm, 30, rfl⟩
abbrev main_v19 : Ref sig .tc := ⟨.hbm, 31, rfl⟩
abbrev main_v20 : Ref sig .tc := ⟨.hbm, 32, rfl⟩
abbrev main_c_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_9 : Ref sig .tc := ⟨.hbm, 58, rfl⟩
abbrev main_v39 : Ref sig .tc := ⟨.hbm, 59, rfl⟩
abbrev main_v40 : Ref sig .tc := ⟨.hbm, 60, rfl⟩
abbrev main_c_10 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_11 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_v46 : Ref sig .tc := ⟨.hbm, 71, rfl⟩
abbrev main_c_12 : Ref sig .tc := ⟨.hbm, 72, rfl⟩
abbrev main_v47 : Ref sig .tc := ⟨.hbm, 73, rfl⟩
abbrev main_v48 : Ref sig .tc := ⟨.hbm, 74, rfl⟩
abbrev main_c_13 : Ref sig .tc := ⟨.hbm, 75, rfl⟩
abbrev main_v49 : Ref sig .tc := ⟨.hbm, 76, rfl⟩
abbrev main_v50 : Ref sig .tc := ⟨.hbm, 77, rfl⟩
abbrev main_c_14 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_15 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_16 : Ref sig .tc := ⟨.hbm, 86, rfl⟩
abbrev main_v57 : Ref sig .tc := ⟨.hbm, 87, rfl⟩
abbrev main_v58 : Ref sig .tc := ⟨.hbm, 88, rfl⟩
abbrev main_cst_17 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_18 : Ref sig .tc := ⟨.hbm, 93, rfl⟩
abbrev main_v62 : Ref sig .tc := ⟨.hbm, 94, rfl⟩
abbrev main_v63 : Ref sig .tc := ⟨.hbm, 95, rfl⟩
abbrev main_c_19 : Ref sig .tc := ⟨.hbm, 96, rfl⟩
abbrev main_v64 : Ref sig .tc := ⟨.hbm, 97, rfl⟩
abbrev main_v65 : Ref sig .tc := ⟨.hbm, 98, rfl⟩
abbrev main_c_20 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_c_21 : Ref sig .tc := ⟨.hbm, 103, rfl⟩
abbrev main_v69 : Ref sig .tc := ⟨.hbm, 104, rfl⟩
abbrev main_v70 : Ref sig .tc := ⟨.hbm, 105, rfl⟩
abbrev main_c_22 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_23 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83_0 : Ref sig .tc := ⟨.hbm, 120, rfl⟩
abbrev main_v83_1 : Ref sig .tc := ⟨.hbm, 121, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F] [Named F]

def κ : String → Option EReal := fun
  | "log2e" => some (((Real.log 2)⁻¹ : ℝ) : EReal)
  | "spent" => some ⊥
  | _ => none

abbrev grid0 : Pipeline.Grid := ⟨2, ![4, 8], ![false, false]⟩

def k0_off1 (i : grid0.Coords) : Fin 2 → Nat :=
  let arg1 : BitVec 32 := BitVec.ofNat 32 (i 1).val
  let v0 : Index := Scalar.indexCast arg1
  let c31 : Index := 31#32
  ![v0.toNat, 31]
def k0_mult1 (arg19 : BitVec 32) : BitVec 32 :=
  let c0_i32_1446 : BitVec 32 := 0#32
  let v2610 : BitVec 32 := Scalar.subi arg19 c0_i32_1446
  let c256_i32 : BitVec 32 := 256#32
  let v2611 : BitVec 32 := Scalar.muli v2610 c256_i32
  v2611

def k0_off2 (arg19 : BitVec 32) : Fin 4 → Nat :=
  let c0_1447 : Index := 0#32
  let c0_1448 : Index := 0#32
  let c0_i32_1446 : BitVec 32 := 0#32
  let v2610 : BitVec 32 := Scalar.subi arg19 c0_i32_1446
  let c256_i32 : BitVec 32 := 256#32
  let v2611 : BitVec 32 := Scalar.muli v2610 c256_i32
  let v2612 : BitVec 32 := v2611
  let v2613 : Index := Scalar.indexCast v2612
  let c0_1449 : Index := 0#32
  ![0, 0, v2613.toNat, 0]

def k0_chk1 (arg19 : BitVec 32) : Prop :=
  (256 ∣ (k0_mult1 arg19).toNat) ∧
  (∀ a, (k0_off2 arg19) a + S1x1x256x128.size a ≤ S1x1x2048x128.size a)
theorem k0_mult1_dvd : ∀ (arg19 : BitVec 32) (k0_hw1 : k0_chk1 arg19), 256 ∣ (k0_mult1 arg19).toNat := fun arg19 k0_hw1 => k0_hw1.1
theorem k0_off2_inb : ∀ (arg19 : BitVec 32) (k0_hw1 : k0_chk1 arg19), ∀ a, (k0_off2 arg19) a + S1x1x256x128.size a ≤ S1x1x2048x128.size a := fun arg19 k0_hw1 => k0_hw1.2

def k0_mult2 (arg19 : BitVec 32) : BitVec 32 :=
  let c1_i32_1446 : BitVec 32 := 1#32
  let v2610 : BitVec 32 := Scalar.subi arg19 c1_i32_1446
  let c256_i32 : BitVec 32 := 256#32
  let v2611 : BitVec 32 := Scalar.muli v2610 c256_i32
  v2611

def k0_off3 (arg19 : BitVec 32) : Fin 4 → Nat :=
  let c0_1447 : Index := 0#32
  let c0_1448 : Index := 0#32
  let c1_i32_1446 : BitVec 32 := 1#32
  let v2610 : BitVec 32 := Scalar.subi arg19 c1_i32_1446
  let c256_i32 : BitVec 32 := 256#32
  let v2611 : BitVec 32 := Scalar.muli v2610 c256_i32
  let v2612 : BitVec 32 := v2611
  let v2613 : Index := Scalar.indexCast v2612
  let c0_1449 : Index := 0#32
  ![0, 0, v2613.toNat, 0]

def k0_chk2 (arg19 : BitVec 32) : Prop :=
  (256 ∣ (k0_mult2 arg19).toNat) ∧
  (∀ a, (k0_off3 arg19) a + S1x1x512x128.size a ≤ S1x1x2048x128.size a)
theorem k0_mult2_dvd : ∀ (arg19 : BitVec 32) (k0_hw2 : k0_chk2 arg19), 256 ∣ (k0_mult2 arg19).toNat := fun arg19 k0_hw2 => k0_hw2.1
theorem k0_off3_inb : ∀ (arg19 : BitVec 32) (k0_hw2 : k0_chk2 arg19), ∀ a, (k0_off3 arg19) a + S1x1x512x128.size a ≤ S1x1x2048x128.size a := fun arg19 k0_hw2 => k0_hw2.2

def k0_mult3 (arg19 : BitVec 32) : BitVec 32 :=
  let c0_i32_1446 : BitVec 32 := 0#32
  let v2610 : BitVec 32 := Scalar.subi arg19 c0_i32_1446
  let c256_i32 : BitVec 32 := 256#32
  let v2611 : BitVec 32 := Scalar.muli v2610 c256_i32
  v2611

def k0_off4 (arg19 : BitVec 32) : Fin 4 → Nat :=
  let c0_1447 : Index := 0#32
  let c0_1448 : Index := 0#32
  let c0_i32_1446 : BitVec 32 := 0#32
  let v2610 : BitVec 32 := Scalar.subi arg19 c0_i32_1446
  let c256_i32 : BitVec 32 := 256#32
  let v2611 : BitVec 32 := Scalar.muli v2610 c256_i32
  let v2612 : BitVec 32 := v2611
  let v2613 : Index := Scalar.indexCast v2612
  let c0_1449 : Index := 0#32
  ![0, 0, v2613.toNat, 0]

def k0_chk3 (arg19 : BitVec 32) : Prop :=
  (256 ∣ (k0_mult3 arg19).toNat) ∧
  (∀ a, (k0_off4 arg19) a + S1x1x256x128.size a ≤ S1x1x2048x128.size a)
theorem k0_mult3_dvd : ∀ (arg19 : BitVec 32) (k0_hw3 : k0_chk3 arg19), 256 ∣ (k0_mult3 arg19).toNat := fun arg19 k0_hw3 => k0_hw3.1
theorem k0_off4_inb : ∀ (arg19 : BitVec 32) (k0_hw3 : k0_chk3 arg19), ∀ a, (k0_off4 arg19) a + S1x1x256x128.size a ≤ S1x1x2048x128.size a := fun arg19 k0_hw3 => k0_hw3.2

def k0_mult4 (arg19 : BitVec 32) : BitVec 32 :=
  let c1_i32_1446 : BitVec 32 := 1#32
  let v2610 : BitVec 32 := Scalar.subi arg19 c1_i32_1446
  let c256_i32 : BitVec 32 := 256#32
  let v2611 : BitVec 32 := Scalar.muli v2610 c256_i32
  v2611

def k0_off5 (arg19 : BitVec 32) : Fin 4 → Nat :=
  let c0_1447 : Index := 0#32
  let c0_1448 : Index := 0#32
  let c1_i32_1446 : BitVec 32 := 1#32
  let v2610 : BitVec 32 := Scalar.subi arg19 c1_i32_1446
  let c256_i32 : BitVec 32 := 256#32
  let v2611 : BitVec 32 := Scalar.muli v2610 c256_i32
  let v2612 : BitVec 32 := v2611
  let v2613 : Index := Scalar.indexCast v2612
  let c0_1449 : Index := 0#32
  ![0, 0, v2613.toNat, 0]

def k0_chk4 (arg19 : BitVec 32) : Prop :=
  (256 ∣ (k0_mult4 arg19).toNat) ∧
  (∀ a, (k0_off5 arg19) a + S1x1x512x128.size a ≤ S1x1x2048x128.size a)
theorem k0_mult4_dvd : ∀ (arg19 : BitVec 32) (k0_hw4 : k0_chk4 arg19), 256 ∣ (k0_mult4 arg19).toNat := fun arg19 k0_hw4 => k0_hw4.1
theorem k0_off5_inb : ∀ (arg19 : BitVec 32) (k0_hw4 : k0_chk4 arg19), ∀ a, (k0_off5 arg19) a + S1x1x512x128.size a ≤ S1x1x2048x128.size a := fun arg19 k0_hw4 => k0_hw4.2

def k0_mult5 (arg19 : BitVec 32) : BitVec 32 :=
  let c0_i32_1446 : BitVec 32 := 0#32
  let v2610 : BitVec 32 := Scalar.subi arg19 c0_i32_1446
  let c256_i32 : BitVec 32 := 256#32
  let v2611 : BitVec 32 := Scalar.muli v2610 c256_i32
  v2611

def k0_off6 (arg19 : BitVec 32) : Fin 4 → Nat :=
  let c0_1447 : Index := 0#32
  let c0_1448 : Index := 0#32
  let c0_i32_1446 : BitVec 32 := 0#32
  let v2610 : BitVec 32 := Scalar.subi arg19 c0_i32_1446
  let c256_i32 : BitVec 32 := 256#32
  let v2611 : BitVec 32 := Scalar.muli v2610 c256_i32
  let v2612 : BitVec 32 := v2611
  let v2613 : Index := Scalar.indexCast v2612
  let c0_1449 : Index := 0#32
  ![0, 0, v2613.toNat, 0]

def k0_chk5 (arg19 : BitVec 32) : Prop :=
  (256 ∣ (k0_mult5 arg19).toNat) ∧
  (∀ a, (k0_off6 arg19) a + S1x1x256x128.size a ≤ S1x1x2048x128.size a)
theorem k0_mult5_dvd : ∀ (arg19 : BitVec 32) (k0_hw5 : k0_chk5 arg19), 256 ∣ (k0_mult5 arg19).toNat := fun arg19 k0_hw5 => k0_hw5.1
theorem k0_off6_inb : ∀ (arg19 : BitVec 32) (k0_hw5 : k0_chk5 arg19), ∀ a, (k0_off6 arg19) a + S1x1x256x128.size a ≤ S1x1x2048x128.size a := fun arg19 k0_hw5 => k0_hw5.2

def k0_mult6 (arg19 : BitVec 32) : BitVec 32 :=
  let c1_i32_1446 : BitVec 32 := 1#32
  let v2610 : BitVec 32 := Scalar.subi arg19 c1_i32_1446
  let c256_i32 : BitVec 32 := 256#32
  let v2611 : BitVec 32 := Scalar.muli v2610 c256_i32
  v2611

def k0_off7 (arg19 : BitVec 32) : Fin 4 → Nat :=
  let c0_1447 : Index := 0#32
  let c0_1448 : Index := 0#32
  let c1_i32_1446 : BitVec 32 := 1#32
  let v2610 : BitVec 32 := Scalar.subi arg19 c1_i32_1446
  let c256_i32 : BitVec 32 := 256#32
  let v2611 : BitVec 32 := Scalar.muli v2610 c256_i32
  let v2612 : BitVec 32 := v2611
  let v2613 : Index := Scalar.indexCast v2612
  let c0_1449 : Index := 0#32
  ![0, 0, v2613.toNat, 0]

def k0_chk6 (arg19 : BitVec 32) : Prop :=
  (256 ∣ (k0_mult6 arg19).toNat) ∧
  (∀ a, (k0_off7 arg19) a + S1x1x512x128.size a ≤ S1x1x2048x128.size a)
theorem k0_mult6_dvd : ∀ (arg19 : BitVec 32) (k0_hw6 : k0_chk6 arg19), 256 ∣ (k0_mult6 arg19).toNat := fun arg19 k0_hw6 => k0_hw6.1
theorem k0_off7_inb : ∀ (arg19 : BitVec 32) (k0_hw6 : k0_chk6 arg19), ∀ a, (k0_off7 arg19) a + S1x1x512x128.size a ≤ S1x1x2048x128.size a := fun arg19 k0_hw6 => k0_hw6.2

def k0_mult7 (arg19 : BitVec 32) : BitVec 32 :=
  let c0_i32_1446 : BitVec 32 := 0#32
  let v2610 : BitVec 32 := Scalar.subi arg19 c0_i32_1446
  let c256_i32 : BitVec 32 := 256#32
  let v2611 : BitVec 32 := Scalar.muli v2610 c256_i32
  v2611

def k0_off8 (arg19 : BitVec 32) : Fin 4 → Nat :=
  let c0_1447 : Index := 0#32
  let c0_1448 : Index := 0#32
  let c0_i32_1446 : BitVec 32 := 0#32
  let v2610 : BitVec 32 := Scalar.subi arg19 c0_i32_1446
  let c256_i32 : BitVec 32 := 256#32
  let v2611 : BitVec 32 := Scalar.muli v2610 c256_i32
  let v2612 : BitVec 32 := v2611
  let v2613 : Index := Scalar.indexCast v2612
  let c0_1449 : Index := 0#32
  ![0, 0, v2613.toNat, 0]

def k0_chk7 (arg19 : BitVec 32) : Prop :=
  (256 ∣ (k0_mult7 arg19).toNat) ∧
  (∀ a, (k0_off8 arg19) a + S1x1x256x128.size a ≤ S1x1x2048x128.size a)
theorem k0_mult7_dvd : ∀ (arg19 : BitVec 32) (k0_hw7 : k0_chk7 arg19), 256 ∣ (k0_mult7 arg19).toNat := fun arg19 k0_hw7 => k0_hw7.1
theorem k0_off8_inb : ∀ (arg19 : BitVec 32) (k0_hw7 : k0_chk7 arg19), ∀ a, (k0_off8 arg19) a + S1x1x256x128.size a ≤ S1x1x2048x128.size a := fun arg19 k0_hw7 => k0_hw7.2

def k0_mult8 (arg19 : BitVec 32) : BitVec 32 :=
  let c1_i32_1446 : BitVec 32 := 1#32
  let v2610 : BitVec 32 := Scalar.subi arg19 c1_i32_1446
  let c256_i32 : BitVec 32 := 256#32
  let v2611 : BitVec 32 := Scalar.muli v2610 c256_i32
  v2611

def k0_off9 (arg19 : BitVec 32) : Fin 4 → Nat :=
  let c0_1447 : Index := 0#32
  let c0_1448 : Index := 0#32
  let c1_i32_1446 : BitVec 32 := 1#32
  let v2610 : BitVec 32 := Scalar.subi arg19 c1_i32_1446
  let c256_i32 : BitVec 32 := 256#32
  let v2611 : BitVec 32 := Scalar.muli v2610 c256_i32
  let v2612 : BitVec 32 := v2611
  let v2613 : Index := Scalar.indexCast v2612
  let c0_1449 : Index := 0#32
  ![0, 0, v2613.toNat, 0]

def k0_chk8 (arg19 : BitVec 32) : Prop :=
  (256 ∣ (k0_mult8 arg19).toNat) ∧
  (∀ a, (k0_off9 arg19) a + S1x1x512x128.size a ≤ S1x1x2048x128.size a)
theorem k0_mult8_dvd : ∀ (arg19 : BitVec 32) (k0_hw8 : k0_chk8 arg19), 256 ∣ (k0_mult8 arg19).toNat := fun arg19 k0_hw8 => k0_hw8.1
theorem k0_off9_inb : ∀ (arg19 : BitVec 32) (k0_hw8 : k0_chk8 arg19), ∀ a, (k0_off9 arg19) a + S1x1x512x128.size a ≤ S1x1x2048x128.size a := fun arg19 k0_hw8 => k0_hw8.2

def k0_mult9 (arg19 : BitVec 32) : BitVec 32 :=
  let c0_i32_1446 : BitVec 32 := 0#32
  let v2610 : BitVec 32 := Scalar.subi arg19 c0_i32_1446
  let c256_i32 : BitVec 32 := 256#32
  let v2611 : BitVec 32 := Scalar.muli v2610 c256_i32
  v2611

def k0_off10 (arg19 : BitVec 32) : Fin 4 → Nat :=
  let c0_1447 : Index := 0#32
  let c0_1448 : Index := 0#32
  let c0_i32_1446 : BitVec 32 := 0#32
  let v2610 : BitVec 32 := Scalar.subi arg19 c0_i32_1446
  let c256_i32 : BitVec 32 := 256#32
  let v2611 : BitVec 32 := Scalar.muli v2610 c256_i32
  let v2612 : BitVec 32 := v2611
  let v2613 : Index := Scalar.indexCast v2612
  let c0_1449 : Index := 0#32
  ![0, 0, v2613.toNat, 0]

def k0_chk9 (arg19 : BitVec 32) : Prop :=
  (256 ∣ (k0_mult9 arg19).toNat) ∧
  (∀ a, (k0_off10 arg19) a + S1x1x256x128.size a ≤ S1x1x2048x128.size a)
theorem k0_mult9_dvd : ∀ (arg19 : BitVec 32) (k0_hw9 : k0_chk9 arg19), 256 ∣ (k0_mult9 arg19).toNat := fun arg19 k0_hw9 => k0_hw9.1
theorem k0_off10_inb : ∀ (arg19 : BitVec 32) (k0_hw9 : k0_chk9 arg19), ∀ a, (k0_off10 arg19) a + S1x1x256x128.size a ≤ S1x1x2048x128.size a := fun arg19 k0_hw9 => k0_hw9.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![arg0.toNat, v0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S8x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== AttnRefIdeal.lean ====
abbrev S4x8x2048x128 : Shape := ⟨4, ![4, 8, 2048, 128]⟩
abbrev S32x8 : Shape := ⟨2, ![32, 8]⟩
abbrev S2048 : Shape := ⟨1, ![2048]⟩
abbrev S_ : Shape := ⟨0, ![]⟩
abbrev S4x8x8x256x128 : Shape := ⟨5, ![4, 8, 8, 256, 128]⟩
abbrev S4x8x8x128 : Shape := ⟨4, ![4, 8, 8, 128]⟩
abbrev S8 : Shape := ⟨1, ![8]⟩
abbrev S1x8 : Shape := ⟨2, ![1, 8]⟩
abbrev S2048x1 : Shape := ⟨2, ![2048, 1]⟩
abbrev S2048x8 : Shape := ⟨2, ![2048, 8]⟩
abbrev S4x8x2048x8 : Shape := ⟨4, ![4, 8, 2048, 8]⟩
abbrev S4x8x2048x3 : Shape := ⟨4, ![4, 8, 2048, 3]⟩
abbrev S4x8x2048x3x1 : Shape := ⟨5, ![4, 8, 2048, 3, 1]⟩
abbrev S1x1x1x1x8 : Shape := ⟨5, ![1, 1, 1, 1, 8]⟩
abbrev S4x8x2048x3x8 : Shape := ⟨5, ![4, 8, 2048, 3, 8]⟩
abbrev S1x1x2048x8 : Shape := ⟨4, ![1, 1, 2048, 8]⟩
abbrev S1x2048 : Shape := ⟨2, ![1, 2048]⟩
abbrev S2048x2048 : Shape := ⟨2, ![2048, 2048]⟩
abbrev S4x8x2048x8x256 : Shape := ⟨5, ![4, 8, 2048, 8, 256]⟩
abbrev S4x8x2048x2048 : Shape := ⟨4, ![4, 8, 2048, 2048]⟩
abbrev S1x1x2048x2048 : Shape := ⟨4, ![1, 1, 2048, 2048]⟩
abbrev S8x32 : Shape := ⟨2, ![8, 32]⟩
abbrev S2048x2048x1 : Shape := ⟨3, ![2048, 2048, 1]⟩
abbrev S8x2048x2048 : Shape := ⟨3, ![8, 2048, 2048]⟩
abbrev S1x8x2048x2048 : Shape := ⟨4, ![1, 8, 2048, 2048]⟩
abbrev S4x8x2048 : Shape := ⟨3, ![4, 8, 2048]⟩
abbrev S4x8x2048x1 : Shape := ⟨4, ![4, 8, 2048, 1]⟩
abbrev S1024 : Shape := ⟨1, ![1024]⟩
abbrev S4x2048x8x128 : Shape := ⟨4, ![4, 2048, 8, 128]⟩
abbrev S4x2048x1024 : Shape := ⟨3, ![4, 2048, 1024]⟩
abbrev S1x1x1024 : Shape := ⟨3, ![1, 1, 1024]⟩

abbrev nBuf : Space → Nat
  | .hbm => 246
  | .vmem => 0
  | .smem => 0
  | _ => 0

abbrev hbmTy0_0 (i : Nat) : BufTy := match i % 128 with
  | 0 => ⟨S4x8x2048x128, .f32⟩
  | 1 => ⟨S4x8x2048x128, .f32⟩
  | 2 => ⟨S4x8x2048x128, .f32⟩
  | 3 => ⟨S4x8x2048x128, .f32⟩
  | 4 => ⟨S4x8x2048x128, .f32⟩
  | 5 => ⟨S4x8x2048x128, .f32⟩
  | 6 => ⟨S32x8, .f32⟩
  | 7 => ⟨S2048, .f32⟩
  | 8 => ⟨S_, .f32⟩
  | 9 => ⟨S_, .f32⟩
  | 10 => ⟨S4x8x8x256x128, .f32⟩
  | 11 => ⟨S_, .f32⟩
  | 12 => ⟨S4x8x8x128, .f32⟩
  | 13 => ⟨S_, .f32⟩
  | 14 => ⟨S4x8x8x128, .f32⟩
  | 15 => ⟨S4x8x8x128, .f32⟩
  | 16 => ⟨S2048, .i32⟩
  | 17 => ⟨S_, .i32⟩
  | 18 => ⟨S_, .i32⟩
  | 19 => ⟨S2048, .i32⟩
  | 20 => ⟨S2048, .i32⟩
  | 21 => ⟨S2048, .i32⟩
  | 22 => ⟨S_, .i32⟩
  | 23 => ⟨S2048, .i32⟩
  | 24 => ⟨S2048, .i1⟩
  | 25 => ⟨S2048, .i32⟩
  | 26 => ⟨S2048, .i32⟩
  | 27 => ⟨S_, .i32⟩
  | 28 => ⟨S2048, .i32⟩
  | 29 => ⟨S2048, .i1⟩
  | 30 => ⟨S2048, .i1⟩
  | 31 => ⟨S_, .i32⟩
  | 32 => ⟨S2048, .i32⟩
  | 33 => ⟨S2048, .i32⟩
  | 34 => ⟨S2048, .i32⟩
  | 35 => ⟨S8, .i32⟩
  | 36 => ⟨S1x8, .i32⟩
  | 37 => ⟨S2048x1, .i32⟩
  | 38 => ⟨S2048x8, .i32⟩
  | 39 => ⟨S2048x8, .i32⟩
  | 40 => ⟨S2048x8, .i1⟩
  | 41 => ⟨S4x8x2048x8, .f32⟩
  | 42 => ⟨S_, .f32⟩
  | 43 => ⟨S_, .f32⟩
  | 44 => ⟨S4x8x2048x8, .i1⟩
  | 45 => ⟨S4x8x2048x8, .f32⟩
  | 46 => ⟨S4x8x2048x8, .f32⟩
  | 47 => ⟨S4x8x2048x3, .f32⟩
  | 48 => ⟨S4x8x2048x3, .i32⟩
  | 49 => ⟨S4x8x2048x3x1, .i32⟩
  | 50 => ⟨S8, .i32⟩
  | 51 => ⟨S1x1x1x1x8, .i32⟩
  | 52 => ⟨S4x8x2048x3x8, .i32⟩
  | 53 => ⟨S4x8x2048x3x8, .i32⟩
  | 54 => ⟨S4x8x2048x3x8, .i1⟩
  | 55 => ⟨S_, .i1⟩
  | 56 => ⟨S4x8x2048x8, .i1⟩
  | 57 => ⟨S1x1x2048x8, .i1⟩
  | 58 => ⟨S4x8x2048x8, .i1⟩
  | 59 => ⟨S4x8x2048x8, .i1⟩
  | 60 => ⟨S2048x1, .i32⟩
  | 61 => ⟨S1x2048, .i32⟩
  | 62 => ⟨S2048x2048, .i32⟩
  | 63 => ⟨S2048x2048, .i32⟩
  | 64 => ⟨S2048x2048, .i32⟩
  | 65 => ⟨S4x8x2048x8x256, .i1⟩
  | 66 => ⟨S4x8x2048x2048, .i1⟩
  | 67 => ⟨S2048x1, .i32⟩
  | 68 => ⟨S1x2048, .i32⟩
  | 69 => ⟨S2048x2048, .i32⟩
  | 70 => ⟨S2048x2048, .i32⟩
  | 71 => ⟨S2048x2048, .i1⟩
  | 72 => ⟨S_, .i32⟩
  | 73 => ⟨S2048x2048, .i32⟩
  | 74 => ⟨S2048x2048, .i1⟩
  | 75 => ⟨S2048x2048, .i1⟩
  | 76 => ⟨S1x1x2048x2048, .i1⟩
  | 77 => ⟨S4x8x2048x2048, .i1⟩
  | 78 => ⟨S4x8x2048x2048, .i1⟩
  | 79 => ⟨S4x8x2048x2048, .f32⟩
  | 80 => ⟨S4x8x2048x2048, .f32⟩
  | 81 => ⟨S4x8x2048x2048, .f32⟩
  | 82 => ⟨S8x32, .f32⟩
  | 83 => ⟨S_, .i32⟩
  | 84 => ⟨S2048x2048, .i32⟩
  | 85 => ⟨S2048x2048, .i32⟩
  | 86 => ⟨S_, .i32⟩
  | 87 => ⟨S2048x2048, .i32⟩
  | 88 => ⟨S2048x2048, .i32⟩
  | 89 => ⟨S2048x2048, .f32⟩
  | 90 => ⟨S_, .f32⟩
  | 91 => ⟨S2048x2048, .f32⟩
  | 92 => ⟨S2048x2048, .f32⟩
  | 93 => ⟨S2048x2048, .f32⟩
  | 94 => ⟨S_, .f32⟩
  | 95 => ⟨S2048x2048, .f32⟩
  | 96 => ⟨S2048x2048, .f32⟩
  | 97 => ⟨S_, .f32⟩
  | 98 => ⟨S2048x2048, .f32⟩
  | 99 => ⟨S2048x2048, .f32⟩
  | 100 => ⟨S2048x2048, .i32⟩
  | 101 => ⟨S_, .i32⟩
  | 102 => ⟨S2048x2048, .i32⟩
  | 103 => ⟨S2048x2048, .i32⟩
  | 104 => ⟨S_, .i32⟩
  | 105 => ⟨S2048x2048, .i32⟩
  | 106 => ⟨S2048x2048, .i32⟩
  | 107 => ⟨S_, .i32⟩
  | 108 => ⟨S2048x2048, .i32⟩
  | 109 => ⟨S2048x2048, .i1⟩
  | 110 => ⟨S2048x2048, .i32⟩
  | 111 => ⟨S_, .i32⟩
  | 112 => ⟨S2048x2048, .i32⟩
  | 113 => ⟨S2048x2048, .i1⟩
  | 114 => ⟨S_, .i32⟩
  | 115 => ⟨S2048x2048, .i32⟩
  | 116 => ⟨S2048x2048, .i32⟩
  | 117 => ⟨S2048x2048, .i32⟩
  | 118 => ⟨S2048x2048x1, .i32⟩
  | 119 => ⟨S8x2048x2048, .f32⟩
  | 120 => ⟨S1x8x2048x2048, .f32⟩
  | 121 => ⟨S4x8x2048x2048, .f32⟩
  | 122 => ⟨S4x8x2048x2048, .f32⟩
  | 123 => ⟨S_, .f32⟩
  | 124 => ⟨S_, .f32⟩
  | 125 => ⟨S4x8x2048x2048, .f32⟩
  | 126 => ⟨S4x8x2048x2048, .f32⟩
  | 127 => ⟨S_, .f32⟩
  | _ => ⟨S4x8x2048x128, .f32⟩

abbrev hbmTy0_1 (i : Nat) : BufTy := match i % 128 with
  | 0 => ⟨S4x8x2048, .f32⟩
  | 1 => ⟨S_, .f32⟩
  | 2 => ⟨S4x8x2048, .f32⟩
  | 3 => ⟨S4x8x2048, .f32⟩
  | 4 => ⟨S4x8x2048x1, .f32⟩
  | 5 => ⟨S4x8x2048x2048, .f32⟩
  | 6 => ⟨S4x8x2048x2048, .f32⟩
  | 7 => ⟨S4x8x2048x2048, .f32⟩
  | 8 => ⟨S_, .f32⟩
  | 9 => ⟨S4x8x2048, .f32⟩
  | 10 => ⟨S4x8x2048x1, .f32⟩
  | 11 => ⟨S4x8x2048x2048, .f32⟩
  | 12 => ⟨S4x8x2048x2048, .f32⟩
  | 13 => ⟨S4x8x2048x128, .f32⟩
  | 14 => ⟨S1024, .f32⟩
  | 15 => ⟨S4x8x2048x128, .f32⟩
  | 16 => ⟨S_, .f32⟩
  | 17 => ⟨S4x8x2048, .f32⟩
  | 18 => ⟨S4x8x2048x1, .f32⟩
  | 19 => ⟨S_, .f32⟩
  | 20 => ⟨S4x8x2048x1, .f32⟩
  | 21 => ⟨S4x8x2048x1, .f32⟩
  | 22 => ⟨S_, .f32⟩
  | 23 => ⟨S4x8x2048x1, .f32⟩
  | 24 => ⟨S4x8x2048x1, .f32⟩
  | 25 => ⟨S4x8x2048x1, .f32⟩
  | 26 => ⟨S4x8x2048x128, .f32⟩
  | 27 => ⟨S4x8x2048x128, .f32⟩
  | 28 => ⟨S4x2048x8x128, .f32⟩
  | 29 => ⟨S4x2048x1024, .f32⟩
  | 30 => ⟨S1x1x1024, .f32⟩
  | 31 => ⟨S4x2048x1024, .f32⟩
  | 32 => ⟨S4x2048x1024, .f32⟩
  | 33 => ⟨S4x2048x1024, .bf16⟩
  | 34 => ⟨S_, .f32⟩
  | 35 => ⟨S_, .f32⟩
  | 36 => ⟨S4x8x2048x2048, .f32⟩
  | 37 => ⟨S4x8x2048x2048, .f32⟩
  | 38 => ⟨S4x8x2048x2048, .f32⟩
  | 39 => ⟨S2048, .i32⟩
  | 40 => ⟨S1x2048, .i32⟩
  | 41 => ⟨S2048, .i32⟩
  | 42 => ⟨S2048x1, .i32⟩
  | 43 => ⟨S2048x2048, .i32⟩
  | 44 => ⟨S2048x2048, .i32⟩
  | 45 => ⟨S2048x2048, .i1⟩
  | 46 => ⟨S4x8x2048x2048, .f32⟩
  | 47 => ⟨S4x8x2048x2048, .f32⟩
  | 48 => ⟨S_, .f32⟩
  | 49 => ⟨S4x8x2048x2048, .f32⟩
  | 50 => ⟨S4x8x2048x2048, .f32⟩
  | 51 => ⟨S4x8x2048x2048, .f32⟩
  | 52 => ⟨S4x8x2048x2048, .f32⟩
  | 53 => ⟨S4x8x2048x2048, .i1⟩
  | 54 => ⟨S4x8x2048x2048, .f32⟩
  | 55 => ⟨S4x8x2048x2048, .f32⟩
  | 56 => ⟨S4x8x2048x2048, .f32⟩
  | 57 => ⟨S4x8x2048x2048, .f32⟩
  | 58 => ⟨S4x8x2048x2048, .f32⟩
  | 59 => ⟨S4x8x2048x2048, .f32⟩
  | 60 => ⟨S4x8x2048x2048, .f32⟩
  | 61 => ⟨S4x8x2048x2048, .f32⟩
  | 62 => ⟨S4x8x2048x2048, .f32⟩
  | 63 => ⟨S_, .f32⟩
  | 64 => ⟨S_, .f32⟩
  | 65 => ⟨S4x8x2048x2048, .i1⟩
  | 66 => ⟨S4x8x2048x2048, .f32⟩
  | 67 => ⟨S4x8x2048x2048, .f32⟩
  | 68 => ⟨S_, .f32⟩
  | 69 => ⟨S_, .f32⟩
  | 70 => ⟨S4x8x2048x2048, .f32⟩
  | 71 => ⟨S4x8x2048x1, .f32⟩
  | 72 => ⟨S4x8x2048x2048, .f32⟩
  | 73 => ⟨S4x8x2048x2048, .f32⟩
  | 74 => ⟨S4x8x2048x2048, .f32⟩
  | 75 => ⟨S_, .f32⟩
  | 76 => ⟨S4x8x2048x2048, .f32⟩
  | 77 => ⟨S4x8x2048x2048, .f32⟩
  | 78 => ⟨S4x8x2048x2048, .f32⟩
  | 79 => ⟨S4x8x2048x2048, .f32⟩
  | 80 => ⟨S4x8x2048x2048, .i1⟩
  | 81 => ⟨S4x8x2048x2048, .f32⟩
  | 82 => ⟨S4x8x2048x2048, .f32⟩
  | 83 => ⟨S4x8x2048x2048, .f32⟩
  | 84 => ⟨S4x8x2048x2048, .f32⟩
  | 85 => ⟨S4x8x2048x2048, .f32⟩
  | 86 => ⟨S4x8x2048x2048, .f32⟩
  | 87 => ⟨S4x8x2048x2048, .f32⟩
  | 88 => ⟨S4x8x2048x2048, .f32⟩
  | 89 => ⟨S4x8x2048x2048, .f32⟩
  | 90 => ⟨S4x8x2048x2048, .f32⟩
  | 91 => ⟨S4x8x2048x2048, .f32⟩
  | 92 => ⟨S_, .f32⟩
  | 93 => ⟨S_, .f32⟩
  | 94 => ⟨S4x8x2048x2048, .i1⟩
  | 95 => ⟨S4x8x2048x2048, .f32⟩
  | 96 => ⟨S4x8x2048x2048, .f32⟩
  | 97 => ⟨S4x8x2048x128, .f32⟩
  | 98 => ⟨S1024, .f32⟩
  | 99 => ⟨S4x8x2048x128, .f32⟩
  | 100 => ⟨S_, .f32⟩
  | 101 => ⟨S4x8x2048, .f32⟩
  | 102 => ⟨S4x8x2048x1, .f32⟩
  | 103 => ⟨S_, .f32⟩
  | 104 => ⟨S4x8x2048x1, .f32⟩
  | 105 => ⟨S4x8x2048x1, .f32⟩
  | 106 => ⟨S_, .f32⟩
  | 107 => ⟨S4x8x2048x1, .f32⟩
  | 108 => ⟨S4x8x2048x1, .f32⟩
  | 109 => ⟨S4x8x2048x1, .f32⟩
  | 110 => ⟨S4x8x2048x128, .f32⟩
  | 111 => ⟨S4x8x2048x128, .f32⟩
  | 112 => ⟨S4x2048x8x128, .f32⟩
  | 113 => ⟨S4x2048x1024, .f32⟩
  | 114 => ⟨S1x1x1024, .f32⟩
  | 115 => ⟨S4x2048x1024, .f32⟩
  | 116 => ⟨S4x2048x1024, .f32⟩
  | 117 => ⟨S4x2048x1024, .bf16⟩
  | _ => ⟨S4x8x2048x128, .f32⟩

abbrev hbmTy (i : Nat) : BufTy := match i / 128 with
  | 0 => hbmTy0_0 i
  | 1 => hbmTy0_1 i
  | _ => ⟨S4x8x2048x128, .f32⟩

abbrev bufTy : (tb : Table) → Fin (tcTables nBuf tb) → BufTy
  | .hbm, ⟨i, _⟩ => hbmTy i
  | _, _ => ⟨S4x8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_2 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v14 : Ref sig .tc := ⟨.hbm, 46, rfl⟩
abbrev main_values : Ref sig .tc := ⟨.hbm, 47, rfl⟩
abbrev main_indices : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_c_3 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_c_4 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_c_5 : Ref sig .tc := ⟨.hbm, 83, rfl⟩
abbrev main_v47 : Ref sig .tc := ⟨.hbm, 84, rfl⟩
abbrev main_v48 : Ref sig .tc := ⟨.hbm, 85, rfl⟩
abbrev main_c_6 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_cst_7 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_cst_8 : Ref sig .tc := ⟨.hbm, 94, rfl⟩
abbrev main_v55 : Ref sig .tc := ⟨.hbm, 95, rfl⟩
abbrev main_v56 : Ref sig .tc := ⟨.hbm, 96, rfl⟩
abbrev main_cst_9 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_c_10 : Ref sig .tc := ⟨.hbm, 101, rfl⟩
abbrev main_v60 : Ref sig .tc := ⟨.hbm, 102, rfl⟩
abbrev main_v61 : Ref sig .tc := ⟨.hbm, 103, rfl⟩
abbrev main_c_11 : Ref sig .tc := ⟨.hbm, 104, rfl⟩
abbrev main_v62 : Ref sig .tc := ⟨.hbm, 105, rfl⟩
abbrev main_v63 : Ref sig .tc := ⟨.hbm, 106, rfl⟩
abbrev main_c_12 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_c_13 : Ref sig .tc := ⟨.hbm, 111, rfl⟩
abbrev main_v67 : Ref sig .tc := ⟨.hbm, 112, rfl⟩
abbrev main_v68 : Ref sig .tc := ⟨.hbm, 113, rfl⟩
abbrev main_c_14 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_cst_15 : Ref sig .tc := ⟨.hbm, 123, rfl⟩
abbrev main_call3_v0 : Ref sig .tc := ⟨.hbm, 124, rfl⟩
abbrev main_call3_v1 : Ref sig .tc := ⟨.hbm, 125, rfl⟩
abbrev main_v77 : Ref sig .tc := ⟨.hbm, 126, rfl⟩
abbrev main_cst_16 : Ref sig .tc := ⟨.hbm, 127, rfl⟩
abbrev main_v78 : Ref sig .tc := ⟨.hbm, 128, rfl⟩
abbrev main_cst_17 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_cst_18 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_cst_19 : Ref sig .tc := ⟨.hbm, 144, rfl⟩
abbrev main_v92 : Ref sig .tc := ⟨.hbm, 145, rfl⟩
abbrev main_v93 : Ref sig .tc := ⟨.hbm, 146, rfl⟩
abbrev main_cst_20 : Ref sig .tc := ⟨.hbm, 147, rfl⟩
abbrev main_v94 : Ref sig .tc := ⟨.hbm, 148, rfl⟩
abbrev main_v95 : Ref sig .tc := ⟨.hbm, 149, rfl⟩
abbrev main_cst_21 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_cst_22 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_call4_v0 : Ref sig .tc := ⟨.hbm, 175, rfl⟩
abbrev main_call4_call0_cst : Ref sig .tc := ⟨.hbm, 176, rfl⟩
abbrev main_call4_call0_v0 : Ref sig .tc := ⟨.hbm, 177, rfl⟩
abbrev main_call4_call0_v1 : Ref sig .tc := ⟨.hbm, 178, rfl⟩
abbrev main_call4_call0_v2 : Ref sig .tc := ⟨.hbm, 179, rfl⟩
abbrev main_call4_call0_v3 : Ref sig .tc := ⟨.hbm, 180, rfl⟩
abbrev main_call4_call0_v4 : Ref sig .tc := ⟨.hbm, 181, rfl⟩
abbrev main_call4_call0_v5 : Ref sig .tc := ⟨.hbm, 182, rfl⟩
abbrev main_call4_call0_v6 : Ref sig .tc := ⟨.hbm, 183, rfl⟩
abbrev main_call4_call0_v7 : Ref sig .tc := ⟨.hbm, 184, rfl⟩
abbrev main_call4_call0_v8 : Ref sig .tc := ⟨.hbm, 185, rfl⟩
abbrev main_call4_call0_v9 : Ref sig .tc := ⟨.hbm, 186, rfl⟩
abbrev main_call4_call0_v10 : Ref sig .tc := ⟨.hbm, 187, rfl⟩
abbrev main_call4_call0_v11 : Ref sig .tc := ⟨.hbm, 188, rfl⟩
abbrev main_call4_v1 : Ref sig .tc := ⟨.hbm, 189, rfl⟩
abbrev main_v119 : Ref sig .tc := ⟨.hbm, 190, rfl⟩
abbrev main_cst_23 : Ref sig .tc := ⟨.hbm, 191, rfl⟩
abbrev main_call5_v0 : Ref sig .tc := ⟨.hbm, 192, rfl⟩
abbrev main_call5_v1 : Ref sig .tc := ⟨.hbm, 193, rfl⟩
abbrev main_call5_v2 : Ref sig .tc := ⟨.hbm, 194, rfl⟩
abbrev main_v120 : Ref sig .tc := ⟨.hbm, 195, rfl⟩
abbrev main_call6_call0_cst : Ref sig .tc := ⟨.hbm, 196, rfl⟩
abbrev main_call6_call0_v0 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_call7_v0 : Ref sig .tc := ⟨.hbm, 202, rfl⟩
abbrev main_call7_call0_cst : Ref sig .tc := ⟨.hbm, 203, rfl⟩
abbrev main_call7_call0_v0 : Ref sig .tc := ⟨.hbm, 204, rfl⟩
abbrev main_call7_call0_v1 : Ref sig .tc := ⟨.hbm, 205, rfl⟩
abbrev main_call7_call0_v2 : Ref sig .tc := ⟨.hbm, 206, rfl⟩
abbrev main_call7_call0_v3 : Ref sig .tc := ⟨.hbm, 207, rfl⟩
abbrev main_call7_call0_v4 : Ref sig .tc := ⟨.hbm, 208, rfl⟩
abbrev main_call7_call0_v5 : Ref sig .tc := ⟨.hbm, 209, rfl⟩
abbrev main_call7_call0_v6 : Ref sig .tc := ⟨.hbm, 210, rfl⟩
abbrev main_call7_call0_v7 : Ref sig .tc := ⟨.hbm, 211, rfl⟩
abbrev main_call7_call0_v8 : Ref sig .tc := ⟨.hbm, 212, rfl⟩
abbrev main_call7_call0_v9 : Ref sig .tc := ⟨.hbm, 213, rfl⟩
abbrev main_call7_call0_v10 : Ref sig .tc := ⟨.hbm, 214, rfl⟩
abbrev main_call7_call0_v11 : Ref sig .tc := ⟨.hbm, 215, rfl⟩
abbrev main_call7_v1 : Ref sig .tc := ⟨.hbm, 216, rfl⟩
abbrev main_v125 : Ref sig .tc := ⟨.hbm, 217, rfl⟩
abbrev main_v126 : Ref sig .tc := ⟨.hbm, 218, rfl⟩
abbrev main_v127 : Ref sig .tc := ⟨.hbm, 219, rfl⟩
abbrev main_cst_24 : Ref sig .tc := ⟨.hbm, 220, rfl⟩
abbrev main_call8_v0 : Ref sig .tc := ⟨.hbm, 221, rfl⟩
abbrev main_call8_v1 : Ref sig .tc := ⟨.hbm, 222, rfl⟩
abbrev main_call8_v2 : Ref sig .tc := ⟨.hbm, 223, rfl⟩
abbrev main_v128 : Ref sig .tc := ⟨.hbm, 224, rfl⟩
abbrev main_v129 : Ref sig .tc := ⟨.hbm, 225, rfl⟩
abbrev main_v130 : Ref sig .tc := ⟨.hbm, 226, rfl⟩
abbrev main_v131 : Ref sig .tc := ⟨.hbm, 227, rfl⟩
abbrev main_cst_25 : Ref sig .tc := ⟨.hbm, 228, rfl⟩
abbrev main_v132 : Ref sig .tc := ⟨.hbm, 229, rfl⟩
abbrev main_v133 : Ref sig .tc := ⟨.hbm, 230, rfl⟩
abbrev main_cst_26 : Ref sig .tc := ⟨.hbm, 231, rfl⟩
abbrev main_v134 : Ref sig .tc := ⟨.hbm, 232, rfl⟩
abbrev main_v135 : Ref sig .tc := ⟨.hbm, 233, rfl⟩
abbrev main_cst_27 : Ref sig .tc := ⟨.hbm, 234, rfl⟩
abbrev main_v136 : Ref sig .tc := ⟨.hbm, 235, rfl⟩
abbrev main_v137 : Ref sig .tc := ⟨.hbm, 236, rfl⟩
abbrev main_v138 : Ref sig .tc := ⟨.hbm, 237, rfl⟩
abbrev main_v139 : Ref sig .tc := ⟨.hbm, 238, rfl⟩
abbrev main_v140 : Ref sig .tc := ⟨.hbm, 239, rfl⟩
abbrev main_v141 : Ref sig .tc := ⟨.hbm, 240, rfl⟩
abbrev main_v142 : Ref sig .tc := ⟨.hbm, 241, rfl⟩
abbrev main_v143 : Ref sig .tc := ⟨.hbm, 242, rfl⟩
abbrev main_v144 : Ref sig .tc := ⟨.hbm, 243, rfl⟩
abbrev main_v145 : Ref sig .tc := ⟨.hbm, 244, rfl⟩
abbrev main_v146 : Ref sig .tc := ⟨.hbm, 245, rfl⟩

abbrev nD : Nat := 1
abbrev τ : Topo := Topo.v7x

variable {F : FTy → Type} [FloatOps F]
-- ==== Outproj.lean ====
abbrev S4x2048x2048 : Shape := ⟨3, ![4, 2048, 2048]⟩
abbrev S4x2048x1024 : Shape := ⟨3, ![4, 2048, 1024]⟩
abbrev S4x3x3x2048 : Shape := ⟨4, ![4, 3, 3, 2048]⟩
abbrev S3x2048 : Shape := ⟨2, ![3, 2048]⟩
abbrev S2048x2048 : Shape := ⟨2, ![2048, 2048]⟩
abbrev S4x9x2048 : Shape := ⟨3, ![4, 9, 2048]⟩
abbrev S3x1x2048 : Shape := ⟨3, ![3, 1, 2048]⟩
abbrev S8192x2048 : Shape := ⟨2, ![8192, 2048]⟩
abbrev S8192x1024 : Shape := ⟨2, ![8192, 1024]⟩
abbrev S1x1x2048 : Shape := ⟨3, ![1, 1, 2048]⟩
abbrev S1x2048 : Shape := ⟨2, ![1, 2048]⟩
abbrev S512x2048 : Shape := ⟨2, ![512, 2048]⟩
abbrev S512x1024 : Shape := ⟨2, ![512, 1024]⟩
abbrev S1x9x2048 : Shape := ⟨3, ![1, 9, 2048]⟩
abbrev S1024x2048 : Shape := ⟨2, ![1024, 2048]⟩
abbrev S8x2048 : Shape := ⟨2, ![8, 2048]⟩
abbrev S8 : Shape := ⟨1, ![8]⟩
abbrev S8x1 : Shape := ⟨2, ![8, 1]⟩

abbrev nBuf : Space → Nat
  | .hbm => 15
  | .vmem => 13
  | .smem => 0
  | _ => 0

abbrev bufTy : (tb : Table) → Fin (tcTables nBuf tb) → BufTy
  | .hbm, ⟨0, _⟩ => ⟨S4x2048x2048, .f32⟩
  | .hbm, ⟨1, _⟩ => ⟨S4x2048x1024, .bf16⟩
  | .hbm, ⟨2, _⟩ => ⟨S4x2048x1024, .bf16⟩
  | .hbm, ⟨3, _⟩ => ⟨S4x3x3x2048, .f32⟩
  | .hbm, ⟨4, _⟩ => ⟨S3x2048, .f32⟩
  | .hbm, ⟨5, _⟩ => ⟨S2048x2048, .f32⟩
  | .hbm, ⟨6, _⟩ => ⟨S4x9x2048, .f32⟩
  | .hbm, ⟨7, _⟩ => ⟨S3x1x2048, .f32⟩
  | .hbm, ⟨8, _⟩ => ⟨S8192x2048, .f32⟩
  | .hbm, ⟨9, _⟩ => ⟨S8192x1024, .bf16⟩
  | .hbm, ⟨10, _⟩ => ⟨S8192x1024, .bf16⟩
  | .hbm, ⟨11, _⟩ => ⟨S1x1x2048, .f32⟩
  | .hbm, ⟨12, _⟩ => ⟨S1x2048, .f32⟩
  | .hbm, ⟨13, _⟩ => ⟨S2048x2048, .bf16⟩
  | .hbm, ⟨14, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x9x2048, .f32⟩
  | .local _ .vmem, ⟨7, _⟩ => ⟨S1x9x2048, .f32⟩
  | .local _ .vmem, ⟨8, _⟩ => ⟨S1x2048, .f32⟩
  | .local _ .vmem, ⟨9, _⟩ => ⟨S1024x2048, .bf16⟩
  | .local _ .vmem, ⟨10, _⟩ => ⟨S1024x2048, .bf16⟩
  | .local _ .vmem, ⟨11, _⟩ => ⟨S512x2048, .f32⟩
  | .local _ .vmem, ⟨12, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x9x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutprojRefIdeal.lean ====
abbrev S4x2048x2048 : Shape := ⟨3, ![4, 2048, 2048]⟩
abbrev S4x2048x1024 : Shape := ⟨3, ![4, 2048, 1024]⟩
abbrev S4x3x3x2048 : Shape := ⟨4, ![4, 3, 3, 2048]⟩
abbrev S3x2048 : Shape := ⟨2, ![3, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x1x1x2048 : Shape := ⟨4, ![4, 1, 1, 2048]⟩
abbrev S4x1x2048 : Shape := ⟨3, ![4, 1, 2048]⟩
abbrev S8192x2048 : Shape := ⟨2, ![8192, 2048]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x1024, .bf16⟩
  | .hbm, ⟨2, _⟩ => ⟨S4x2048x1024, .bf16⟩
  | .hbm, ⟨3, _⟩ => ⟨S4x3x3x2048, .f32⟩
  | .hbm, ⟨4, _⟩ => ⟨S3x2048, .f32⟩
  | .hbm, ⟨5, _⟩ => ⟨S2048x2048, .f32⟩
  | .hbm, ⟨6, _⟩ => ⟨S4x2048x2048, .bf16⟩
  | .hbm, ⟨7, _⟩ => ⟨S4x2048x2048, .f32⟩
  | .hbm, ⟨8, _⟩ => ⟨S4x2048x2048, .f32⟩
  | .hbm, ⟨9, _⟩ => ⟨S1x2048, .f32⟩
  | .hbm, ⟨10, _⟩ => ⟨S2048, .f32⟩
  | .hbm, ⟨11, _⟩ => ⟨S4x2048x2048, .f32⟩
  | .hbm, ⟨12, _⟩ => ⟨S_, .f32⟩
  | .hbm, ⟨13, _⟩ => ⟨S4x2048, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x1, .f32⟩
  | .hbm, ⟨22, _⟩ => ⟨S4x2048x2048, .f32⟩
  | .hbm, ⟨23, _⟩ => ⟨S4x2048x2048, .f32⟩
  | .hbm, ⟨24, _⟩ => ⟨S1x1x2048, .f32⟩
  | .hbm, ⟨25, _⟩ => ⟨S4x2048x2048, .f32⟩
  | .hbm, ⟨26, _⟩ => ⟨S4x2048x2048, .f32⟩
  | .hbm, ⟨27, _⟩ => ⟨S4x1x1x2048, .f32⟩
  | .hbm, ⟨28, _⟩ => ⟨S4x2048, .f32⟩
  | .hbm, ⟨29, _⟩ => ⟨S4x1x2048, .f32⟩
  | .hbm, ⟨30, _⟩ => ⟨S_, .f32⟩
  | .hbm, ⟨31, _⟩ => ⟨S4x1x2048, .f32⟩
  | .hbm, ⟨32, _⟩ => ⟨S4x1x2048, .f32⟩
  | .hbm, ⟨33, _⟩ => ⟨S4x2048x2048, .f32⟩
  | .hbm, ⟨34, _⟩ => ⟨S4x2048x2048, .f32⟩
  | .hbm, ⟨35, _⟩ => ⟨S4x2048x2048, .f32⟩
  | .hbm, ⟨36, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Ffn.lean ====
abbrev S4x2048x2048 : Shape := ⟨3, ![4, 2048, 2048]⟩
abbrev S4x3x3x2048 : Shape := ⟨4, ![4, 3, 3, 2048]⟩
abbrev S3x2048 : Shape := ⟨2, ![3, 2048]⟩
abbrev S2048x5632 : Shape := ⟨2, ![2048, 5632]⟩
abbrev S5632x2048 : Shape := ⟨2, ![5632, 2048]⟩
abbrev S4x9x2048 : Shape := ⟨3, ![4, 9, 2048]⟩
abbrev S3x1x2048 : Shape := ⟨3, ![3, 1, 2048]⟩
abbrev S8192x2048 : Shape := ⟨2, ![8192, 2048]⟩
abbrev S1x1x2048 : Shape := ⟨3, ![1, 1, 2048]⟩
abbrev S1x2048 : Shape := ⟨2, ![1, 2048]⟩
abbrev S1024x2048 : Shape := ⟨2, ![1024, 2048]⟩
abbrev S1x9x2048 : Shape := ⟨3, ![1, 9, 2048]⟩
abbrev S2048x512 : Shape := ⟨2, ![2048, 512]⟩
abbrev S512x2048 : Shape := ⟨2, ![512, 2048]⟩
abbrev S16x2048 : Shape := ⟨2, ![16, 2048]⟩
abbrev S16 : Shape := ⟨1, ![16]⟩
abbrev S16x1 : Shape := ⟨2, ![16, 1]⟩
abbrev S1024x512 : Shape := ⟨2, ![1024, 512]⟩
abbrev S512x512 : Shape := ⟨2, ![512, 512]⟩
abbrev S8x2048 : Shape := ⟨2, ![8, 2048]⟩
abbrev S8 : Shape := ⟨1, ![8]⟩
abbrev S8x1 : Shape := ⟨2, ![8, 1]⟩

abbrev nBuf : Space → Nat
  | .hbm => 19
  | .vmem => 15
  | .smem => 0
  | _ => 0

abbrev bufTy : (tb : Table) → Fin (tcTables nBuf tb) → BufTy
  | .hbm, ⟨0, _⟩ => ⟨S4x2048x2048, .f32⟩
  | .hbm, ⟨1, _⟩ => ⟨S4x3x3x2048, .f32⟩
  | .hbm, ⟨2, _⟩ => ⟨S3x2048, .f32⟩
  | .hbm, ⟨3, _⟩ => ⟨S3x2048, .f32⟩
  | .hbm, ⟨4, _⟩ => ⟨S2048x5632, .f32⟩
  | .hbm, ⟨5, _⟩ => ⟨S2048x5632, .f32⟩
  | .hbm, ⟨6, _⟩ => ⟨S5632x2048, .f32⟩
  | .hbm, ⟨7, _⟩ => ⟨S4x9x2048, .f32⟩
  | .hbm, ⟨8, _⟩ => ⟨S3x1x2048, .f32⟩
  | .hbm, ⟨9, _⟩ => ⟨S3x1x2048, .f32⟩
  | .hbm, ⟨10, _⟩ => ⟨S2048x5632, .bf16⟩
  | .hbm, ⟨11, _⟩ => ⟨S2048x5632, .bf16⟩
  | .hbm, ⟨12, _⟩ => ⟨S5632x2048, .bf16⟩
  | .hbm, ⟨13, _⟩ => ⟨S8192x2048, .f32⟩
  | .hbm, ⟨14, _⟩ => ⟨S1x1x2048, .f32⟩
  | .hbm, ⟨15, _⟩ => ⟨S1x2048, .f32⟩
  | .hbm, ⟨16, _⟩ => ⟨S1x1x2048, .f32⟩
  | .hbm, ⟨17, _⟩ => ⟨S1x2048, .f32⟩
  | .hbm, ⟨18, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x9x2048, .f32⟩
  | .local _ .vmem, ⟨3, _⟩ => ⟨S1x9x2048, .f32⟩
  | .local _ .vmem, ⟨4, _⟩ => ⟨S1x2048, .f32⟩
  | .local _ .vmem, ⟨5, _⟩ => ⟨S1x2048, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S512x2048, .bf16⟩
  | .local _ .vmem, ⟨11, _⟩ => ⟨S512x2048, .bf16⟩
  | .local _ .vmem, ⟨12, _⟩ => ⟨S1024x2048, .f32⟩
  | .local _ .vmem, ⟨13, _⟩ => ⟨S1024x2048, .f32⟩
  | .local _ .vmem, ⟨14, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_40 : BitVec 32 := 0#32
  let c64_i32 : BitVec 32 := 64#32
  let v54 : BitVec 32 := Scalar.addi c0_i32_40 c64_i32
  let c1_i32 : BitVec 32 := 1#32
  ⟨c0_i32_40, v54, c1_i32⟩
def k0_mult1 (k0_t1 : Fin k0_t1_loop.trips) : BitVec 32 :=
  let c0_i32_40 : BitVec 32 := 0#32
  let c1_i32 : BitVec 32 := 1#32
  let arg11 : BitVec 32 := Scf.iv c0_i32_40 c1_i32 k0_t1
  let c16_i32 : BitVec 32 := 16#32
  let v55 : BitVec 32 := Scalar.muli arg11 c16_i32
  v55
def k0_off1 (k0_t1 : Fin k0_t1_loop.trips) : Fin 2 → Nat :=
  let c0_i32_40 : BitVec 32 := 0#32
  let c1_i32 : BitVec 32 := 1#32
  let arg11 : BitVec 32 := Scf.iv c0_i32_40 c1_i32 k0_t1
  let c16_i32 : BitVec 32 := 16#32
  let v55 : BitVec 32 := Scalar.muli arg11 c16_i32
  let v56 : BitVec 32 := v55
  let v57 : Index := Scalar.indexCast v56
  let c0_42 : Index := 0#32
  ![v57.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnRefIdeal.lean ====
abbrev S4x2048x2048 : Shape := ⟨3, ![4, 2048, 2048]⟩
abbrev S4x3x3x2048 : Shape := ⟨4, ![4, 3, 3, 2048]⟩
abbrev S3x2048 : Shape := ⟨2, ![3, 2048]⟩
abbrev S2048x5632 : Shape := ⟨2, ![2048, 5632]⟩
abbrev S5632x2048 : Shape := ⟨2, ![5632, 2048]⟩
abbrev S1x2048 : Shape := ⟨2, ![1, 2048]⟩
abbrev S2048 : Shape := ⟨1, ![2048]⟩
abbrev S4x1x1x2048 : Shape := ⟨4, ![4, 1, 1, 2048]⟩
abbrev S4x2048 : Shape := ⟨2, ![4, 2048]⟩
abbrev S_ : Shape := ⟨0, ![]⟩
abbrev S4x2048x1 : Shape := ⟨3, ![4, 2048, 1]⟩
abbrev S1x1x2048 : Shape := ⟨3, ![1, 1, 2048]⟩
abbrev S4x1x2048 : Shape := ⟨3, ![4, 1, 2048]⟩
abbrev S4x2048x5632 : Shape := ⟨3, ![4, 2048, 5632]⟩
abbrev S8192x2048 : Shape := ⟨2, ![8192, 2048]⟩

abbrev nBuf : Space → Nat
  | .hbm => 79
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x3x3x2048, .f32⟩
  | .hbm, ⟨2, _⟩ => ⟨S3x2048, .f32⟩
  | .hbm, ⟨3, _⟩ => ⟨S3x2048, .f32⟩
  | .hbm, ⟨4, _⟩ => ⟨S2048x5632, .f32⟩
  | .hbm, ⟨5, _⟩ => ⟨S2048x5632, .f32⟩
  | .hbm, ⟨6, _⟩ => ⟨S5632x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S2048, .f32⟩
  | .hbm, ⟨11, _⟩ => ⟨S4x1x1x2048, .f32⟩
  | .hbm, ⟨12, _⟩ => ⟨S4x2048, .f32⟩
  | .hbm, ⟨13, _⟩ => ⟨S4x1x1x2048, .f32⟩
  | .hbm, ⟨14, _⟩ => ⟨S4x2048, .f32⟩
  | .hbm, ⟨15, _⟩ => ⟨S4x1x1x2048, .f32⟩
  | .hbm, ⟨16, _⟩ => ⟨S4x2048, .f32⟩
  | .hbm, ⟨17, _⟩ => ⟨S4x2048x2048, .f32⟩
  | .hbm, ⟨18, _⟩ => ⟨S_, .f32⟩
  | .hbm, ⟨19, _⟩ => ⟨S4x2048, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S4x2048x1, .f32⟩
  | .hbm, ⟨28, _⟩ => ⟨S4x2048x2048, .f32⟩
  | .hbm, ⟨29, _⟩ => ⟨S4x2048x2048, .f32⟩
  | .hbm, ⟨30, _⟩ => ⟨S1x1x2048, .f32⟩
  | .hbm, ⟨31, _⟩ => ⟨S4x2048x2048, .f32⟩
  | .hbm, ⟨32, _⟩ => ⟨S4x2048x2048, .f32⟩
  | .hbm, ⟨33, _⟩ => ⟨S4x1x2048, .f32⟩
  | .hbm, ⟨34, _⟩ => ⟨S_, .f32⟩
  | .hbm, ⟨35, _⟩ => ⟨S4x1x2048, .f32⟩
  | .hbm, ⟨36, _⟩ => ⟨S4x1x2048, .f32⟩
  | .hbm, ⟨37, _⟩ => ⟨S4x2048x2048, .f32⟩
  | .hbm, ⟨38, _⟩ => ⟨S4x2048x2048, .f32⟩
  | .hbm, ⟨39, _⟩ => ⟨S4x1x2048, .f32⟩
  | .hbm, ⟨40, _⟩ => ⟨S4x2048x2048, .f32⟩
  | .hbm, ⟨41, _⟩ => ⟨S4x2048x2048, .f32⟩
  | .hbm, ⟨42, _⟩ => ⟨S4x2048x5632, .f32⟩
  | .hbm, ⟨43, _⟩ => ⟨S4x2048x5632, .f32⟩
  | .hbm, ⟨44, _⟩ => ⟨S4x2048x5632, .f32⟩
  | .hbm, ⟨45, _⟩ => ⟨S_, .f32⟩
  | .hbm, ⟨46, _⟩ => ⟨S4x2048x5632, .f32⟩
  | .hbm, ⟨47, _⟩ => ⟨S4x2048x5632, .f32⟩
  | .hbm, ⟨48, _⟩ => ⟨S_, .f32⟩
  | .hbm, ⟨49, _⟩ => ⟨S4x2048x5632, .f32⟩
  | .hbm, ⟨50, _⟩ => ⟨S4x2048x5632, .f32⟩
  | .hbm, ⟨51, _⟩ => ⟨S4x2048x5632, .f32⟩
  | .hbm, ⟨52, _⟩ => ⟨S4x2048x5632, .f32⟩
  | .hbm, ⟨53, _⟩ => ⟨S4x2048x5632, .f32⟩
  | .hbm, ⟨54, _⟩ => ⟨S4x2048x2048, .f32⟩
  | .hbm, ⟨55, _⟩ => ⟨S4x2048x2048, .f32⟩
  | .hbm, ⟨56, _⟩ => ⟨S_, .f32⟩
  | .hbm, ⟨57, _⟩ => ⟨S4x2048, .f32⟩
  | .hbm, ⟨58, _⟩ => ⟨S4x2048x1, .f32⟩
  | .hbm, ⟨59, _⟩ => ⟨S_, .f32⟩
  | .hbm, ⟨60, _⟩ => ⟨S4x2048x1, .f32⟩
  | .hbm, ⟨61, _⟩ => ⟨S4x2048x1, .f32⟩
  | .hbm, ⟨62, _⟩ => ⟨S_, .f32⟩
  | .hbm, ⟨63, _⟩ => ⟨S4x2048x1, .f32⟩
  | .hbm, ⟨64, _⟩ => ⟨S4x2048x1, .f32⟩
  | .hbm, ⟨65, _⟩ => ⟨S4x2048x1, .f32⟩
  | .hbm, ⟨66, _⟩ => ⟨S4x2048x2048, .f32⟩
  | .hbm, ⟨67, _⟩ => ⟨S4x2048x2048, .f32⟩
  | .hbm, ⟨68, _⟩ => ⟨S1x1x2048, .f32⟩
  | .hbm, ⟨69, _⟩ => ⟨S4x2048x2048, .f32⟩
  | .hbm, ⟨70, _⟩ => ⟨S4x2048x2048, .f32⟩
  | .hbm, ⟨71, _⟩ => ⟨S4x1x2048, .f32⟩
  | .hbm, ⟨72, _⟩ => ⟨S_, .f32⟩
  | .hbm, ⟨73, _⟩ => ⟨S4x1x2048, .f32⟩
  | .hbm, ⟨74, _⟩ => ⟨S4x1x2048, .f32⟩
  | .hbm, ⟨75, _⟩ => ⟨S4x2048x2048, .f32⟩
  | .hbm, ⟨76, _⟩ => ⟨S4x2048x2048, .f32⟩
  | .hbm, ⟨77, _⟩ => ⟨S4x2048x2048, .f32⟩
  | .hbm, ⟨78, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_3 : Ref sig .tc := ⟨.hbm, 56, rfl⟩
abbrev main_v37 : Ref sig .tc := ⟨.hbm, 57, rfl⟩
abbrev main_v38 : Ref sig .tc := ⟨.hbm, 58, rfl⟩
abbrev main_cst_4 : Ref sig .tc := ⟨.hbm, 59, rfl⟩
abbrev main_v39 : Ref sig .tc := ⟨.hbm, 60, rfl⟩
abbrev main_v40 : Ref sig .tc := ⟨.hbm, 61, rfl⟩
abbrev main_cst_5 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_6 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]
-- ==== Inproj.lean ====
abbrev S4x2048x2048 : Shape := ⟨3, ![4, 2048, 2048]⟩
abbrev S4x3x3x2048 : Shape := ⟨4, ![4, 3, 3, 2048]⟩
abbrev S3x2048 : Shape := ⟨2, ![3, 2048]⟩
abbrev S2048x6144 : Shape := ⟨2, ![2048, 6144]⟩
abbrev S4x9x2048 : Shape := ⟨3, ![4, 9, 2048]⟩
abbrev S3x1x2048 : Shape := ⟨3, ![3, 1, 2048]⟩
abbrev S8192x2048 : Shape := ⟨2, ![8192, 2048]⟩
abbrev S1x1x2048 : Shape := ⟨3, ![1, 1, 2048]⟩
abbrev S1x2048 : Shape := ⟨2, ![1, 2048]⟩
abbrev S4x48x2048x128 : Shape := ⟨4, ![4, 48, 2048, 128]⟩
abbrev S1024x2048 : Shape := ⟨2, ![1024, 2048]⟩
abbrev S1x9x2048 : Shape := ⟨3, ![1, 9, 2048]⟩
abbrev S2048x1024 : Shape := ⟨2, ![2048, 1024]⟩
abbrev S1x8x1024x128 : Shape := ⟨4, ![1, 8, 1024, 128]⟩
abbrev S16x2048 : Shape := ⟨2, ![16, 2048]⟩
abbrev S16 : Shape := ⟨1, ![16]⟩
abbrev S16x1 : Shape := ⟨2, ![16, 1]⟩
abbrev S1024x1024 : Shape := ⟨2, ![1024, 1024]⟩
abbrev S1024x128 : Shape := ⟨2, ![1024, 128]⟩
abbrev S1x1x1024x128 : Shape := ⟨4, ![1, 1, 1024, 128]⟩

abbrev nBuf : Space → Nat
  | .hbm => 11
  | .vmem => 10
  | .smem => 0
  | _ => 0

abbrev bufTy : (tb : Table) → Fin (tcTables nBuf tb) → BufTy
  | .hbm, ⟨0, _⟩ => ⟨S4x2048x2048, .f32⟩
  | .hbm, ⟨1, _⟩ => ⟨S4x3x3x2048, .f32⟩
  | .hbm, ⟨2, _⟩ => ⟨S3x2048, .f32⟩
  | .hbm, ⟨3, _⟩ => ⟨S2048x6144, .f32⟩
  | .hbm, ⟨4, _⟩ => ⟨S4x9x2048, .f32⟩
  | .hbm, ⟨5, _⟩ => ⟨S3x1x2048, .f32⟩
  | .hbm, ⟨6, _⟩ => ⟨S8192x2048, .f32⟩
  | .hbm, ⟨7, _⟩ => ⟨S1x1x2048, .f32⟩
  | .hbm, ⟨8, _⟩ => ⟨S1x2048, .f32⟩
  | .hbm, ⟨9, _⟩ => ⟨S2048x6144, .bf16⟩
  | .hbm, ⟨10, _⟩ => ⟨S4x48x2048x128, .bf16⟩
  | .local _ .vmem, ⟨0, _⟩ => ⟨S1024x2048, .f32⟩
  | .local _ .vmem, ⟨1, _⟩ => ⟨S1024x2048, .f32⟩
  | .local _ .vmem, ⟨2, _⟩ => ⟨S1x9x2048, .f32⟩
  | .local _ .vmem, ⟨3, _⟩ => ⟨S1x9x2048, .f32⟩
  | .local _ .vmem, ⟨4, _⟩ => ⟨S1x2048, .f32⟩
  | .local _ .vmem, ⟨5, _⟩ => ⟨S2048x1024, .bf16⟩
  | .local _ .vmem, ⟨6, _⟩ => ⟨S2048x1024, .bf16⟩
  | .local _ .vmem, ⟨7, _⟩ => ⟨S1x8x1024x128, .bf16⟩
  | .local _ .vmem, ⟨8, _⟩ => ⟨S1x8x1024x128, .bf16⟩
  | .local _ .vmem, ⟨9, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_38 : BitVec 32 := 0#32
  let c64_i32 : BitVec 32 := 64#32
  let v56 : BitVec 32 := Scalar.addi c0_i32_38 c64_i32
  let c1_i32 : BitVec 32 := 1#32
  ⟨c0_i32_38, v56, c1_i32⟩
def k0_mult1 (k0_t1 : Fin k0_t1_loop.trips) : BitVec 32 :=
  let c0_i32_38 : BitVec 32 := 0#32
  let c1_i32 : BitVec 32 := 1#32
  let arg8 : BitVec 32 := Scf.iv c0_i32_38 c1_i32 k0_t1
  let c16_i32 : BitVec 32 := 16#32
  let v57 : BitVec 32 := Scalar.muli arg8 c16_i32
  v57
def k0_off1 (k0_t1 : Fin k0_t1_loop.trips) : Fin 2 → Nat :=
  let c0_i32_38 : BitVec 32 := 0#32
  let c1_i32 : BitVec 32 := 1#32
  let arg8 : BitVec 32 := Scf.iv c0_i32_38 c1_i32 k0_t1
  let c16_i32 : BitVec 32 := 16#32
  let v57 : BitVec 32 := Scalar.muli arg8 c16_i32
  let v58 : BitVec 32 := v57
  let v59 : Index := Scalar.indexCast v58
  let c0_40 : Index := 0#32
  ![v59.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, v26.toNat, c0_i32_10.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x8x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InprojRefIdeal.lean ====
abbrev S4x2048x2048 : Shape := ⟨3, ![4, 2048, 2048]⟩
abbrev S4x3x3x2048 : Shape := ⟨4, ![4, 3, 3, 2048]⟩
abbrev S3x2048 : Shape := ⟨2, ![3, 2048]⟩
abbrev S2048x6144 : Shape := ⟨2, ![2048, 6144]⟩
abbrev S1x2048 : Shape := ⟨2, ![1, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x1x1x2048 : Shape := ⟨4, ![4, 1, 1, 2048]⟩
abbrev S4x1x2048 : Shape := ⟨3, ![4, 1, 2048]⟩
abbrev S4x2048x6144 : Shape := ⟨3, ![4, 2048, 6144]⟩
abbrev S4x2048x48x128 : Shape := ⟨4, ![4, 2048, 48, 128]⟩
abbrev S4x48x2048x128 : Shape := ⟨4, ![4, 48, 2048, 128]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x3x3x2048, .f32⟩
  | .hbm, ⟨2, _⟩ => ⟨S3x2048, .f32⟩
  | .hbm, ⟨3, _⟩ => ⟨S2048x6144, .f32⟩
  | .hbm, ⟨4, _⟩ => ⟨S1x2048, .f32⟩
  | .hbm, ⟨5, _⟩ => ⟨S2048, .f32⟩
  | .hbm, ⟨6, _⟩ => ⟨S4x2048x2048, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x2048, .f32⟩
  | .hbm, ⟨18, _⟩ => ⟨S4x2048x2048, .f32⟩
  | .hbm, ⟨19, _⟩ => ⟨S1x1x2048, .f32⟩
  | .hbm, ⟨20, _⟩ => ⟨S4x2048x2048, .f32⟩
  | .hbm, ⟨21, _⟩ => ⟨S4x2048x2048, .f32⟩
  | .hbm, ⟨22, _⟩ => ⟨S4x1x1x2048, .f32⟩
  | .hbm, ⟨23, _⟩ => ⟨S4x2048, .f32⟩
  | .hbm, ⟨24, _⟩ => ⟨S4x1x2048, .f32⟩
  | .hbm, ⟨25, _⟩ => ⟨S_, .f32⟩
  | .hbm, ⟨26, _⟩ => ⟨S4x1x2048, .f32⟩
  | .hbm, ⟨27, _⟩ => ⟨S4x1x2048, .f32⟩
  | .hbm, ⟨28, _⟩ => ⟨S4x2048x2048, .f32⟩
  | .hbm, ⟨29, _⟩ => ⟨S4x2048x2048, .f32⟩
  | .hbm, ⟨30, _⟩ => ⟨S4x1x1x2048, .f32⟩
  | .hbm, ⟨31, _⟩ => ⟨S4x2048, .f32⟩
  | .hbm, ⟨32, _⟩ => ⟨S4x1x2048, .f32⟩
  | .hbm, ⟨33, _⟩ => ⟨S4x2048x2048, .f32⟩
  | .hbm, ⟨34, _⟩ => ⟨S4x2048x2048, .f32⟩
  | .hbm, ⟨35, _⟩ => ⟨S4x2048x6144, .f32⟩
  | .hbm, ⟨36, _⟩ => ⟨S4x2048x48x128, .f32⟩
  | .hbm, ⟨37, _⟩ => ⟨S4x48x2048x128, .f32⟩
  | .hbm, ⟨38, _⟩ => ⟨S4x48x2048x128, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Proof.Attn.Kit.lean ====
module

public import proofs.«01_k».proof.Proof.Gen.AttnIdeal.Launch
public import proofs.«01_k».proof.Proof.Gen.AttnIdeal.Skeleton
public import proofs.«01_k».proof.Proof.Gen.AttnIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

/-!
The set-up of the attention's launch: the buffers as the region finds them, the windows' blocks, the argument arrays
at the end of a run, and the scratch buffers inside the region's invariant.
-/

noncomputable section

namespace Cert.Proof.Attn

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the host operations `hostOps0`, `hostOps0_1`, `hostOps0_2`, `hostOps0_3`, `hostOps0_4`, `hostOps0_5`, `hostOps0_6`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) (cfgs (F := F)) 0 (defs₀ (F := F)) 𝒱₀ m (main (F := F)) (V m) :=
  Pipeline.hmain_prefixes (cfgs (F := F)) 0 (defs₀ (F := F)) 𝒱₀ m main [hostOps0, hostOps0_1, hostOps0_2, hostOps0_3, hostOps0_4, hostOps0_5, hostOps0_6] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ (cfg0 (F := F)) c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ (cfg0 (F := F)) c) (hA : dat.A 5 = V m c (Pipeline.arrRef spec0 5))
    (hafter : ∀ t, dat.after 5 t = iblk m c 5 t) (t : Fin (cfg0 (F := F)).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ (cfg0 (F := F)) c) (hA : dat.A 6 = V m c (Pipeline.arrRef spec0 6))
    (hafter : ∀ t, dat.after 6 t = iblk m c 6 t) (t : Fin (cfg0 (F := F)).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ (cfg0 (F := F)) c) (hA : dat.A 7 = V m c (Pipeline.arrRef spec0 7))
    (hafter : ∀ t, dat.after 7 t = iblk m c 7 t) (t : Fin (cfg0 (F := F)).N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ (cfg0 (F := F)) c) (hA : dat.A 8 = V m c (Pipeline.arrRef spec0 8))
    (hafter : ∀ t, dat.after 8 t = iblk m c 8 t) (t : Fin (cfg0 (F := F)).N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ (cfg0 (F := F)) c) (hA : dat.A 9 = V m c (Pipeline.arrRef spec0 9))
    (hafter : ∀ t, dat.after 9 t = iblk m c 9 t) (t : Fin (cfg0 (F := F)).N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_AttnIdeal`, Defs.lean, at any `F`). -/
theorem frame_of (rdat : (c : Dev nD) → Pipeline.RDat τ (Elt F) Unit ℕ (UR sig nD τ) ℕ (cfgs (F := F) 0) c)
    (hA : ∀ c w, (rdat c).A w = V m c (Pipeline.arrRef spec0 w))
    (h : θ_run defs (onTc (τ := τ) (main (F := F))) (s₀ m ρ) (Pipeline.RDat.FramePost (cfgs (F := F) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (show ∀ w : Fin 12, Pipeline.arrRef spec0 w ≠ main_arg0 by decide))).trans (V_main_arg0 m c),
      ((h c).2 main_arg1 (Pipeline.mem_restRefs_of main_arg1 (by decide) (show ∀ w : Fin 12, Pipeline.arrRef spec0 w ≠ main_arg1 by decide))).trans (V_main_arg1 m c),
      ((h c).2 main_arg2 (Pipeline.mem_restRefs_of main_arg2 (by decide) (show ∀ w : Fin 12, Pipeline.arrRef spec0 w ≠ main_arg2 by decide))).trans (V_main_arg2 m c),
      ((h c).2 main_arg3 (Pipeline.mem_restRefs_of main_arg3 (by decide) (show ∀ w : Fin 12, Pipeline.arrRef spec0 w ≠ main_arg3 by decide))).trans (V_main_arg3 m c),
      ((h c).2 main_arg4 (Pipeline.mem_restRefs_of main_arg4 (by decide) (show ∀ w : Fin 12, Pipeline.arrRef spec0 w ≠ main_arg4 by decide))).trans (V_main_arg4 m c),
      ((h c).2 main_arg5 (Pipeline.mem_restRefs_of main_arg5 (by decide) (show ∀ w : Fin 12, Pipeline.arrRef spec0 w ≠ main_arg5 by decide))).trans (V_main_arg5 m c),
      ((h c).2 main_arg6 (Pipeline.mem_restRefs_of main_arg6 (by decide) (show ∀ w : Fin 12, Pipeline.arrRef spec0 w ≠ main_arg6 by decide))).trans (V_main_arg6 m c),
      ((h c).2 main_arg7 (Pipeline.mem_restRefs_of main_arg7 (by decide) (show ∀ w : Fin 12, Pipeline.arrRef spec0 w ≠ main_arg7 by decide))).trans (V_main_arg7 m c)⟩) h

/-! ## The kernel body on any staging memrefs: a subtype the run finds -/

/-- Each window's current staging memref at point `t`, spelled as the pipeline passes it (`bodyAt0`), and its wholeness. -/
abbrev ms0_0 (t : Fin (cfg0 (F := F)).N) : Memref sig .tc .smem S8x32 .f32 := win0_0.stage ((cfg0 (F := F)).slots t 0)
abbrev hs0_0 (t : Fin (cfg0 (F := F)).N) : (ms0_0 t).IsWhole := hstage0_0 (((cfg0 (F := F)).slots t 0).cast nbuf0_0)
abbrev ms0_1 (t : Fin (cfg0 (F := F)).N) : Memref sig .tc .vmem S1x1x2048x128 .bf16 := win0_1.stage ((cfg0 (F := F)).slots t 1)
abbrev hs0_1 (t : Fin (cfg0 (F := F)).N) : (ms0_1 t).IsWhole := hstage0_1 (((cfg0 (F := F)).slots t 1).cast nbuf0_1)
abbrev ms0_2 (t : Fin (cfg0 (F := F)).N) : Memref sig .tc .vmem S1x1x2048x128 .bf16 := win0_2.stage ((cfg0 (F := F)).slots t 2)
abbrev hs0_2 (t : Fin (cfg0 (F := F)).N) : (ms0_2 t).IsWhole := hstage0_2 (((cfg0 (F := F)).slots t 2).cast nbuf0_2)
abbrev ms0_3 (t : Fin (cfg0 (F := F)).N) : Memref sig .tc .vmem S1x1x2048x128 .bf16 := win0_3.stage ((cfg0 (F := F)).slots t 3)
abbrev hs0_3 (t : Fin (cfg0 (F := F)).N) : (ms0_3 t).IsWhole := hstage0_3 (((cfg0 (F := F)).slots t 3).cast nbuf0_3)
abbrev ms0_4 (t : Fin (cfg0 (F := F)).N) : Memref sig .tc .vmem S1x1x2048x128 .bf16 := win0_4.stage ((cfg0 (F := F)).slots t 4)
abbrev hs0_4 (t : Fin (cfg0 (F := F)).N) : (ms0_4 t).IsWhole := hstage0_4 (((cfg0 (F := F)).slots t 4).cast nbuf0_4)
abbrev ms0_5 (t : Fin (cfg0 (F := F)).N) : Memref sig .tc .vmem S1x1x2048x128 .bf16 := win0_5.stage ((cfg0 (F := F)).slots t 5)
abbrev hs0_5 (t : Fin (cfg0 (F := F)).N) : (ms0_5 t).IsWhole := hstage0_5 (((cfg0 (F := F)).slots t 5).cast nbuf0_5)
abbrev ms0_6 (t : Fin (cfg0 (F := F)).N) : Memref sig .tc .vmem S1x1x2048x128 .bf16 := win0_6.stage ((cfg0 (F := F)).slots t 6)
abbrev hs0_6 (t : Fin (cfg0 (F := F)).N) : (ms0_6 t).IsWhole := hstage0_6 (((cfg0 (F := F)).slots t 6).cast nbuf0_6)
abbrev ms0_7 (t : Fin (cfg0 (F := F)).N) : Memref sig .tc .vmem S1x2x256x256 .f32 := win0_7.stage ((cfg0 (F := F)).slots t 7)
abbrev hs0_7 (t : Fin (cfg0 (F := F)).N) : (ms0_7 t).IsWhole := hstage0_7 (((cfg0 (F := F)).slots t 7).cast nbuf0_7)
abbrev ms0_8 (t : Fin (cfg0 (F := F)).N) : Memref sig .tc .vmem S1x128 .f32 := win0_8.stage ((cfg0 (F := F)).slots t 8)
abbrev hs0_8 (t : Fin (cfg0 (F := F)).N) : (ms0_8 t).IsWhole := hstage0_8 (((cfg0 (F := F)).slots t 8).cast nbuf0_8)
abbrev ms0_9 (t : Fin (cfg0 (F := F)).N) : Memref sig .tc .vmem S1x128 .f32 := win0_9.stage ((cfg0 (F := F)).slots t 9)
abbrev hs0_9 (t : Fin (cfg0 (F := F)).N) : (ms0_9 t).IsWhole := hstage0_9 (((cfg0 (F := F)).slots t 9).cast nbuf0_9)
abbrev ms0_10 (t : Fin (cfg0 (F := F)).N) : Memref sig .tc .vmem S1x2048x128 .bf16 := win0_10.stage ((cfg0 (F := F)).slots t 10)
abbrev hs0_10 (t : Fin (cfg0 (F := F)).N) : (ms0_10 t).IsWhole := hstage0_10 (((cfg0 (F := F)).slots t 10).cast nbuf0_10)
abbrev ms0_11 (t : Fin (cfg0 (F := F)).N) : Memref sig .tc .vmem S1x2048x128 .bf16 := win0_11.stage ((cfg0 (F := F)).slots t 11)
abbrev hs0_11 (t : Fin (cfg0 (F := F)).N) : (ms0_11 t).IsWhole := hstage0_11 (((cfg0 (F := F)).slots t 11).cast nbuf0_11)
/-- The scratch operands: whole scoped buffers of the kernel's own, passed beside the windows. -/
abbrev scM0_0 : Memref sig .tc .vmem S2x256x2048 .f32 := Memref.whole cc0_scratch0
abbrev scM0_1 : Memref sig .tc .vmem S2x256x2048 .bf16 := Memref.whole cc0_scratch1
abbrev scM0_2 : Memref sig .tc .vmem S2048x256 .bf16 := Memref.whole cc0_scratch2
abbrev scM0_3 : Memref sig .tc .vmem S8x256x128 .f32 := Memref.whole cc0_scratch3
abbrev scM0_4 : Memref sig .tc .vmem S8x256x128 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Proof.Attn

end
-- ==== Proof.Attn.While.lean ====
module

public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import Idealize.ShloMosaic.Lib.Tactic
public import Idealize.ShloMosaic.Lib.Pipeline.FrameBody
public import Idealize.ShloMosaic.Lib.Ring
public import Idealize.ShloMosaic.Lib.WordCmp

@[expose] public section

noncomputable section

namespace Cert.Proof.Attn

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What an older-blocks loop carries: the next key block, whether a row still has stick left, the remaining
    logarithms, the sum so far. -/
abbrev St (F : FTy → Type) := BitVec 32 × BitVec 32 × FVec F S256x1 .f32 × FVec F S256x128 .f32

section
variable (c : Dev nD) (arg7 arg8 : Memref sig .tc .vmem S1x1x2048x128 .bf16) (x7 x8 : Vec F S1x1x2048x128 .bf16)

/-- The two buffers a loop reads, held at their contents. -/
def held : sProp 𝕄 :=
  iprop(owns (c : Thread nD τ) arg7 fullShare x7 ∗ owns (c : Thread nD τ) arg8 fullShare x8)

/-- A loop entered with key block `n - 1` next reads the two buffers and returns some state, whose next block is
    `n' - 1` for an `n'` no larger. -/
def spec (n : ℕ) : sWPT 𝕄 (St F) := do
  sWPT.consume (held c arg7 arg8 x7 x8)
  let r ← sWPT.arbitrary
  sWPT.assume (∃ n', n' ≤ n ∧ r.1 = BitVec.ofNat 32 n' - 1#32)
  sWPT.produce (held c arg7 arg8 x7 x8)
  pure r

theorem spec_apply (n : ℕ) (K : St F → sProp 𝕄) :
    spec c arg7 arg8 x7 x8 n K
      = iprop(held c arg7 arg8 x7 x8 ∗ ∀ r : St F, ⌜∃ n', n' ≤ n ∧ r.1 = BitVec.ofNat 32 n' - 1#32⌝ -∗ (held c arg7 arg8 x7 x8 -∗ K r)) := rfl
end

/-- The one-block loop's test on block `n - 1`: it fails at `n = 0`. -/
theorem cond1_neg (al : BitVec 32) : ¬ Scalar.andi (Scalar.cmpi .sge (BitVec.ofNat 32 0 - 1#32) 0#32) (Scalar.cmpi .sgt al 0#32) = 1#1 := by
  have : Scalar.cmpi .sge (BitVec.ofNat 32 0 - 1#32) 0#32 = 0#1 := by decide
  rw [this]; generalize Scalar.cmpi .sgt al 0#32 = b; revert b; decide

/-- The two-block loop's test on block `n - 1`: it fails below `n = 2`. -/
theorem cond2_neg (n : ℕ) (hn : n ≤ 1) (al : BitVec 32) :
    ¬ Scalar.andi (Scalar.cmpi .sge (BitVec.ofNat 32 n - 1#32) 1#32) (Scalar.cmpi .sgt al 0#32) = 1#1 := by
  have : Scalar.cmpi .sge (BitVec.ofNat 32 n - 1#32) 1#32 = 0#1 := by interval_cases n <;> decide
  rw [this]; generalize Scalar.cmpi .sgt al 0#32 = b; revert b; decide

/-- Block `n` lies inside the buffers. -/
theorem chk1_of (n : ℕ) (h : n + 1 ≤ 5) : k0_chk1 (BitVec.ofNat 32 (n + 1) - 1#32) := by
  have : n ≤ 4 := by omega
  interval_cases n <;> decide

/-- Blocks `n` and `n + 1` lie inside the buffers. -/
theorem chk2_of (n : ℕ) (h : n + 2 ≤ 5) : k0_chk2 (BitVec.ofNat 32 (n + 2) - 1#32) := by
  have : n ≤ 3 := by omega
  interval_cases n <;> decide

theorem pred_succ (n : ℕ) : Scalar.subi (BitVec.ofNat 32 (n + 1) - 1#32) 1#32 = BitVec.ofNat 32 n - 1#32 := by
  show (BitVec.ofNat 32 (n + 1) - 1#32) - 1#32 = BitVec.ofNat 32 n - 1#32
  rw [BitVec.ofNat_add]; exact congrArg (· - 1#32) (BitVec.add_sub_cancel _ _)

theorem pred_succ2 (n : ℕ) (h : n + 2 ≤ 5) : Scalar.subi (BitVec.ofNat 32 (n + 2) - 1#32) 2#32 = BitVec.ofNat 32 n - 1#32 := by
  have : n ≤ 3 := by omega
  interval_cases n <;> decide

/-- What a call of a loop entered at block `n - 1` must meet, at the variant `u`. -/
def Meets (c : Dev nD) (arg7 arg8 : Memref sig .tc .vmem S1x1x2048x128 .bf16) (x7 x8 : Vec F S1x1x2048x128 .bf16) (E : Set ℕ)
    (n u : ℕ) (p : BitVec 32 → BitVec 32 → FVec F S256x1 .f32 → FVec F S256x128 .f32 → Prog (TpuEff nD τ sig (Elt F) (Λ₀ F) .tc) (St F)) : Prop :=
  ∀ al rem acc K, spec c arg7 arg8 x7 x8 n K
      ⊢ wp frame (wpE (defs₀ (F := F)) Variants.nat (c : Thread nD τ) (some u)) E (p (BitVec.ofNat 32 n - 1#32) al rem acc) K

variable (c : Dev nD) (i : grid0.Coords) (arg7 : Memref sig .tc .vmem S1x1x2048x128 .bf16) (harg7 : arg7.IsWhole) (arg8 : Memref sig .tc .vmem S1x1x2048x128 .bf16) (harg8 : arg8.IsWhole)
  (x7 x8 : Vec F S1x1x2048x128 .bf16) (q : FVec F S256x128 .bf16) (after : FVec F S256x256 .bf16)

/-- The one-block loop's text, its call of itself a parameter. -/
def body1 (call : BitVec 32 → BitVec 32 → FVec F S256x1 .f32 → FVec F S256x128 .f32 → Prog (TpuEff nD τ sig (Elt F) (Λ₀ F) .tc) (St F))
    (j al : BitVec 32) (rem : FVec F S256x1 .f32) (acc : FVec F S256x128 .f32) : Prog (TpuEff nD τ sig (Elt F) (Λ₀ F) .tc) (St F) :=
  if Scalar.andi (Scalar.cmpi .sge j 0#32) (Scalar.cmpi .sgt al 0#32) = 1#1 then do
    let ⟨r, a, j', b⟩ ← k0_part72 i arg7 harg7 arg8 harg8 q after j al rem acc
    call j' (Scalar.extui b) r (k0_pay2 acc a)
  else pure (j, al, rem, acc)

/-- The two-block loop's text, its call of itself a parameter. -/
def body2 (call : BitVec 32 → BitVec 32 → FVec F S256x1 .f32 → FVec F S256x128 .f32 → Prog (TpuEff nD τ sig (Elt F) (Λ₀ F) .tc) (St F))
    (j al : BitVec 32) (rem : FVec F S256x1 .f32) (acc : FVec F S256x128 .f32) : Prog (TpuEff nD τ sig (Elt F) (Λ₀ F) .tc) (St F) :=
  if Scalar.andi (Scalar.cmpi .sge j 1#32) (Scalar.cmpi .sgt al 0#32) = 1#1 then do
    let ⟨v2618, v2636, v2639, v2641, v2647, v2650⟩ ← k0_part73 i arg7 harg7 arg8 harg8 q after j al rem acc
    call (Scalar.subi j 2#32) (Scalar.extui (Scalar.cmpf .ogt (k0_pay7 after rem v2639 v2647 v2650) (Named.named κ "spent" 0xC3160A50#32)))
      (k0_pay6 after rem v2639 v2647 v2650) (k0_pay8 after rem acc v2618 v2636 v2641 v2647 v2650)
  else pure (j, al, rem, acc)

set_option maxHeartbeats 4000000 in
/-- One entry of the one-block loop, its own call answered below. -/
theorem body1_meets (E : Set ℕ) (n : ℕ) (hn : n ≤ 5)
    (call : BitVec 32 → BitVec 32 → FVec F S256x1 .f32 → FVec F S256x128 .f32 → Prog (TpuEff nD τ sig (Elt F) (Λ₀ F) .tc) (St F))
    (ih : ∀ n', n' < n → Meets c arg7 arg8 x7 x8 E n' n call) :
    Meets c arg7 arg8 x7 x8 E n n (body1 i arg7 harg7 arg8 harg8 q after call) := by
  intro al rem acc K
  rw [spec_apply]
  unfold body1
  by_cases hc : Scalar.andi (Scalar.cmpi .sge (BitVec.ofNat 32 n - 1#32) 0#32) (Scalar.cmpi .sgt al 0#32) = 1#1
  · obtain _ | n := n
    · exact absurd hc (cond1_neg al)
    simp only [hc, ↓reduceIte]
    simp only [k0_part72_eq_skeleton]
    unfold held owns
    iintro ⟨⟨⟨%f0, %hf0, H0⟩, ⟨%f1, %hf1, H1⟩⟩, Hk⟩
    obtain rfl := harg7.eq_unread hf0; obtain rfl := harg8.eq_unread hf1
    sl_exec (disch := first | sl_exact (chk1_of n hn))
    unfold body1_meets.sl.v2645
    rw [pred_succ]
    iapply (ih n (Nat.lt_succ_self n) _ _ _ _)
    rw [spec_apply]; unfold held owns
    isplitl [H0 H1]
    · isplitl [H0]
      · iexists _; isplitr; · ipureintro; exact harg7.read_unread _
        iexact H0
      iexists _; isplitr; · ipureintro; exact harg8.read_unread _
      iexact H1
    iintro %r %hr H
    iapply Hk
    · ipureintro; obtain ⟨n', h1, h2⟩ := hr; exact ⟨n', by omega, h2⟩
    · iexact H
  · simp only [hc, ↓reduceIte, Prog.pure_eq_ret]
    iintro ⟨H, Hk⟩
    rw [wp_ret]; imodintro
    iapply Hk
    · ipureintro; exact ⟨n, le_rfl, rfl⟩
    · iexact H

set_option maxHeartbeats 4000000 in
/-- One entry of the two-block loop, its own call answered below. -/
theorem body2_meets (E : Set ℕ) (n : ℕ) (hn : n ≤ 5)
    (call : BitVec 32 → BitVec 32 → FVec F S256x1 .f32 → FVec F S256x128 .f32 → Prog (TpuEff nD τ sig (Elt F) (Λ₀ F) .tc) (St F))
    (ih : ∀ n', n' < n → Meets c arg7 arg8 x7 x8 E n' n call) :
    Meets c arg7 arg8 x7 x8 E n n (body2 i arg7 harg7 arg8 harg8 q after call) := by
  intro al rem acc K
  rw [spec_apply]
  unfold body2
  by_cases hc : Scalar.andi (Scalar.cmpi .sge (BitVec.ofNat 32 n - 1#32) 1#32) (Scalar.cmpi .sgt al 0#32) = 1#1
  · obtain _ | _ | n := n
    · exact absurd hc (cond2_neg 0 (by omega) al)
    · exact absurd hc (cond2_neg 1 (by omega) al)
    simp only [hc, ↓reduceIte]
    simp only [k0_part73_eq_skeleton]
    unfold held owns
    iintro ⟨⟨⟨%f0, %hf0, H0⟩, ⟨%f1, %hf1, H1⟩⟩, Hk⟩
    obtain rfl := harg7.eq_unread hf0; obtain rfl := harg8.eq_unread hf1
    sl_exec (disch := first | sl_exact (chk2_of n hn))
    rw [pred_succ2 n hn]
    iapply (ih n (by omega) _ _ _ _)
    rw [spec_apply]; unfold held owns
    isplitl [H0 H1]
    · isplitl [H0]
      · iexists _; isplitr; · ipureintro; exact harg7.read_unread _
        iexact H0
      iexists _; isplitr; · ipureintro; exact harg8.read_unread _
      iexact H1
    iintro %r %hr H
    iapply Hk
    · ipureintro; obtain ⟨n', h1, h2⟩ := hr; exact ⟨n', by omega, h2⟩
    · iexact H
  · simp only [hc, ↓reduceIte, Prog.pure_eq_ret]
    iintro ⟨H, Hk⟩
    rw [wp_ret]; imodintro
    iapply Hk
    · ipureintro; exact ⟨n, le_rfl, rfl⟩
    · iexact H

/-- A label whose row calls itself meets its specification at every block, by induction. -/
theorem label_meets (E : Set ℕ) (row call : BitVec 32 → BitVec 32 → FVec F S256x1 .f32 → FVec F S256x128 .f32 → Prog (TpuEff nD τ sig (Elt F) (Λ₀ F) .tc) (St F))
    (hrow : ∀ n, n ≤ 5 → (∀ n', n' < n → Meets c arg7 arg8 x7 x8 E n' n call) → Meets c arg7 arg8 x7 x8 E n n row)
    (hcall : ∀ n u, n < u → Meets c arg7 arg8 x7 x8 E n n row → Meets c arg7 arg8 x7 x8 E n u call) :
    ∀ n, n ≤ 5 → Meets c arg7 arg8 x7 x8 E n n row := by
  intro n
  induction n using Nat.strong_induction_on with
  | _ n ih => exact fun hn => hrow n hn fun n' h => hcall n' n h (ih n' h (by omega))

/-- A specification at a continuation that returns at once. -/
theorem spec_ret (E : Set ℕ) (n u : ℕ) (K : St F → sProp 𝕄) :
    spec c arg7 arg8 x7 x8 n K ⊢ spec c arg7 arg8 x7 x8 n (fun r => wp frame (wpE (defs₀ (F := F)) Variants.nat (c : Thread nD τ) (some u)) E (Prog.ret r) K) := by
  rw [spec_apply, spec_apply]
  iintro ⟨H, Hk⟩
  isplitl [H]; · iexact H
  iintro %r %hr H
  rw [wp_ret]; imodintro
  iapply Hk
  · ipureintro; exact hr
  · iexact H

theorem while1_meets (E : Set ℕ) (n : ℕ) (hn : n ≤ 5) : Meets c arg7 arg8 x7 x8 E n n
    (fun j al rem acc => defs₀ (F := F) .tc 1 ⟨i, arg7, harg7, arg8, harg8, q, after, j, al, rem, acc⟩) :=
  label_meets c arg7 arg8 x7 x8 E _ (fun j al rem acc => Prog.lift (.call (1 : (Λ₀ F).Label) ⟨i, arg7, harg7, arg8, harg8, q, after, j, al, rem, acc⟩))
    (fun n hn ih => body1_meets c i arg7 harg7 arg8 harg8 x7 x8 q after E n hn _ ih)
    (fun n u hu h al rem acc K => (spec_ret c arg7 arg8 x7 x8 E n u K).trans
      (wp_call_spec (ℓ := (1 : (Λ₀ F).Label)) (a := ⟨i, arg7, harg7, arg8, harg8, q, after, _, al, rem, acc⟩) (k := Prog.ret) (Q := K) (defs := defs₀ (F := F)) Variants.nat (c : Thread nD τ) (some u) E (spec c arg7 arg8 x7 x8 n) n
      (fun u' hu' => by cases hu'; exact hu) (h al rem acc))) n hn

theorem while2_meets (E : Set ℕ) (n : ℕ) (hn : n ≤ 5) : Meets c arg7 arg8 x7 x8 E n n
    (fun j al rem acc => defs₀ (F := F) .tc 2 ⟨i, arg7, harg7, arg8, harg8, q, after, j, al, rem, acc⟩) :=
  label_meets c arg7 arg8 x7 x8 E _ (fun j al rem acc => Prog.lift (.call (2 : (Λ₀ F).Label) ⟨i, arg7, harg7, arg8, harg8, q, after, j, al, rem, acc⟩))
    (fun n hn ih => body2_meets c i arg7 harg7 arg8 harg8 x7 x8 q after E n hn _ ih)
    (fun n u hu h al rem acc K => (spec_ret c arg7 arg8 x7 x8 E n u K).trans
      (wp_call_spec (ℓ := (2 : (Λ₀ F).Label)) (a := ⟨i, arg7, harg7, arg8, harg8, q, after, _, al, rem, acc⟩) (k := Prog.ret) (Q := K) (defs := defs₀ (F := F)) Variants.nat (c : Thread nD τ) (some u) E (spec c arg7 arg8 x7 x8 n) n
      (fun u' hu' => by cases hu'; exact hu) (h al rem acc))) n hn

theorem while3_meets (E : Set ℕ) (n : ℕ) (hn : n ≤ 5) : Meets c arg7 arg8 x7 x8 E n n
    (fun j al rem acc => defs₀ (F := F) .tc 3 ⟨i, arg7, harg7, arg8, harg8, q, after, j, al, rem, acc⟩) :=
  label_meets c arg7 arg8 x7 x8 E _ (fun j al rem acc => Prog.lift (.call (3 : (Λ₀ F).Label) ⟨i, arg7, harg7, arg8, harg8, q, after, j, al, rem, acc⟩))
    (fun n hn ih => body1_meets c i arg7 harg7 arg8 harg8 x7 x8 q after E n hn _ ih)
    (fun n u hu h al rem acc K => (spec_ret c arg7 arg8 x7 x8 E n u K).trans
      (wp_call_spec (ℓ := (3 : (Λ₀ F).Label)) (a := ⟨i, arg7, harg7, arg8, harg8, q, after, _, al, rem, acc⟩) (k := Prog.ret) (Q := K) (defs := defs₀ (F := F)) Variants.nat (c : Thread nD τ) (some u) E (spec c arg7 arg8 x7 x8 n) n
      (fun u' hu' => by cases hu'; exact hu) (h al rem acc))) n hn

theorem while4_meets (E : Set ℕ) (n : ℕ) (hn : n ≤ 5) : Meets c arg7 arg8 x7 x8 E n n
    (fun j al rem acc => defs₀ (F := F) .tc 4 ⟨i, arg7, harg7, arg8, harg8, q, after, j, al, rem, acc⟩) :=
  label_meets c arg7 arg8 x7 x8 E _ (fun j al rem acc => Prog.lift (.call (4 : (Λ₀ F).Label) ⟨i, arg7, harg7, arg8, harg8, q, after, j, al, rem, acc⟩))
    (fun n hn ih => body2_meets c i arg7 harg7 arg8 harg8 x7 x8 q after E n hn _ ih)
    (fun n u hu h al rem acc K => (spec_ret c arg7 arg8 x7 x8 E n u K).trans
      (wp_call_spec (ℓ := (4 : (Λ₀ F).Label)) (a := ⟨i, arg7, harg7, arg8, harg8, q, after, _, al, rem, acc⟩) (k := Prog.ret) (Q := K) (defs := defs₀ (F := F)) Variants.nat (c : Thread nD τ) (some u) E (spec c arg7 arg8 x7 x8 n) n
      (fun u' hu' => by cases hu'; exact hu) (h al rem acc))) n hn

theorem while5_meets (E : Set ℕ) (n : ℕ) (hn : n ≤ 5) : Meets c arg7 arg8 x7 x8 E n n
    (fun j al rem acc => defs₀ (F := F) .tc 5 ⟨i, arg7, harg7, arg8, harg8, q, after, j, al, rem, acc⟩) :=
  label_meets c arg7 arg8 x7 x8 E _ (fun j al rem acc => Prog.lift (.call (5 : (Λ₀ F).Label) ⟨i, arg7, harg7, arg8, harg8, q, after, j, al, rem, acc⟩))
    (fun n hn ih => body1_meets c i arg7 harg7 arg8 harg8 x7 x8 q after E n hn _ ih)
    (fun n u hu h al rem acc K => (spec_ret c arg7 arg8 x7 x8 E n u K).trans
      (wp_call_spec (ℓ := (5 : (Λ₀ F).Label)) (a := ⟨i, arg7, harg7, arg8, harg8, q, after, _, al, rem, acc⟩) (k := Prog.ret) (Q := K) (defs := defs₀ (F := F)) Variants.nat (c : Thread nD τ) (some u) E (spec c arg7 arg8 x7 x8 n) n
      (fun u' hu' => by cases hu'; exact hu) (h al rem acc))) n hn

theorem while6_meets (E : Set ℕ) (n : ℕ) (hn : n ≤ 5) : Meets c arg7 arg8 x7 x8 E n n
    (fun j al rem acc => defs₀ (F := F) .tc 6 ⟨i, arg7, harg7, arg8, harg8, q, after, j, al, rem, acc⟩) :=
  label_meets c arg7 arg8 x7 x8 E _ (fun j al rem acc => Prog.lift (.call (6 : (Λ₀ F).Label) ⟨i, arg7, harg7, arg8, harg8, q, after, j, al, rem, acc⟩))
    (fun n hn ih => body2_meets c i arg7 harg7 arg8 harg8 x7 x8 q after E n hn _ ih)
    (fun n u hu h al rem acc K => (spec_ret c arg7 arg8 x7 x8 E n u K).trans
      (wp_call_spec (ℓ := (6 : (Λ₀ F).Label)) (a := ⟨i, arg7, harg7, arg8, harg8, q, after, _, al, rem, acc⟩) (k := Prog.ret) (Q := K) (defs := defs₀ (F := F)) Variants.nat (c : Thread nD τ) (some u) E (spec c arg7 arg8 x7 x8 n) n
      (fun u' hu' => by cases hu'; exact hu) (h al rem acc))) n hn

theorem while7_meets (E : Set ℕ) (n : ℕ) (hn : n ≤ 5) : Meets c arg7 arg8 x7 x8 E n n
    (fun j al rem acc => defs₀ (F := F) .tc 7 ⟨i, arg7, harg7, arg8, harg8, q, after, j, al, rem, acc⟩) :=
  label_meets c arg7 arg8 x7 x8 E _ (fun j al rem acc => Prog.lift (.call (7 : (Λ₀ F).Label) ⟨i, arg7, harg7, arg8, harg8, q, after, j, al, rem, acc⟩))
    (fun n hn ih => body1_meets c i arg7 harg7 arg8 harg8 x7 x8 q after E n hn _ ih)
    (fun n u hu h al rem acc K => (spec_ret c arg7 arg8 x7 x8 E n u K).trans
      (wp_call_spec (ℓ := (7 : (Λ₀ F).Label)) (a := ⟨i, arg7, harg7, arg8, harg8, q, after, _, al, rem, acc⟩) (k := Prog.ret) (Q := K) (defs := defs₀ (F := F)) Variants.nat (c : Thread nD τ) (some u) E (spec c arg7 arg8 x7 x8 n) n
      (fun u' hu' => by cases hu'; exact hu) (h al rem acc))) n hn

theorem while8_meets (E : Set ℕ) (n : ℕ) (hn : n ≤ 5) : Meets c arg7 arg8 x7 x8 E n n
    (fun j al rem acc => defs₀ (F := F) .tc 8 ⟨i, arg7, harg7, arg8, harg8, q, after, j, al, rem, acc⟩) :=
  label_meets c arg7 arg8 x7 x8 E _ (fun j al rem acc => Prog.lift (.call (8 : (Λ₀ F).Label) ⟨i, arg7, harg7, arg8, harg8, q, after, j, al, rem, acc⟩))
    (fun n hn ih => body2_meets c i arg7 harg7 arg8 harg8 x7 x8 q after E n hn _ ih)
    (fun n u hu h al rem acc K => (spec_ret c arg7 arg8 x7 x8 E n u K).trans
      (wp_call_spec (ℓ := (8 : (Λ₀ F).Label)) (a := ⟨i, arg7, harg7, arg8, harg8, q, after, _, al, rem, acc⟩) (k := Prog.ret) (Q := K) (defs := defs₀ (F := F)) Variants.nat (c : Thread nD τ) (some u) E (spec c arg7 arg8 x7 x8 n) n
      (fun u' hu' => by cases hu'; exact hu) (h al rem acc))) n hn

theorem while9_meets (E : Set ℕ) (n : ℕ) (hn : n ≤ 5) : Meets c arg7 arg8 x7 x8 E n n
    (fun j al rem acc => defs₀ (F := F) .tc 9 ⟨i, arg7, harg7, arg8, harg8, q, after, j, al, rem, acc⟩) :=
  label_meets c arg7 arg8 x7 x8 E _ (fun j al rem acc => Prog.lift (.call (9 : (Λ₀ F).Label) ⟨i, arg7, harg7, arg8, harg8, q, after, j, al, rem, acc⟩))
    (fun n hn ih => body1_meets c i arg7 harg7 arg8 harg8 x7 x8 q after E n hn _ ih)
    (fun n u hu h al rem acc K => (spec_ret c arg7 arg8 x7 x8 E n u K).trans
      (wp_call_spec (ℓ := (9 : (Λ₀ F).Label)) (a := ⟨i, arg7, harg7, arg8, harg8, q, after, _, al, rem, acc⟩) (k := Prog.ret) (Q := K) (defs := defs₀ (F := F)) Variants.nat (c : Thread nD τ) (some u) E (spec c arg7 arg8 x7 x8 n) n
      (fun u' hu' => by cases hu'; exact hu) (h al rem acc))) n hn

/-- A call of loop 1 at next block `n - 1`, stepped by the loops' specification. -/
theorem while1_call (E : Set ℕ) (j : BitVec 32) (n : ℕ) (hj : j = BitVec.ofNat 32 n - 1#32) (hn : n ≤ 5) (al : BitVec 32)
    (rem : FVec F S256x1 .f32) (acc : FVec F S256x128 .f32) {α : Type} (k : St F → Prog (TpuEff nD τ sig (Elt F) (Λ₀ F) .tc) α) (K : α → sProp 𝕄) :
    spec c arg7 arg8 x7 x8 n (fun r => wp frame (wpE (defs₀ (F := F)) Variants.nat (c : Thread nD τ) none) E (k r) K)
      ⊢ wp frame (wpE (defs₀ (F := F)) Variants.nat (c : Thread nD τ) none) E
          (Prog.op (.call (1 : (Λ₀ F).Label) ⟨i, arg7, harg7, arg8, harg8, q, after, j, al, rem, acc⟩) k) K := by
  subst hj
  exact wp_call_spec (ℓ := (1 : (Λ₀ F).Label)) (a := ⟨i, arg7, harg7, arg8, harg8, q, after, _, al, rem, acc⟩) (k := k) (Q := K)
    (defs := defs₀ (F := F)) Variants.nat (c : Thread nD τ) none E (spec c arg7 arg8 x7 x8 n) n (fun u hu => by cases hu)
    (while1_meets c i arg7 harg7 arg8 harg8 x7 x8 q after E n hn al rem acc)

/-- A call of loop 2 at next block `n - 1`, stepped by the loops' specification. -/
theorem while2_call (E : Set ℕ) (j : BitVec 32) (n : ℕ) (hj : j = BitVec.ofNat 32 n - 1#32) (hn : n ≤ 5) (al : BitVec 32)
    (rem : FVec F S256x1 .f32) (acc : FVec F S256x128 .f32) {α : Type} (k : St F → Prog (TpuEff nD τ sig (Elt F) (Λ₀ F) .tc) α) (K : α → sProp 𝕄) :
    spec c arg7 arg8 x7 x8 n (fun r => wp frame (wpE (defs₀ (F := F)) Variants.nat (c : Thread nD τ) none) E (k r) K)
      ⊢ wp frame (wpE (defs₀ (F := F)) Variants.nat (c : Thread nD τ) none) E
          (Prog.op (.call (2 : (Λ₀ F).Label) ⟨i, arg7, harg7, arg8, harg8, q, after, j, al, rem, acc⟩) k) K := by
  subst hj
  exact wp_call_spec (ℓ := (2 : (Λ₀ F).Label)) (a := ⟨i, arg7, harg7, arg8, harg8, q, after, _, al, rem, acc⟩) (k := k) (Q := K)
    (defs := defs₀ (F := F)) Variants.nat (c : Thread nD τ) none E (spec c arg7 arg8 x7 x8 n) n (fun u hu => by cases hu)
    (while2_meets c i arg7 harg7 arg8 harg8 x7 x8 q after E n hn al rem acc)

/-- A call of loop 3 at next block `n - 1`, stepped by the loops' specification. -/
theorem while3_call (E : Set ℕ) (j : BitVec 32) (n : ℕ) (hj : j = BitVec.ofNat 32 n - 1#32) (hn : n ≤ 5) (al : BitVec 32)
    (rem : FVec F S256x1 .f32) (acc : FVec F S256x128 .f32) {α : Type} (k : St F → Prog (TpuEff nD τ sig (Elt F) (Λ₀ F) .tc) α) (K : α → sProp 𝕄) :
    spec c arg7 arg8 x7 x8 n (fun r => wp frame (wpE (defs₀ (F := F)) Variants.nat (c : Thread nD τ) none) E (k r) K)
      ⊢ wp frame (wpE (defs₀ (F := F)) Variants.nat (c : Thread nD τ) none) E
          (Prog.op (.call (3 : (Λ₀ F).Label) ⟨i, arg7, harg7, arg8, harg8, q, after, j, al, rem, acc⟩) k) K := by
  subst hj
  exact wp_call_spec (ℓ := (3 : (Λ₀ F).Label)) (a := ⟨i, arg7, harg7, arg8, harg8, q, after, _, al, rem, acc⟩) (k := k) (Q := K)
    (defs := defs₀ (F := F)) Variants.nat (c : Thread nD τ) none E (spec c arg7 arg8 x7 x8 n) n (fun u hu => by cases hu)
    (while3_meets c i arg7 harg7 arg8 harg8 x7 x8 q after E n hn al rem acc)

/-- A call of loop 4 at next block `n - 1`, stepped by the loops' specification. -/
theorem while4_call (E : Set ℕ) (j : BitVec 32) (n : ℕ) (hj : j = BitVec.ofNat 32 n - 1#32) (hn : n ≤ 5) (al : BitVec 32)
    (rem : FVec F S256x1 .f32) (acc : FVec F S256x128 .f32) {α : Type} (k : St F → Prog (TpuEff nD τ sig (Elt F) (Λ₀ F) .tc) α) (K : α → sProp 𝕄) :
    spec c arg7 arg8 x7 x8 n (fun r => wp frame (wpE (defs₀ (F := F)) Variants.nat (c : Thread nD τ) none) E (k r) K)
      ⊢ wp frame (wpE (defs₀ (F := F)) Variants.nat (c : Thread nD τ) none) E
          (Prog.op (.call (4 : (Λ₀ F).Label) ⟨i, arg7, harg7, arg8, harg8, q, after, j, al, rem, acc⟩) k) K := by
  subst hj
  exact wp_call_spec (ℓ := (4 : (Λ₀ F).Label)) (a := ⟨i, arg7, harg7, arg8, harg8, q, after, _, al, rem, acc⟩) (k := k) (Q := K)
    (defs := defs₀ (F := F)) Variants.nat (c : Thread nD τ) none E (spec c arg7 arg8 x7 x8 n) n (fun u hu => by cases hu)
    (while4_meets c i arg7 harg7 arg8 harg8 x7 x8 q after E n hn al rem acc)

/-- A call of loop 5 at next block `n - 1`, stepped by the loops' specification. -/
theorem while5_call (E : Set ℕ) (j : BitVec 32) (n : ℕ) (hj : j = BitVec.ofNat 32 n - 1#32) (hn : n ≤ 5) (al : BitVec 32)
    (rem : FVec F S256x1 .f32) (acc : FVec F S256x128 .f32) {α : Type} (k : St F → Prog (TpuEff nD τ sig (Elt F) (Λ₀ F) .tc) α) (K : α → sProp 𝕄) :
    spec c arg7 arg8 x7 x8 n (fun r => wp frame (wpE (defs₀ (F := F)) Variants.nat (c : Thread nD τ) none) E (k r) K)
      ⊢ wp frame (wpE (defs₀ (F := F)) Variants.nat (c : Thread nD τ) none) E
          (Prog.op (.call (5 : (Λ₀ F).Label) ⟨i, arg7, harg7, arg8, harg8, q, after, j, al, rem, acc⟩) k) K := by
  subst hj
  exact wp_call_spec (ℓ := (5 : (Λ₀ F).Label)) (a := ⟨i, arg7, harg7, arg8, harg8, q, after, _, al, rem, acc⟩) (k := k) (Q := K)
    (defs := defs₀ (F := F)) Variants.nat (c : Thread nD τ) none E (spec c arg7 arg8 x7 x8 n) n (fun u hu => by cases hu)
    (while5_meets c i arg7 harg7 arg8 harg8 x7 x8 q after E n hn al rem acc)

/-- A call of loop 6 at next block `n - 1`, stepped by the loops' specification. -/
theorem while6_call (E : Set ℕ) (j : BitVec 32) (n : ℕ) (hj : j = BitVec.ofNat 32 n - 1#32) (hn : n ≤ 5) (al : BitVec 32)
    (rem : FVec F S256x1 .f32) (acc : FVec F S256x128 .f32) {α : Type} (k : St F → Prog (TpuEff nD τ sig (Elt F) (Λ₀ F) .tc) α) (K : α → sProp 𝕄) :
    spec c arg7 arg8 x7 x8 n (fun r => wp frame (wpE (defs₀ (F := F)) Variants.nat (c : Thread nD τ) none) E (k r) K)
      ⊢ wp frame (wpE (defs₀ (F := F)) Variants.nat (c : Thread nD τ) none) E
          (Prog.op (.call (6 : (Λ₀ F).Label) ⟨i, arg7, harg7, arg8, harg8, q, after, j, al, rem, acc⟩) k) K := by
  subst hj
  exact wp_call_spec (ℓ := (6 : (Λ₀ F).Label)) (a := ⟨i, arg7, harg7, arg8, harg8, q, after, _, al, rem, acc⟩) (k := k) (Q := K)
    (defs := defs₀ (F := F)) Variants.nat (c : Thread nD τ) none E (spec c arg7 arg8 x7 x8 n) n (fun u hu => by cases hu)
    (while6_meets c i arg7 harg7 arg8 harg8 x7 x8 q after E n hn al rem acc)

/-- A call of loop 7 at next block `n - 1`, stepped by the loops' specification. -/
theorem while7_call (E : Set ℕ) (j : BitVec 32) (n : ℕ) (hj : j = BitVec.ofNat 32 n - 1#32) (hn : n ≤ 5) (al : BitVec 32)
    (rem : FVec F S256x1 .f32) (acc : FVec F S256x128 .f32) {α : Type} (k : St F → Prog (TpuEff nD τ sig (Elt F) (Λ₀ F) .tc) α) (K : α → sProp 𝕄) :
    spec c arg7 arg8 x7 x8 n (fun r => wp frame (wpE (defs₀ (F := F)) Variants.nat (c : Thread nD τ) none) E (k r) K)
      ⊢ wp frame (wpE (defs₀ (F := F)) Variants.nat (c : Thread nD τ) none) E
          (Prog.op (.call (7 : (Λ₀ F).Label) ⟨i, arg7, harg7, arg8, harg8, q, after, j, al, rem, acc⟩) k) K := by
  subst hj
  exact wp_call_spec (ℓ := (7 : (Λ₀ F).Label)) (a := ⟨i, arg7, harg7, arg8, harg8, q, after, _, al, rem, acc⟩) (k := k) (Q := K)
    (defs := defs₀ (F := F)) Variants.nat (c : Thread nD τ) none E (spec c arg7 arg8 x7 x8 n) n (fun u hu => by cases hu)
    (while7_meets c i arg7 harg7 arg8 harg8 x7 x8 q after E n hn al rem acc)

/-- A call of loop 8 at next block `n - 1`, stepped by the loops' specification. -/
theorem while8_call (E : Set ℕ) (j : BitVec 32) (n : ℕ) (hj : j = BitVec.ofNat 32 n - 1#32) (hn : n ≤ 5) (al : BitVec 32)
    (rem : FVec F S256x1 .f32) (acc : FVec F S256x128 .f32) {α : Type} (k : St F → Prog (TpuEff nD τ sig (Elt F) (Λ₀ F) .tc) α) (K : α → sProp 𝕄) :
    spec c arg7 arg8 x7 x8 n (fun r => wp frame (wpE (defs₀ (F := F)) Variants.nat (c : Thread nD τ) none) E (k r) K)
      ⊢ wp frame (wpE (defs₀ (F := F)) Variants.nat (c : Thread nD τ) none) E
          (Prog.op (.call (8 : (Λ₀ F).Label) ⟨i, arg7, harg7, arg8, harg8, q, after, j, al, rem, acc⟩) k) K := by
  subst hj
  exact wp_call_spec (ℓ := (8 : (Λ₀ F).Label)) (a := ⟨i, arg7, harg7, arg8, harg8, q, after, _, al, rem, acc⟩) (k := k) (Q := K)
    (defs := defs₀ (F := F)) Variants.nat (c : Thread nD τ) none E (spec c arg7 arg8 x7 x8 n) n (fun u hu => by cases hu)
    (while8_meets c i arg7 harg7 arg8 harg8 x7 x8 q after E n hn al rem acc)

/-- A call of loop 9 at next block `n - 1`, stepped by the loops' specification. -/
theorem while9_call (E : Set ℕ) (j : BitVec 32) (n : ℕ) (hj : j = BitVec.ofNat 32 n - 1#32) (hn : n ≤ 5) (al : BitVec 32)
    (rem : FVec F S256x1 .f32) (acc : FVec F S256x128 .f32) {α : Type} (k : St F → Prog (TpuEff nD τ sig (Elt F) (Λ₀ F) .tc) α) (K : α → sProp 𝕄) :
    spec c arg7 arg8 x7 x8 n (fun r => wp frame (wpE (defs₀ (F := F)) Variants.nat (c : Thread nD τ) none) E (k r) K)
      ⊢ wp frame (wpE (defs₀ (F := F)) Variants.nat (c : Thread nD τ) none) E
          (Prog.op (.call (9 : (Λ₀ F).Label) ⟨i, arg7, harg7, arg8, harg8, q, after, j, al, rem, acc⟩) k) K := by
  subst hj
  exact wp_call_spec (ℓ := (9 : (Λ₀ F).Label)) (a := ⟨i, arg7, harg7, arg8, harg8, q, after, _, al, rem, acc⟩) (k := k) (Q := K)
    (defs := defs₀ (F := F)) Variants.nat (c : Thread nD τ) none E (spec c arg7 arg8 x7 x8 n) n (fun u hu => by cases hu)
    (while9_meets c i arg7 harg7 arg8 harg8 x7 x8 q after E n hn al rem acc)

end Cert.Proof.Attn
-- ==== Proof.Attn.Body.lean ====
module

public import proofs.«01_k».proof.Proof.Attn.Kit
public import proofs.«01_k».proof.Proof.Attn.While

@[expose] public section

set_option maxRecDepth 16384

/-!
One run of the attention kernel's body: from whole staging and scratch buffers to the same buffers, the inputs' as
they were.
-/

noncomputable section

namespace Cert.Proof.Attn

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 8000000 in set_option sl_exec.squeezeSlice true in
/-- The body's triple: on whole staging memrefs — the inputs' at their contents,
    the FORGOTTEN outputs' (10, 11) at anything, handed back at some contents nothing names —
    the body runs to the continuation holding the inputs' as they were, the scratch at some contents: the printed functions are their skeletons (`Gen.*_eq_skeleton`),
    which `sl_exec` runs (Lib/Exec.lean). -/
theorem body_run (c : Dev nD) (i : grid0.Coords) (arg2 : Memref sig .tc .smem S8x32 .f32) (harg2 : arg2.IsWhole) (arg3 : Memref sig .tc .vmem S1x1x2048x128 .bf16) (harg3 : arg3.IsWhole) (arg4 : Memref sig .tc .vmem S1x1x2048x128 .bf16) (harg4 : arg4.IsWhole) (arg5 : Memref sig .tc .vmem S1x1x2048x128 .bf16) (harg5 : arg5.IsWhole) (arg6 : Memref sig .tc .vmem S1x1x2048x128 .bf16) (harg6 : arg6.IsWhole) (arg7 : Memref sig .tc .vmem S1x1x2048x128 .bf16) (harg7 : arg7.IsWhole) (arg8 : Memref sig .tc .vmem S1x1x2048x128 .bf16) (harg8 : arg8.IsWhole) (arg9 : Memref sig .tc .vmem S1x2x256x256 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x2048x128 .bf16) (harg12 : arg12.IsWhole) (arg13 : Memref sig .tc .vmem S1x2048x128 .bf16) (harg13 : arg13.IsWhole) (arg14 : Memref sig .tc .vmem S2x256x2048 .f32) (harg14 : arg14.IsWhole) (arg15 : Memref sig .tc .vmem S2x256x2048 .bf16) (harg15 : arg15.IsWhole) (arg16 : Memref sig .tc .vmem S2048x256 .bf16) (harg16 : arg16.IsWhole) (arg17 : Memref sig .tc .vmem S8x256x128 .f32) (harg17 : arg17.IsWhole) (arg18 : Memref sig .tc .vmem S8x256x128 .f32) (harg18 : arg18.IsWhole)
    (x0 : Vec F S8x32 .f32) (x1 : Vec F S1x1x2048x128 .bf16) (x2 : Vec F S1x1x2048x128 .bf16) (x3 : Vec F S1x1x2048x128 .bf16) (x4 : Vec F S1x1x2048x128 .bf16) (x5 : Vec F S1x1x2048x128 .bf16) (x6 : Vec F S1x1x2048x128 .bf16) (x7 : Vec F S1x2x256x256 .f32) (x8 : Vec F S1x128 .f32) (x9 : Vec F S1x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.nat c none) E (cc0__attn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
    intro E K
    simp only [cc0__attn_kernel_eq_skeleton]; unfold cc0__attn_kernel_skel
    simp only [k0_part71_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec
    iapply (while1_call c i arg7 harg7 arg8 harg8 x5 x6 _ _ E _ 1 (by decide) (by decide) _ _)
    rw [spec_apply]; unfold held owns
    isplitl [H5 H6]
    · isplitl [H5]
      · iexists _; isplitr; · ipureintro; exact harg7.read_unread _
        iexact H5
      iexists _; isplitr; · ipureintro; exact harg8.read_unread _
      iexact H6
    iintro %r %hr ⟨⟨%f5, %hf5, H5⟩, ⟨%f6, %hf6, H6⟩⟩
    obtain rfl := harg7.eq_unread hf5; obtain rfl := harg8.eq_unread hf6
    obtain ⟨j, al, rem, acc⟩ := r
    try dsimp only [Prog.bind]
    sl_exec
    iapply (while2_call c i arg7 harg7 arg8 harg8 x5 x6 _ _ E _ 2 (by decide) (by decide) _ _)
    rw [spec_apply]; unfold held owns
    isplitl [H5 H6]
    · isplitl [H5]
      · iexists _; isplitr; · ipureintro; exact harg7.read_unread _
        iexact H5
      iexists _; isplitr; · ipureintro; exact harg8.read_unread _
      iexact H6
    iintro %r %hr ⟨⟨%f5, %hf5, H5⟩, ⟨%f6, %hf6, H6⟩⟩
    obtain rfl := harg7.eq_unread hf5; obtain rfl := harg8.eq_unread hf6
    obtain ⟨j, al, rem, acc⟩ := r
    try dsimp only [Prog.bind]
    obtain ⟨n', hn', hj⟩ := hr
    iapply (while3_call c i arg7 harg7 arg8 harg8 x5 x6 _ _ E _ n' hj (by omega) _ _)
    rw [spec_apply]; unfold held owns
    isplitl [H5 H6]
    · isplitl [H5]
      · iexists _; isplitr; · ipureintro; exact harg7.read_unread _
        iexact H5
      iexists _; isplitr; · ipureintro; exact harg8.read_unread _
      iexact H6
    iintro %r %hr ⟨⟨%f5, %hf5, H5⟩, ⟨%f6, %hf6, H6⟩⟩
    obtain rfl := harg7.eq_unread hf5; obtain rfl := harg8.eq_unread hf6
    obtain ⟨j, al, rem, acc⟩ := r
    try dsimp only [Prog.bind]
    sl_exec
    iapply (while4_call c i arg7 harg7 arg8 harg8 x5 x6 _ _ E _ 3 (by decide) (by decide) _ _)
    rw [spec_apply]; unfold held owns
    isplitl [H5 H6]
    · isplitl [H5]
      · iexists _; isplitr; · ipureintro; exact harg7.read_unread _
        iexact H5
      iexists _; isplitr; · ipureintro; exact harg8.read_unread _
      iexact H6
    iintro %r %hr ⟨⟨%f5, %hf5, H5⟩, ⟨%f6, %hf6, H6⟩⟩
    obtain rfl := harg7.eq_unread hf5; obtain rfl := harg8.eq_unread hf6
    obtain ⟨j, al, rem, acc⟩ := r
    try dsimp only [Prog.bind]
    obtain ⟨n', hn', hj⟩ := hr
    iapply (while5_call c i arg7 harg7 arg8 harg8 x5 x6 _ _ E _ n' hj (by omega) _ _)
    rw [spec_apply]; unfold held owns
    isplitl [H5 H6]
    · isplitl [H5]
      · iexists _; isplitr; · ipureintro; exact harg7.read_unread _
        iexact H5
      iexists _; isplitr; · ipureintro; exact harg8.read_unread _
      iexact H6
    iintro %r %hr ⟨⟨%f5, %hf5, H5⟩, ⟨%f6, %hf6, H6⟩⟩
    obtain rfl := harg7.eq_unread hf5; obtain rfl := harg8.eq_unread hf6
    obtain ⟨j, al, rem, acc⟩ := r
    try dsimp only [Prog.bind]
    sl_exec
    iapply (while6_call c i arg7 harg7 arg8 harg8 x5 x6 _ _ E _ 4 (by decide) (by decide) _ _)
    rw [spec_apply]; unfold held owns
    isplitl [H5 H6]
    · isplitl [H5]
      · iexists _; isplitr; · ipureintro; exact harg7.read_unread _
        iexact H5
      iexists _; isplitr; · ipureintro; exact harg8.read_unread _
      iexact H6
    iintro %r %hr ⟨⟨%f5, %hf5, H5⟩, ⟨%f6, %hf6, H6⟩⟩
    obtain rfl := harg7.eq_unread hf5; obtain rfl := harg8.eq_unread hf6
    obtain ⟨j, al, rem, acc⟩ := r
    try dsimp only [Prog.bind]
    obtain ⟨n', hn', hj⟩ := hr
    iapply (while7_call c i arg7 harg7 arg8 harg8 x5 x6 _ _ E _ n' hj (by omega) _ _)
    rw [spec_apply]; unfold held owns
    isplitl [H5 H6]
    · isplitl [H5]
      · iexists _; isplitr; · ipureintro; exact harg7.read_unread _
        iexact H5
      iexists _; isplitr; · ipureintro; exact harg8.read_unread _
      iexact H6
    iintro %r %hr ⟨⟨%f5, %hf5, H5⟩, ⟨%f6, %hf6, H6⟩⟩
    obtain rfl := harg7.eq_unread hf5; obtain rfl := harg8.eq_unread hf6
    obtain ⟨j, al, rem, acc⟩ := r
    try dsimp only [Prog.bind]
    sl_exec
    iapply (while8_call c i arg7 harg7 arg8 harg8 x5 x6 _ _ E _ 5 (by decide) (by decide) _ _)
    rw [spec_apply]; unfold held owns
    isplitl [H5 H6]
    · isplitl [H5]
      · iexists _; isplitr; · ipureintro; exact harg7.read_unread _
        iexact H5
      iexists _; isplitr; · ipureintro; exact harg8.read_unread _
      iexact H6
    iintro %r %hr ⟨⟨%f5, %hf5, H5⟩, ⟨%f6, %hf6, H6⟩⟩
    obtain rfl := harg7.eq_unread hf5; obtain rfl := harg8.eq_unread hf6
    obtain ⟨j, al, rem, acc⟩ := r
    try dsimp only [Prog.bind]
    obtain ⟨n', hn', hj⟩ := hr
    iapply (while9_call c i arg7 harg7 arg8 harg8 x5 x6 _ _ E _ n' hj (by omega) _ _)
    rw [spec_apply]; unfold held owns
    isplitl [H5 H6]
    · isplitl [H5]
      · iexists _; isplitr; · ipureintro; exact harg7.read_unread _
        iexact H5
      iexists _; isplitr; · ipureintro; exact harg8.read_unread _
      iexact H6
    iintro %r %hr ⟨⟨%f5, %hf5, H5⟩, ⟨%f6, %hf6, H6⟩⟩
    obtain rfl := harg7.eq_unread hf5; obtain rfl := harg8.eq_unread hf6
    obtain ⟨j, al, rem, acc⟩ := r
    try dsimp only [Prog.bind]
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [H11]
    · iexists _, _; isplitr; swap; · iexact H11
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Proof.Attn

end
-- ==== Proof.Attn.Frame.lean ====
module

public import Idealize.ShloMosaic.Lib.Claim
public import proofs.«01_k».proof.Proof.Attn.Body

@[expose] public section

set_option maxRecDepth 16384

/-!
The frame of the attention kernel, at any values: every fair run ends, the argument arrays are as they were, and the
semaphores are at zero.
-/

noncomputable section

namespace Cert.Proof.Attn

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output windows this certificate FORGETS (10, 11): nothing reads what the kernel leaves in them, so nothing
    of it is named (Lib/Pipeline/Dat.lean `Dat.toRForget`). -/
def forgets0 : Fin 12 → Bool := fun w => w.val == 10 || w.val == 11

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0 (F := F)) ⟨10, h⟩ t
    | ⟨11, h⟩ => Pipeline.Dat.unnamed (cfg := cfg0 (F := F)) ⟨11, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin (cfg0 (F := F)).W) : (dats m 0 c).A w = V m c (Pipeline.arrRef spec0 w) := by
  dsimp only [dats]

/-- What the body leaves, window by window (the proof data's `match` reduced by `dsimp`). -/
theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t = iblk m c 4 t := by dsimp only [dats]; rfl
theorem after0_5 (c : Dev nD) (t : Fin (cfg0 (F := F)).N) : (dats m 0 c).after 5 t = iblk m c 5 t := by dsimp only [dats]; rfl
theorem after0_6 (c : Dev nD) (t : Fin (cfg0 (F := F)).N) : (dats m 0 c).after 6 t = iblk m c 6 t := by dsimp only [dats]; rfl
theorem after0_7 (c : Dev nD) (t : Fin (cfg0 (F := F)).N) : (dats m 0 c).after 7 t = iblk m c 7 t := by dsimp only [dats]; rfl
theorem after0_8 (c : Dev nD) (t : Fin (cfg0 (F := F)).N) : (dats m 0 c).after 8 t = iblk m c 8 t := by dsimp only [dats]; rfl
theorem after0_9 (c : Dev nD) (t : Fin (cfg0 (F := F)).N) : (dats m 0 c).after 9 t = iblk m c 9 t := by dsimp only [dats]; rfl

/-- Each input's current staging buffer holds its block at every point, fetched there or not (`beforeK_W_of`). -/
theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d
theorem before0_3 (c : Dev nD) (t : Fin (cfg0 (F := F)).N) (d) : (dats m 0 c).before 3 t d = iblk m c 3 t :=
  before0_3_of m (dats m 0 c) (A_eq m c 3) (after0_3 m c) t d
theorem before0_4 (c : Dev nD) (t : Fin (cfg0 (F := F)).N) (d) : (dats m 0 c).before 4 t d = iblk m c 4 t :=
  before0_4_of m (dats m 0 c) (A_eq m c 4) (after0_4 m c) t d
theorem before0_5 (c : Dev nD) (t : Fin (cfg0 (F := F)).N) (d) : (dats m 0 c).before 5 t d = iblk m c 5 t :=
  before0_5_of m (dats m 0 c) (A_eq m c 5) (after0_5 m c) t d
theorem before0_6 (c : Dev nD) (t : Fin (cfg0 (F := F)).N) (d) : (dats m 0 c).before 6 t d = iblk m c 6 t :=
  before0_6_of m (dats m 0 c) (A_eq m c 6) (after0_6 m c) t d
theorem before0_7 (c : Dev nD) (t : Fin (cfg0 (F := F)).N) (d) : (dats m 0 c).before 7 t d = iblk m c 7 t :=
  before0_7_of m (dats m 0 c) (A_eq m c 7) (after0_7 m c) t d
theorem before0_8 (c : Dev nD) (t : Fin (cfg0 (F := F)).N) (d) : (dats m 0 c).before 8 t d = iblk m c 8 t :=
  before0_8_of m (dats m 0 c) (A_eq m c 8) (after0_8 m c) t d
theorem before0_9 (c : Dev nD) (t : Fin (cfg0 (F := F)).N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare d))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ (∃ d, owns (c : Thread nD τ) (ms0_10 t) fullShare d)
    ∗ (∃ d, owns (c : Thread nD τ) (ms0_11 t) fullShare d))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((body_run c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt0` spells it. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.nat () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs (F := F) 0) (fun c => (dats m 0 c).toRForget forgets0) (V m)) r ∧ r.2.sem = fun _ => 0) :=
  Pipeline.θ_run_frame_forget_shared (Q' := _) (cfgs (F := F)) (dats m) (0 : Fin 1) launch₀0 (defs₀ (F := F)) Variants.nat forgets0 m ρ main
    (hbody := fun c => (body_obligation m c).loose) (hq := fun _ _ _ => rfl)
    (howed := fun _ _ => rfl) (V := V m) (hmain := hmain m Variants.nat) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 10, 11) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs (F := F) 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRForget forgets0) (A_eq m) (run_main m ρ)

/-- The frame: the run ends with every argument as it was and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Proof.Attn

end
-- ==== Proof.Attn.Claims.lean ====
/- The claims about the attention: the frames of its idealized kernel and of its reference. -/
module

public import proofs.«01_k».proof.Defs
public import proofs.«01_k».proof.Proof.Attn.Frame
public import proofs.«01_k».proof.Proof.Gen.AttnRefIdeal.Run
public import Idealize.ShloMosaic.Lib.Quiescent

@[expose] public section

noncomputable section

namespace Cert.Proof.Attn

open Idealize.ShloMosaic Idealize.SL.Sem

/-- The idealized attention kernel ends, its arguments as they were and its semaphores at zero. -/
theorem frame_ideal : Cert.quiescent_AttnIdeal (hAttnIdeal := Cert.AttnIdeal.Gen.facts) := fun m ρ _ => frame (F := Ideal) m ρ

/-- The attention's reference ends, its arguments as they were; it declares no semaphore, so none is left raised. -/
theorem frame_ref : Cert.quiescent_AttnRefIdeal (hAttnRefIdeal := Cert.AttnRefIdeal.Gen.facts) := fun m ρ _ =>
  (θ_run _ _ _).mono (fun r h => ⟨fun c => (h c).2.2, sem_eq_zero_of_no_sems rfl r.2⟩) (Cert.AttnRefIdeal.Value.run m ρ)

end Cert.Proof.Attn

end
-- ==== Proof.Rows.Chain.lean ====
/- A block of rows finished eight rows at a time.  The kernels here end a block by reading eight rows of a result, scaling
   each row by the reciprocal root of its mean square and by a row of coefficients, adding the rows of the residual, and
   storing the eight rows over themselves, from the first rows to the last.  This file says what such a list of stores
   leaves, once for every number of rows. -/
module

public import Idealize.ShloMosaic.Lib.Pipeline.Value
public import Idealize.ShloMosaic.Lib.Pipeline.FrameBody
public import Idealize.ShloMosaic.Lib.Pointwise

@[expose] public section

set_option maxRecDepth 16384

noncomputable section

namespace Cert.Proof.Rows

open Idealize.ShloMosaic

/-- Rows of 2048 entries. -/
abbrev SRows (n : Nat) : Shape := ⟨2, ![n, 2048]⟩

/-- A load from a whole buffer of known contents. -/
theorem readAt_unread {sig : RefSig} {κ : Kind} {sp : Space} {s : Shape} {e : EltTy} {m : Memref sig κ sp s e} (h : m.IsWhole)
    (x : s.Idx → Elt Ideal e) (B : LoadRect s) : View.readAt (Elt Ideal) m.view B (h.unread x) = fun j => x (B.idx j) :=
  funext fun j => by rw [View.readAt_apply, h.read_unread]

theorem red8 : (SRows 8).Reduces [1] (⟨1, ![8]⟩ : Shape) := by decide
theorem cast88 : (SRows 8).ShapeCasts (SRows 8) := by decide
theorem cast81 : (⟨1, ![8]⟩ : Shape).ShapeCasts (⟨2, ![8, 1]⟩ : Shape) := by decide
theorem bcCol : (⟨2, ![8, 1]⟩ : Shape).Broadcasts (SRows 8) := by decide
theorem bcRow : (SRows 1).Broadcasts (SRows 8) := by decide

/-- Eight rows finished: the residual's rows `xs` plus the rows `ys`, each scaled by the reciprocal root of its mean
    square (an epsilon added), times the coefficients. -/
def chunk (coef : FVec Ideal (SRows 1) .f32) (xs ys : FVec Ideal (SRows 8) .f32) : FVec Ideal (SRows 8) .f32 :=
  have x : FVec Ideal (SRows 8) .f32 := shapeCast (SRows 8) xs cast88
  have y : FVec Ideal (SRows 8) .f32 := shapeCast (SRows 8) ys cast88
  have s : FVec Ideal (⟨1, ![8]⟩ : Shape) .f32 :=
    multiReduction .add [1] (⟨1, ![8]⟩ : Shape) (mulf y y) 0x00000000#32 red8 (.inl rfl) rfl
  have d : FVec Ideal (⟨2, ![8, 1]⟩ : Shape) .f32 :=
    divf (shapeCast (⟨2, ![8, 1]⟩ : Shape) s cast81) (broadcast (⟨2, ![8, 1]⟩ : Shape) (Scalar.ofBits .f32 0x45000000#32))
  have e : FVec Ideal (⟨2, ![8, 1]⟩ : Shape) .f32 :=
    rsqrt (addf d (broadcast (⟨2, ![8, 1]⟩ : Shape) (Scalar.ofBits .f32 0x358637BD#32)))
  addf x (mulf (mulf y (broadcastTo (SRows 8) e bcCol)) (broadcastTo (SRows 8) coef bcRow))

/-- One finished entry: of the residual's entry `x`, the row `y`, the entry's column and coefficient. -/
def finish (x : EReal) (y : Fin 2048 → EReal) (d : Fin 2048) (coef : EReal) : EReal :=
  x + y d * Ideal.rsqrt (Ideal.div (∑ k : Fin 2048, y k * y k) (Ideal.ofBits .f32 0x45000000#32)
    + Ideal.ofBits .f32 0x358637BD#32) * coef

/-- A finished group of eight rows at an index. -/
theorem chunk_apply (coef : FVec Ideal (SRows 1) .f32) (xs ys : FVec Ideal (SRows 8) .f32) (r : Fin 8) (d : Fin 2048) :
    chunk coef xs ys (ix2 r d) = finish (xs (ix2 r d)) (fun k => ys (ix2 r k)) d (coef (ix2 0 d)) := by
  pointwise [chunk, finish]

theorem inb8 {n : Nat} (k : Nat) (h : 8 * k + 8 ≤ n) : ∀ a, (![8 * k, 0] : Fin 2 → Nat) a + (SRows 8).size a ≤ (SRows n).size a := by
  intro a
  fin_cases a
  · simpa using h
  · simp

/-- Eight rows of a block, from row `8 k`. -/
abbrev rows8 {n : Nat} (k : Nat) (h : 8 * k + 8 ≤ n) : Rect (SRows n) := Rect.unit ![8 * k, 0] (SRows 8).size (inb8 k h)

/-- The lists of stores that finish the first `8 k` rows of a block over a list `L₀`: the residual is read by `rd`,
    the rows are read back through a view. -/
inductive Chain {n : Nat} {sig : RefSig} {κ : Kind} {sp : Space} (v : View sig κ sp (SRows n) .f32)
    (rd : (B : LoadRect (SRows n)) → B.shape.Idx → Elt Ideal .f32) (coef : FVec Ideal (SRows 1) .f32)
    (L₀ : List (View.Piece (Elt Ideal) (SRows n) .f32)) : Nat → List (View.Piece (Elt Ideal) (SRows n) .f32) → Prop
  | zero : Chain v rd coef L₀ 0 L₀
  | succ (k : Nat) (L : List (View.Piece (Elt Ideal) (SRows n) .f32)) (h : 8 * k + 8 ≤ n) : Chain v rd coef L₀ k L →
      Chain v rd coef L₀ (k + 1)
        (⟨rows8 k h, chunk coef (rd (rows8 k h).toLoadRect) (v.readCov L (rows8 k h).toLoadRect)⟩ :: L)

/-- One store over the whole block leaves its payload. -/
theorem canon_whole {n : Nat} (h : ∀ a, (![0, 0] : Fin 2 → Nat) a + (SRows n).size a ≤ (SRows n).size a)
    (w : (SRows n).Idx → Elt Ideal .f32) (L : List (View.Piece (Elt Ideal) (SRows n) .f32)) (r : Fin n) (d : Fin 2048) :
    View.canon (⟨Rect.unit (s := SRows n) ![0, 0] (SRows n).size h, w⟩ :: L) (ix2 r d) = w (ix2 r d) := by
  have h0 : (ix2 r d : (SRows n).Idx) = (Rect.unit (s := SRows n) ![0, 0] (SRows n).size h).emb (ix2 r d) := by
    funext a
    fin_cases a <;> apply Fin.ext <;> simp [Rect.emb, Rect.unit]
  conv_lhs => rw [h0]
  exact View.canon_cons_emb (Rect.unit (s := SRows n) ![0, 0] (SRows n).size h) w L (ix2 r d)

theorem rows8_emb {n : Nat} (k : Nat) (h : 8 * k + 8 ≤ n) (r : Fin 8) (d : Fin 2048) :
    (rows8 k h).emb (ix2 r d) = ix2 (⟨8 * k + r.val, by omega⟩ : Fin n) d := by
  funext a
  fin_cases a <;> apply Fin.ext <;> simp [Rect.emb, Rect.unit, ix2]

theorem rows8_idx {n : Nat} (k : Nat) (h : 8 * k + 8 ≤ n) (r : Fin 8) (d : Fin 2048) :
    (rows8 k h).toLoadRect.idx (ix2 r d) = ix2 (⟨8 * k + r.val, by omega⟩ : Fin n) d := rows8_emb k h r d

theorem mem_rows8 {n : Nat} (k : Nat) (h : 8 * k + 8 ≤ n) (r : Fin n) (d : Fin 2048) (hm : (ix2 r d : (SRows n).Idx) ∈ (rows8 k h).set) :
    8 * k ≤ r.val ∧ r.val < 8 * k + 8 := by
  obtain ⟨x, hx⟩ := (rows8 k h).exists_idx_of_mem hm
  have e := congrArg (fun i => (i 0).val) hx
  have hr : (x 0).val < 8 := (x 0).isLt
  have e' : 8 * k + (x 0).val = r.val := by
    have h' := e
    simp [Rect.emb, Rect.unit] at h'
    exact h'
  omega

/-- Such a list stores every entry of the first `8 k` rows. -/
theorem Chain.covers {n : Nat} {sig : RefSig} {κ : Kind} {sp : Space} {v : View sig κ sp (SRows n) .f32}
    {rd : (B : LoadRect (SRows n)) → B.shape.Idx → Elt Ideal .f32} {coef : FVec Ideal (SRows 1) .f32}
    {L₀ L : List (View.Piece (Elt Ideal) (SRows n) .f32)} {k : Nat} (hL : Chain v rd coef L₀ k L) (r : Fin n) (d : Fin 2048) (hr : r.val < 8 * k) :
    ∃ p ∈ L, (ix2 r d : (SRows n).Idx) ∈ p.1.set := by
  induction hL with
  | zero => exact absurd hr (by omega)
  | succ k L h _ ih =>
    by_cases hm : r.val < 8 * k
    · obtain ⟨p, hp, hi⟩ := ih hm
      exact ⟨p, List.mem_cons_of_mem _ hp, hi⟩
    · refine ⟨_, List.mem_cons_self, ?_⟩
      have e := rows8_emb k h (⟨r.val - 8 * k, by omega⟩ : Fin 8) d
      rw [show (⟨8 * k + (r.val - 8 * k), by omega⟩ : Fin n) = r from Fin.ext (by simp; omega)] at e
      rw [← e]
      rw [← Rect.map_emb_univ]
      exact Finset.mem_map_of_mem _ (Finset.mem_univ _)

/-- What such a list leaves: the first `8 k` rows finished, the others as the list `L₀` leaves them. -/
theorem Chain.canon_eq {n : Nat} {sig : RefSig} {κ : Kind} {sp : Space} {v : View sig κ sp (SRows n) .f32}
    {rd : (B : LoadRect (SRows n)) → B.shape.Idx → Elt Ideal .f32} {coef : FVec Ideal (SRows 1) .f32}
    {L₀ L : List (View.Piece (Elt Ideal) (SRows n) .f32)} {k : Nat} {X : (SRows n).Idx → Elt Ideal .f32}
    (hrd : ∀ B j, rd B j = X (B.idx j)) (hL : Chain v rd coef L₀ k L) (r : Fin n) (d : Fin 2048) :
    View.canon L (ix2 r d) = if r.val < 8 * k then
        finish (X (ix2 r d)) (fun k => View.canon L₀ (ix2 r k)) d (coef (ix2 0 d)) else View.canon L₀ (ix2 r d) := by
  induction hL generalizing d with
  | zero => simp
  | succ k L h _ ih =>
    by_cases hm : 8 * k ≤ r.val ∧ r.val < 8 * k + 8
    · obtain ⟨q, hq⟩ : ∃ q : Fin 8, r = ⟨8 * k + q.val, by omega⟩ := ⟨⟨r.val - 8 * k, by omega⟩, Fin.ext (by simp; omega)⟩
      have hi : ∀ d, (ix2 r d : (SRows n).Idx) = (rows8 k h).emb (ix2 q d) := fun d => by rw [rows8_emb, hq]
      have hx : ∀ d, (rows8 k h).toLoadRect.idx (ix2 q d) = (ix2 r d : (SRows n).Idx) := fun d => by rw [rows8_idx, hq]
      rw [if_pos (by omega), hi d, View.canon_cons_emb]
      refine (chunk_apply coef _ _ q d).trans ?_
      have hy : ∀ d, v.readCov L (rows8 k h).toLoadRect (ix2 q d) = View.canon L₀ (ix2 r d) := fun d => by
        rw [View.readCov_eq_canon']
        show View.canon L ((rows8 k h).toLoadRect.idx (ix2 q d)) = _
        rw [hx, ih, if_neg (by omega)]
      rw [hrd, hx]
      simp only [hy, hi d]
    · have hn : (ix2 r d : (SRows n).Idx) ∉ (rows8 k h).set := fun h' => hm (mem_rows8 k h r d h')
      rw [View.canon_cons_of_not_mem ⟨rows8 k h, _⟩ L hn, ih]
      exact if_congr (by omega) rfl rfl

end Cert.Proof.Rows

end
-- ==== Proof.Out.Block.lean ====
/- One block of the output projection: the product of the two halves of the attention's output with the two halves of the
   weights, then eight rows at a time the scaled rows added to the residual. -/
module

public import proofs.«01_k».proof.Proof.Gen.OutprojIdeal.Value
public import proofs.«01_k».proof.Proof.Rows.Chain

@[expose] public section

set_option maxRecDepth 16384

noncomputable section

namespace Cert.Proof.Out

open Cert.OutprojIdeal Cert.OutprojIdeal.Gen Idealize.ShloMosaic Cert.Proof.Rows

variable (c : Dev nD) (i : grid0.Coords) (arg1 : Memref sig .tc .vmem S512x2048 .f32) (harg1 : arg1.IsWhole)
  (arg2 : Memref sig .tc .vmem S512x1024 .bf16) (harg2 : arg2.IsWhole) (arg3 : Memref sig .tc .vmem S512x1024 .bf16) (harg3 : arg3.IsWhole)
  (arg4 : Memref sig .tc .vmem S1x9x2048 .f32) (harg4 : arg4.IsWhole) (arg5 : Memref sig .tc .vmem S1x2048 .f32) (harg5 : arg5.IsWhole)
  (arg6 : Memref sig .tc .vmem S1024x2048 .bf16) (harg6 : arg6.IsWhole) (arg7 : Memref sig .tc .vmem S1024x2048 .bf16) (harg7 : arg7.IsWhole)
  (arg8 : Memref sig .tc .vmem S512x2048 .f32) (harg8 : arg8.IsWhole)
  (x0 : Vec Ideal S512x2048 .f32) (x1 : Vec Ideal S512x1024 .bf16) (x2 : Vec Ideal S512x1024 .bf16) (x3 : Vec Ideal S1x9x2048 .f32)
  (x4 : Vec Ideal S1x2048 .f32) (x5 : Vec Ideal S1024x2048 .bf16) (x6 : Vec Ideal S1024x2048 .bf16)

/-- The row of coefficients, as the body reads it. -/
abbrev coefAt : FVec Ideal S1x2048 .f32 :=
  k0_pay2
    (View.readAt (Elt Ideal) arg4.view (Rect.unit (s := S1x9x2048) ![0, 5, 0] S1x1x2048.size inb_S1x9x2048_S1x1x2048_0_5_0).toLoadRect (harg4.unread x3))
    (View.readAt (Elt Ideal) arg5.view (Rect.unit (s := S1x2048) ![0, 0] S1x2048.size inb_S1x2048_S1x2048_0_0).toLoadRect (harg5.unread x4))

/-- The block's product, as the body stores it first. -/
abbrev prodAt : FVec Ideal S512x2048 .f32 :=
  k0_pay1
    (View.readAt (Elt Ideal) arg2.view (Rect.unit (s := S512x1024) ![0, 0] S512x1024.size inb_S512x1024_S512x1024_0_0).toLoadRect (harg2.unread x1))
    (View.readAt (Elt Ideal) arg6.view (Rect.unit (s := S1024x2048) ![0, 0] S1024x2048.size inb_S1024x2048_S1024x2048_0_0).toLoadRect (harg6.unread x5))
    (View.readAt (Elt Ideal) arg3.view (Rect.unit (s := S512x1024) ![0, 0] S512x1024.size inb_S512x1024_S512x1024_0_0).toLoadRect (harg3.unread x2))
    (View.readAt (Elt Ideal) arg7.view (Rect.unit (s := S1024x2048) ![0, 0] S1024x2048.size inb_S1024x2048_S1024x2048_0_0).toLoadRect (harg7.unread x6))

set_option maxHeartbeats 4000000 in
/-- The body's stores are the product's, then the sixty-four groups of eight rows finished over it. -/
theorem chain : Chain arg8.view (fun B => View.readAt (Elt Ideal) arg1.view B (harg1.unread x0))
    (coefAt arg4 harg4 arg5 harg5 x3 x4)
    [⟨Rect.unit (s := S512x2048) ![0, 0] S512x2048.size inb_S512x2048_S512x2048_0_0, prodAt arg2 harg2 arg3 harg3 arg6 harg6 arg7 harg7 x1 x2 x5 x6⟩] 64
    (kernelRun0_A c i arg1 harg1 arg2 harg2 arg3 harg3 arg4 harg4 arg5 harg5 arg6 harg6 arg7 harg7 arg8 harg8 x0 x1 x2 x3 x4 x5 x6).1 := by
  iterate 64 refine Chain.succ _ _ (by omega) ?_
  exact Chain.zero

/-- The row of coefficients at a column: the gate's row of the modulation times the gain. -/
theorem coefAt_apply (d : Fin 2048) :
    coefAt arg4 harg4 arg5 harg5 x3 x4 (ix2 0 d) = Ideal.ofBits .f32 0x3F800000#32 * x3 (ix3 0 5 d) * x4 (ix2 0 d) := by
  unfold coefAt
  simp only [readAt_unread]
  pointwise [k0_pay2]

/-- The block's product at an index: the sum over each half. -/
theorem prodAt_apply (r : Fin 512) (d : Fin 2048) :
    prodAt arg2 harg2 arg3 harg3 arg6 harg6 arg7 harg7 x1 x2 x5 x6 (ix2 r d)
      = (∑ k : Fin 1024, x1 (ix2 r k) * x5 (ix2 k d)) + ∑ k : Fin 1024, x2 (ix2 r k) * x6 (ix2 k d) := by
  unfold prodAt
  simp only [readAt_unread]
  pointwise [k0_pay1]

/-- What the body leaves in its block, at an index. -/
theorem out_apply (r : Fin 512) (d : Fin 2048) :
    out0_A_7 c i arg1 harg1 arg2 harg2 arg3 harg3 arg4 harg4 arg5 harg5 arg6 harg6 arg7 harg7 arg8 harg8 x0 x1 x2 x3 x4 x5 x6 (ix2 r d)
      = finish (x0 (ix2 r d))
          (fun e => (∑ k : Fin 1024, x1 (ix2 r k) * x5 (ix2 k e)) + ∑ k : Fin 1024, x2 (ix2 r k) * x6 (ix2 k e)) d
          (Ideal.ofBits .f32 0x3F800000#32 * x3 (ix3 0 5 d) * x4 (ix2 0 d)) := by
  unfold out0_A_7
  rw [View.read_writes_junk_eq_canon]
  rw [(chain c i arg1 harg1 arg2 harg2 arg3 harg3 arg4 harg4 arg5 harg5 arg6 harg6 arg7 harg7 arg8 harg8 x0 x1 x2 x3 x4 x5 x6).canon_eq
    (X := x0) (fun B j => ?_) r d, if_pos (by omega), coefAt_apply]
  · refine congrArg (fun y => finish _ y d _) (funext fun e => ?_)
    rw [canon_whole]
    exact prodAt_apply arg2 harg2 arg3 harg3 arg6 harg6 arg7 harg7 x1 x2 x5 x6 r e
  · show View.readAt (Elt Ideal) arg1.view B (harg1.unread x0) j = _
    rw [readAt_unread]

end Cert.Proof.Out

end
-- ==== Proof.Out.Run.lean ====
/- The output projection's run: its result array as one function of its arguments. -/
module

public import proofs.«01_k».proof.Proof.Out.Block
public import Idealize.ShloMosaic.Lib.Claim

@[expose] public section

set_option maxRecDepth 16384

noncomputable section

namespace Cert.Proof.Out

open Cert.OutprojIdeal Cert.OutprojIdeal.Gen Cert.OutprojIdeal.Value Idealize.ShloMosaic Idealize.ShloMosaic.TcCoe Idealize.SL.Sem
open Cert.Proof.Rows

/-- The output projection at a row `r` of the flattened tokens and a column: the residual plus the row's product with the
    weights, normalized, times the gate and the gain. -/
def G (x : Vec Ideal S4x2048x2048 .f32) (oa ob : Vec Ideal S4x2048x1024 .bf16) (mod : Vec Ideal S4x3x3x2048 .f32)
    (gain : Vec Ideal S3x2048 .f32) (w : Vec Ideal S2048x2048 .f32) : Vec Ideal S8192x2048 .f32 := fun j =>
  have b : Fin 4 := ⟨(j 0).val / 2048, by have : (j 0).val < 8192 := (j 0).isLt; omega⟩
  have s : Fin 2048 := ⟨(j 0).val % 2048, by omega⟩
  have d : Fin 2048 := j 1
  finish (x (ix3 b s d))
    (fun e => (∑ k : Fin 1024, oa (ix3 b s k) * w (ix2 (⟨k.val, by omega⟩ : Fin 2048) e))
      + ∑ k : Fin 1024, ob (ix3 b s k) * w (ix2 (⟨1024 + k.val, by omega⟩ : Fin 2048) e)) d
    (Ideal.ofBits .f32 0x3F800000#32 * mod (ix4 b 1 2 d) * gain (ix2 1 d))

variable (m : (ℓ : Loc nD τ sig) → Buf (Elt Ideal) ℓ) (ρ : Dev nD → PrngReg)

/-! ## The host's part: the arrays the grid reads -/

theorem V0 (c : Dev nD) : V m c main_v0 = shapeCast S4x9x2048 (m ((c : Thread nD τ).loc main_arg3)) shapeCasts_S4x3x3x2048_S4x9x2048 := by
  unfold_abbrev_sides
  after_results_simp <;> rfl
theorem V2 (c : Dev nD) : V m c main_v2 = shapeCast S8192x2048 (m ((c : Thread nD τ).loc main_arg0)) shapeCasts_S4x2048x2048_S8192x2048 := by
  unfold_abbrev_sides
  after_results_simp <;> rfl
theorem V3 (c : Dev nD) : V m c main_v3 = shapeCast S8192x1024 (m ((c : Thread nD τ).loc main_arg1)) shapeCasts_S4x2048x1024_S8192x1024 := by
  unfold_abbrev_sides
  after_results_simp <;> rfl
theorem V4 (c : Dev nD) : V m c main_v4 = shapeCast S8192x1024 (m ((c : Thread nD τ).loc main_arg2)) shapeCasts_S4x2048x1024_S8192x1024 := by
  unfold_abbrev_sides
  after_results_simp <;> rfl
theorem V6 (c : Dev nD) : V m c main_v6 = shapeCast S1x2048 (extractStridedSlice S1x1x2048 ![1, 0, 0]
    (shapeCast S3x1x2048 (m ((c : Thread nD τ).loc main_arg4)) shapeCasts_S3x2048_S3x1x2048) slices_S3x1x2048_S1x1x2048_1_0_0)
    shapeCasts_S1x1x2048_S1x2048 := by
  unfold_abbrev_sides
  after_results_simp <;> rfl
theorem V7 (c : Dev nD) : V m c main_v7 = truncf (F := Ideal) (s := S2048x2048) (φ := .f32) .bf16 (m ((c : Thread nD τ).loc main_arg5) : FVec Ideal S2048x2048 .f32) bitsLt_bf16_f32 := by
  unfold_abbrev_sides
  after_results_simp <;> rfl

/-! ## The blocks' indices -/

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)
theorem idx3 : ∀ t : Fin cfg0.N, win0_3.index t (0 : Fin 3) = t.val / 4 ∧ win0_3.index t (1 : Fin 3) = 0 ∧ win0_3.index t (2 : Fin 3) = 0 :=
  (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 1 ∧ win0_6.index t (1 : Fin 2) = 0 := (by decide +kernel : ∀ t : Fin grid0.N, _)
theorem idx7 : ∀ t : Fin cfg0.N, win0_7.index t (0 : Fin 2) = t.val ∧ win0_7.index t (1 : Fin 2) = 0 := (by decide +kernel : ∀ t : Fin grid0.N, _)

/-- Row `q` of grid point `t`'s block. -/
abbrev row (t : Fin cfg0.N) (q : Fin 512) : Fin 8192 := ⟨512 * t.val + q.val, by have : t.val < 16 := t.isLt; omega⟩

theorem emb0 (t : Fin cfg0.N) (q : Fin 512) (d : Fin 2048) : ((cfg0.win 0).blk t).view.emb (ix2 q d) = ix2 (row t q) d := by
  obtain ⟨e0, e1⟩ := idx0 t
  funext a; apply Fin.ext
  match a with
  | ⟨0, _⟩ => show win0_0.index t (0 : Fin 2) * 512 + 1 * q.val = 512 * t.val + q.val; omega
  | ⟨1, _⟩ => show win0_0.index t (1 : Fin 2) * 2048 + 1 * d.val = d.val; omega
theorem emb1 (t : Fin cfg0.N) (q : Fin 512) (d : Fin 1024) : ((cfg0.win 1).blk t).view.emb (ix2 q d) = ix2 (row t q) d := by
  obtain ⟨e0, e1⟩ := idx1 t
  funext a; apply Fin.ext
  match a with
  | ⟨0, _⟩ => show win0_1.index t (0 : Fin 2) * 512 + 1 * q.val = 512 * t.val + q.val; omega
  | ⟨1, _⟩ => show win0_1.index t (1 : Fin 2) * 1024 + 1 * d.val = d.val; omega
theorem emb2 (t : Fin cfg0.N) (q : Fin 512) (d : Fin 1024) : ((cfg0.win 2).blk t).view.emb (ix2 q d) = ix2 (row t q) d := by
  obtain ⟨e0, e1⟩ := idx2 t
  funext a; apply Fin.ext
  match a with
  | ⟨0, _⟩ => show win0_2.index t (0 : Fin 2) * 512 + 1 * q.val = 512 * t.val + q.val; omega
  | ⟨1, _⟩ => show win0_2.index t (1 : Fin 2) * 1024 + 1 * d.val = d.val; omega
theorem emb3 (t : Fin cfg0.N) (p : Fin 9) (d : Fin 2048) :
    ((cfg0.win 3).blk t).view.emb (ix3 0 p d) = ix3 (⟨t.val / 4, by have : t.val < 16 := t.isLt; omega⟩ : Fin 4) p d := by
  obtain ⟨e0, e1, e2⟩ := idx3 t
  funext a; apply Fin.ext
  match a with
  | ⟨0, _⟩ => show win0_3.index t (0 : Fin 3) * 1 + 1 * 0 = t.val / 4; omega
  | ⟨1, _⟩ => show win0_3.index t (1 : Fin 3) * 9 + 1 * p.val = p.val; omega
  | ⟨2, _⟩ => show win0_3.index t (2 : Fin 3) * 2048 + 1 * d.val = d.val; omega
theorem emb4 (t : Fin cfg0.N) (d : Fin 2048) : ((cfg0.win 4).blk t).view.emb (ix2 0 d) = ix2 0 d := by
  obtain ⟨e0, e1⟩ := idx4 t
  funext a; apply Fin.ext
  match a with
  | ⟨0, _⟩ => show win0_4.index t (0 : Fin 2) * 1 + 1 * 0 = 0; omega
  | ⟨1, _⟩ => show win0_4.index t (1 : Fin 2) * 2048 + 1 * d.val = d.val; omega
theorem emb5 (t : Fin cfg0.N) (k : Fin 1024) (d : Fin 2048) :
    ((cfg0.win 5).blk t).view.emb (ix2 k d) = ix2 (⟨k.val, by omega⟩ : Fin 2048) d := by
  obtain ⟨e0, e1⟩ := idx5 t
  funext a; apply Fin.ext
  match a with
  | ⟨0, _⟩ => show win0_5.index t (0 : Fin 2) * 1024 + 1 * k.val = k.val; omega
  | ⟨1, _⟩ => show win0_5.index t (1 : Fin 2) * 2048 + 1 * d.val = d.val; omega
theorem emb6 (t : Fin cfg0.N) (k : Fin 1024) (d : Fin 2048) :
    ((cfg0.win 6).blk t).view.emb (ix2 k d) = ix2 (⟨1024 + k.val, by omega⟩ : Fin 2048) d := by
  obtain ⟨e0, e1⟩ := idx6 t
  funext a; apply Fin.ext
  match a with
  | ⟨0, _⟩ => show win0_6.index t (0 : Fin 2) * 1024 + 1 * k.val = 1024 + k.val; omega
  | ⟨1, _⟩ => show win0_6.index t (1 : Fin 2) * 2048 + 1 * d.val = d.val; omega
theorem emb7 (t : Fin cfg0.N) (q : Fin 512) (d : Fin 2048) : ((cfg0.win 7).blk t).view.emb (ix2 q d) = ix2 (row t q) d := by
  obtain ⟨e0, e1⟩ := idx7 t
  funext a; apply Fin.ext
  match a with
  | ⟨0, _⟩ => show win0_7.index t (0 : Fin 2) * 512 + 1 * q.val = 512 * t.val + q.val; omega
  | ⟨1, _⟩ => show win0_7.index t (1 : Fin 2) * 2048 + 1 * d.val = d.val; omega

/-! ## The blocks' entries -/

/-- The batch of grid point `t`, and the token of its row `q`. -/
abbrev bat (t : Fin cfg0.N) : Fin 4 := ⟨t.val / 4, by have : t.val < 16 := t.isLt; omega⟩
abbrev tok (t : Fin cfg0.N) (q : Fin 512) : Fin 2048 := ⟨512 * (t.val % 4) + q.val, by omega⟩

theorem flat_apply (v : Vec Ideal S4x2048x2048 .f32) (t : Fin cfg0.N) (q : Fin 512) (d : Fin 2048) :
    shapeCast S8192x2048 v shapeCasts_S4x2048x2048_S8192x2048 (ix2 (row t q) d) = v (ix3 (bat t) (tok t q) d) := by
  pointwise
  have hb : (512 * t.val + q.val) / 2048 = t.val / 4 := by omega
  have hs : (512 * t.val + q.val) % 2048 = 512 * (t.val % 4) + q.val := by omega
  simp only [hb, hs]
theorem flatHalf_apply (v : Vec Ideal S4x2048x1024 .bf16) (t : Fin cfg0.N) (q : Fin 512) (d : Fin 1024) :
    shapeCast S8192x1024 v shapeCasts_S4x2048x1024_S8192x1024 (ix2 (row t q) d) = v (ix3 (bat t) (tok t q) d) := by
  pointwise
  have hb : (512 * t.val + q.val) / 2048 = t.val / 4 := by omega
  have hs : (512 * t.val + q.val) % 2048 = 512 * (t.val % 4) + q.val := by omega
  simp only [hb, hs]
theorem gate_apply (v : Vec Ideal S4x3x3x2048 .f32) (b : Fin 4) (d : Fin 2048) :
    shapeCast S4x9x2048 v shapeCasts_S4x3x3x2048_S4x9x2048 (ix3 b 5 d) = v (ix4 b 1 2 d) := by
  pointwise
theorem gain_apply (v : Vec Ideal S3x2048 .f32) (d : Fin 2048) :
    shapeCast S1x2048 (extractStridedSlice S1x1x2048 ![1, 0, 0] (shapeCast S3x1x2048 v shapeCasts_S3x2048_S3x1x2048)
      slices_S3x1x2048_S1x1x2048_1_0_0) shapeCasts_S1x1x2048_S1x2048 (ix2 0 d) = v (ix2 1 d) := by
  pointwise

theorem blk0 (c : Dev nD) (t : Fin cfg0.N) (q : Fin 512) (d : Fin 2048) :
    iblk m c 0 t (ix2 q d) = (m ((c : Thread nD τ).loc main_arg0) : Vec Ideal S4x2048x2048 .f32) (ix3 (bat t) (tok t q) d) := by
  show V m c main_v2 (((cfg0.win 0).blk t).view.emb (ix2 q d)) = _
  rw [emb0, V2]
  exact flat_apply _ t q d
theorem blk1 (c : Dev nD) (t : Fin cfg0.N) (q : Fin 512) (d : Fin 1024) :
    iblk m c 1 t (ix2 q d) = (m ((c : Thread nD τ).loc main_arg1) : Vec Ideal S4x2048x1024 .bf16) (ix3 (bat t) (tok t q) d) := by
  show V m c main_v3 (((cfg0.win 1).blk t).view.emb (ix2 q d)) = _
  rw [emb1, V3]
  exact flatHalf_apply _ t q d
theorem blk2 (c : Dev nD) (t : Fin cfg0.N) (q : Fin 512) (d : Fin 1024) :
    iblk m c 2 t (ix2 q d) = (m ((c : Thread nD τ).loc main_arg2) : Vec Ideal S4x2048x1024 .bf16) (ix3 (bat t) (tok t q) d) := by
  show V m c main_v4 (((cfg0.win 2).blk t).view.emb (ix2 q d)) = _
  rw [emb2, V4]
  exact flatHalf_apply _ t q d
theorem blk3 (c : Dev nD) (t : Fin cfg0.N) (d : Fin 2048) :
    iblk m c 3 t (ix3 0 5 d) = (m ((c : Thread nD τ).loc main_arg3) : Vec Ideal S4x3x3x2048 .f32) (ix4 (bat t) 1 2 d) := by
  show V m c main_v0 (((cfg0.win 3).blk t).view.emb (ix3 0 5 d)) = _
  rw [emb3, V0]
  exact gate_apply _ (bat t) d
theorem blk4 (c : Dev nD) (t : Fin cfg0.N) (d : Fin 2048) :
    iblk m c 4 t (ix2 0 d) = (m ((c : Thread nD τ).loc main_arg4) : Vec Ideal S3x2048 .f32) (ix2 1 d) := by
  show V m c main_v6 (((cfg0.win 4).blk t).view.emb (ix2 0 d)) = _
  rw [emb4, V6]
  exact gain_apply _ d
theorem blk5 (c : Dev nD) (t : Fin cfg0.N) (k : Fin 1024) (d : Fin 2048) :
    iblk m c 5 t (ix2 k d) = (m ((c : Thread nD τ).loc main_arg5) : Vec Ideal S2048x2048 .f32) (ix2 (⟨k.val, by omega⟩ : Fin 2048) d) := by
  show V m c main_v7 (((cfg0.win 5).blk t).view.emb (ix2 k d)) = _
  rw [emb5, V7]
  rfl
theorem blk6 (c : Dev nD) (t : Fin cfg0.N) (k : Fin 1024) (d : Fin 2048) :
    iblk m c 6 t (ix2 k d) = (m ((c : Thread nD τ).loc main_arg5) : Vec Ideal S2048x2048 .f32) (ix2 (⟨1024 + k.val, by omega⟩ : Fin 2048) d) := by
  show V m c main_v7 (((cfg0.win 6).blk t).view.emb (ix2 k d)) = _
  rw [emb6, V7]
  rfl

/-! ## The result array -/

/-- `G` of the arguments as launched. -/
abbrev GM (c : Dev nD) : Vec Ideal S8192x2048 .f32 :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem G_row (x : Vec Ideal S4x2048x2048 .f32) (oa ob : Vec Ideal S4x2048x1024 .bf16) (mod : Vec Ideal S4x3x3x2048 .f32)
    (gain : Vec Ideal S3x2048 .f32) (w : Vec Ideal S2048x2048 .f32) (t : Fin cfg0.N) (q : Fin 512) (d : Fin 2048) :
    G x oa ob mod gain w (ix2 (row t q) d) = finish (x (ix3 (bat t) (tok t q) d))
    (fun e => (∑ k : Fin 1024, oa (ix3 (bat t) (tok t q) k) * w (ix2 (⟨k.val, by omega⟩ : Fin 2048) e))
      + ∑ k : Fin 1024, ob (ix3 (bat t) (tok t q) k) * w (ix2 (⟨1024 + k.val, by omega⟩ : Fin 2048) e)) d
    (Ideal.ofBits .f32 0x3F800000#32 * mod (ix4 (bat t) 1 2 d) * gain (ix2 1 d)) := by
  have hb : (⟨(row t q).val / 2048, by have : t.val < 16 := t.isLt; show (512 * t.val + q.val) / 2048 < 4; omega⟩ : Fin 4) = bat t :=
    Fin.ext (show (512 * t.val + q.val) / 2048 = t.val / 4 by omega)
  have hs : (⟨(row t q).val % 2048, by omega⟩ : Fin 2048) = tok t q :=
    Fin.ext (show (512 * t.val + q.val) % 2048 = 512 * (t.val % 4) + q.val by omega)
  rw [← hb, ← hs]
  rfl

/-- What point `t` writes back is its block of the result. -/
theorem flushed_eq (c : Dev nD) (t : Fin cfg0.N) :
    (dats m 0 c).flushed 7 t = ((cfg0.win 7).blk t).view.read (Elt Ideal) (GM m c) := by
  rw [flushed7_A]
  funext j
  obtain ⟨q, d, rfl⟩ : ∃ (q : Fin 512) (d : Fin 2048), j = ix2 q d := ⟨j 0, j 1, eq_ix2 j⟩
  show out0_A_7 c _ _ _ _ _ _ _ _ _ _ _ _ _ _ _ _ _ _ _ _ _ _ _ _ (ix2 q d) = GM m c (((cfg0.win 7).blk t).view.emb (ix2 q d))
  rw [emb7, out_apply]
  refine Eq.trans ?_ (G_row _ _ _ _ _ _ t q d).symm
  simp only [blk0, blk1, blk2, blk3, blk4, blk5, blk6]

/-- Every index of the result is in a block. -/
theorem covered (j : S8192x2048.Idx) :
    ∃ t : Fin cfg0.N, (cfg0.win 7).flush t = true ∧ j ∈ ((cfg0.win 7).blk t).view.set := by
  obtain ⟨r, d, rfl⟩ : ∃ (r : Fin 8192) (d : Fin 2048), j = ix2 r d := ⟨j 0, j 1, eq_ix2 j⟩
  refine ⟨(⟨r.val / 512, by show r.val / 512 < 16; omega⟩ : Fin cfg0.N), flush0_7 _, ?_⟩
  have h := ((cfg0.win 7).blk (⟨r.val / 512, by show r.val / 512 < 16; omega⟩ : Fin cfg0.N)).view.emb_mem_set
    (ix2 (⟨r.val % 512, by omega⟩ : Fin 512) d)
  rw [emb7] at h
  have e : row (⟨r.val / 512, by show r.val / 512 < 16; omega⟩ : Fin cfg0.N) ⟨r.val % 512, by omega⟩ = r :=
    Fin.ext (show 512 * (r.val / 512) + r.val % 512 = r.val by omega)
  rwa [e] at h

/-- The run of the output projection with its result named. -/
theorem run : θ_run defs (onTc (τ := τ) (main (F := Ideal))) ⟨m, fun _ => 0, ρ⟩ fun r => ∀ c : Dev nD,
      r.2.mem ((c : Thread nD τ).loc main_v8) = GM m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c =>
    ⟨(h c).1.trans ((dats m 0 c).arrAt_eq_of_cover 7 (GM m c) (fun t _ => flushed_eq m c t) covered), (h c).2⟩) (run_blocks m ρ)

end Cert.Proof.Out

end
-- ==== Proof.Out.Ref.lean ====
/- The output projection's reference, element by element, and the equality of the two results. -/
module

public import proofs.«01_k».proof.Defs
public import proofs.«01_k».proof.Proof.Out.Run
public import proofs.«01_k».proof.Proof.Gen.OutprojRefIdeal.Run

@[expose] public section

set_option maxRecDepth 16384

noncomputable section

namespace Cert.Proof.Out

open Cert.OutprojRefIdeal Cert.OutprojRefIdeal.Gen Idealize.ShloMosaic Idealize.ShloMosaic.TcCoe Idealize.SL.Sem
open Cert.Proof.Rows

section Term

variable (x : FVec Ideal S4x2048x2048 .f32) (oa ob : FVec Ideal S4x2048x1024 .bf16) (mod : FVec Ideal S4x3x3x2048 .f32)
  (gain : FVec Ideal S3x2048 .f32) (w : FVec Ideal S2048x2048 .f32)

/-- The reference's product: the two halves side by side times the weights. -/
def refProd : FVec Ideal S4x2048x2048 .f32 :=
  Host.dotGeneral dot_S4x2048x2048_S2048x2048_S4x2048x2048_2_0_01_1_n_n none
    (extf .f32 (concatenate S4x2048x2048 2 [⟨S4x2048x1024, oa⟩, ⟨S4x2048x1024, ob⟩] concatenates_S4x2048x1024_S4x2048x1024_S4x2048x2048_d2)
      bitsLt_bf16_f32) w

/-- Its reciprocal roots, one for each row. -/
def refRoot : FVec Ideal S4x2048x1 .f32 :=
  Host.rsqrt (addf (Host.divf
    (broadcastInDim S4x2048x1 ![0, 1] bcast_S4x2048_S4x2048x1_0_1
      (Host.reduceAdd (mulf (refProd oa ob w) (refProd oa ob w)) (constant S_ .f32 0x00000000#32) reducesTo_S4x2048x2048_S4x2048_d2 h_S_))
    (broadcastInDim S4x2048x1 ![] bcast_S_S4x2048x1 (constant S_ .f32 0x45000000#32)))
    (broadcastInDim S4x2048x1 ![] bcast_S_S4x2048x1 (constant S_ .f32 0x358637BD#32)))

/-- The reference's gate: one times a row of the modulation. -/
def refGate : FVec Ideal S4x2048x2048 .f32 :=
  broadcastInDim S4x2048x2048 ![0, 1, 2] bcast_S4x1x2048_S4x2048x2048_0_1_2
    (mulf (broadcastInDim S4x1x2048 ![] bcast_S_S4x1x2048 (constant S_ .f32 0x3F800000#32))
      (broadcastInDim S4x1x2048 ![0, 2] bcast_S4x2048_S4x1x2048_0_2
        (shapeCast S4x2048 (extractStridedSlice S4x1x1x2048 ![0, 1, 2, 0] mod slices_S4x3x3x2048_S4x1x1x2048_0_1_2_0)
          shapeCasts_S4x1x1x2048_S4x2048)))

/-- The reference's gain, at every row. -/
def refGain : FVec Ideal S4x2048x2048 .f32 :=
  broadcastInDim S4x2048x2048 ![0, 1, 2] bcast_S1x1x2048_S4x2048x2048_0_1_2
    (broadcastInDim S1x1x2048 ![2] bcast_S2048_S1x1x2048_2
      (shapeCast S2048 (extractStridedSlice S1x2048 ![1, 0] gain slices_S3x2048_S1x2048_1_0) shapeCasts_S1x2048_S2048))

/-- The reference's result. -/
def refOut : FVec Ideal S8192x2048 .f32 :=
  shapeCast S8192x2048 (addf x (mulf (refGate mod)
    (mulf (mulf (refProd oa ob w) (broadcastInDim S4x2048x2048 ![0, 1, 2] bcast_S4x2048x1_S4x2048x2048_0_1_2 (refRoot oa ob w)))
      (refGain gain)))) shapeCasts_S4x2048x2048_S8192x2048

/-- The product at an index: the sum over each half. -/
theorem refProd_apply (b : Fin 4) (s e : Fin 2048) : refProd oa ob w (ix3 b s e)
    = (∑ k : Fin 1024, oa (ix3 b s k) * w (ix2 (⟨k.val, by omega⟩ : Fin 2048) e))
      + ∑ k : Fin 1024, ob (ix3 b s k) * w (ix2 (⟨1024 + k.val, by omega⟩ : Fin 2048) e) := by
  pointwise [refProd]

theorem refRoot_apply (b : Fin 4) (s : Fin 2048) : refRoot oa ob w (ix3 b s 0)
    = Ideal.rsqrt (Ideal.div (∑ k : Fin 2048, refProd oa ob w (ix3 b s k) * refProd oa ob w (ix3 b s k))
        (Ideal.ofBits .f32 0x45000000#32) + Ideal.ofBits .f32 0x358637BD#32) := by
  unfold refRoot
  generalize refProd oa ob w = y
  pointwise

theorem refGate_apply (b : Fin 4) (s d : Fin 2048) : refGate mod (ix3 b s d) = Ideal.ofBits .f32 0x3F800000#32 * mod (ix4 b 1 2 d) := by
  pointwise [refGate]

theorem refGain_apply (b : Fin 4) (s d : Fin 2048) : refGain gain (ix3 b s d) = gain (ix2 1 d) := by
  pointwise [refGain]

theorem refOut_apply (r : Fin 8192) (d : Fin 2048) : refOut x oa ob mod gain w (ix2 r d)
    = (addf x (mulf (refGate mod)
    (mulf (mulf (refProd oa ob w) (broadcastInDim S4x2048x2048 ![0, 1, 2] bcast_S4x2048x1_S4x2048x2048_0_1_2 (refRoot oa ob w)))
      (refGain gain)))) (ix3 (⟨r.val / 2048, by omega⟩ : Fin 4) (⟨r.val % 2048, by omega⟩ : Fin 2048) d) := by
  unfold refOut
  generalize (addf x _) = y
  pointwise

theorem refEntry (b : Fin 4) (s d : Fin 2048) : (addf x (mulf (refGate mod)
    (mulf (mulf (refProd oa ob w) (broadcastInDim S4x2048x2048 ![0, 1, 2] bcast_S4x2048x1_S4x2048x2048_0_1_2 (refRoot oa ob w)))
      (refGain gain)))) (ix3 b s d)
    = x (ix3 b s d) + refGate mod (ix3 b s d) * (refProd oa ob w (ix3 b s d) * refRoot oa ob w (ix3 b s 0) * refGain gain (ix3 b s d)) := by
  generalize refGate mod = g
  generalize refProd oa ob w = y
  generalize refRoot oa ob w = q
  generalize refGain gain = h
  pointwise

/-- The gate times the scaled row times the gain is the scaled row times the coefficient. -/
theorem gate_times_gain (a u p q h : EReal) : a + u * (p * q * h) = a + p * q * (u * h) := by
  rw [mul_left_comm u (p * q) h]

/-- The reference's result is the kernel's. -/
theorem refOut_eq : refOut x oa ob mod gain w = G x oa ob mod gain w := by
  funext j
  obtain ⟨r, d, rfl⟩ : ∃ (r : Fin 8192) (d : Fin 2048), j = ix2 r d := ⟨j 0, j 1, eq_ix2 j⟩
  refine (refOut_apply x oa ob mod gain w r d).trans ((refEntry x oa ob mod gain w _ _ d).trans ?_)
  rw [refRoot_apply, refGate_apply, refGain_apply, gate_times_gain]
  simp only [refProd_apply]
  rfl

end Term

end Cert.Proof.Out

end
-- ==== Proof.Out.Claim.lean ====
/- The output projection's claims: what its reference leaves, that the kernel leaves the same, and that the reference
   changes no argument and ends with every semaphore at zero. -/
module

public import proofs.«01_k».proof.Proof.Out.Ref
public import Idealize.ShloMosaic.Lib.Quiescent

@[expose] public section

set_option maxRecDepth 16384

noncomputable section

namespace Cert.Proof.Out

open Cert.OutprojRefIdeal Cert.OutprojRefIdeal.Gen Idealize.ShloMosaic Idealize.ShloMosaic.TcCoe Idealize.SL.Sem

/-- The reference's run with its result named. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26) = refOut (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.OutprojRefIdeal.Value.run m ρ

/-- The output projection and its reference leave the same result. -/
theorem algebraic : Cert.algebraic_OutprojIdeal_OutprojRefIdeal (hOutprojIdeal := Cert.OutprojIdeal.Gen.facts)
    (hOutprojRefIdeal := Cert.OutprojRefIdeal.Gen.facts) := fun m g m' g' _ hagree =>
  ⟨GM m, run m g, (θ_run _ _ _).mono (fun r h c => by
    obtain ⟨h0, h'⟩ := h c
    obtain ⟨a0, a1, a2, a3, a4, a5⟩ := hagree c
    refine ⟨h0.trans ?_, h'⟩
    rw [a0, a1, a2, a3, a4, a5]
    exact refOut_eq _ _ _ _ _ _) (ref_run m' g')⟩

/-- The reference ends, its arguments as they were; it declares no semaphore, so none is left raised. -/
theorem frame_ref : Cert.quiescent_OutprojRefIdeal (hOutprojRefIdeal := Cert.OutprojRefIdeal.Gen.facts) := fun m ρ _ =>
  (θ_run _ _ _).mono (fun r h => ⟨fun c => (h c).2, sem_eq_zero_of_no_sems rfl r.2⟩) (ref_run m ρ)

end Cert.Proof.Out

end
-- ==== Proof.Ffn.Kit.lean ====
/- The feed-forward kernel: which points begin and end a block of rows, the buffers its body is handed, and what of them
   the body only reads. -/
module

public import proofs.«01_k».proof.Proof.Gen.FfnIdeal.Frame
public import proofs.«01_k».proof.Proof.Gen.FfnIdeal.Loops

@[expose] public section

set_option maxRecDepth 16384

noncomputable section

namespace Cert.Proof.Ffn

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A point begins a block of rows: the rows are normalized and the sum cleared. -/
abbrev cond0_0 (i : grid0.Coords) : Prop := k0_cond1 i = 1#1
/-- It holds at the points ≡ 0 (mod 11) . -/
theorem hcond0_0 : ∀ t : Fin cfg0.N, cond0_0 (grid0.coords t) ↔ t.val % 11 = 0 :=
  (fun t => by
    have ht : t.val < 88 := Nat.lt_of_lt_of_eq t.isLt N_0
    have e0 : (grid0.coords t 0).val = t.val / 11 % 8 := Pipeline.Grid.coords_val t 0 (by decide) rfl
    have e1 : (grid0.coords t 1).val = t.val / 1 % 11 := Pipeline.Grid.coords_val t 1 (by decide) rfl
    simp only [cond0_0, k0_cond1, e0, e1]
    word_cmp
   : ∀ t : Fin grid0.N, cond0_0 (grid0.coords t) ↔ t.val % 11 = 0)

/-- A point ends a block of rows: the rows are finished. -/
abbrev cond0_1 (i : grid0.Coords) : Prop := (Scalar.cmpi .ne (Scalar.extui (Scalar.cmpi .eq (BitVec.ofNat 32 (i 1).val) 10#32)) 0#32) = 1#1
/-- It holds at the points ≡ 10 (mod 11) . -/
theorem hcond0_1 : ∀ t : Fin cfg0.N, cond0_1 (grid0.coords t) ↔ t.val % 11 = 10 :=
  (fun t => by
    have ht : t.val < 88 := Nat.lt_of_lt_of_eq t.isLt N_0
    have e0 : (grid0.coords t 0).val = t.val / 11 % 8 := Pipeline.Grid.coords_val t 0 (by decide) rfl
    have e1 : (grid0.coords t 1).val = t.val / 1 % 11 := Pipeline.Grid.coords_val t 1 (by decide) rfl
    simp only [cond0_1, e0, e1]
    word_cmp
   : ∀ t : Fin grid0.N, cond0_1 (grid0.coords t) ↔ t.val % 11 = 10)

/-- The buffers the body is handed at point `t`. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x9x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x2048 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x2048 .f32 := win0_7.stage (cfg0.slots t 7)
abbrev hs0_7 (t : Fin cfg0.N) : (ms0_7 t).IsWhole := hstage0_7 ((cfg0.slots t 7).cast nbuf0_7)
/-- The buffer of normalized rows. -/
abbrev scM0_0 : Memref sig .tc .vmem S1024x2048 .bf16 := Memref.whole cc0_scratch0

/-- What the launch hands the grid: the buffer of normalized rows at anything, the generator register at anything. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

section Body

variable (c : Dev nD) (i : grid0.Coords)
  (arg2 : Memref sig .tc .vmem S1024x2048 .f32) (harg2 : arg2.IsWhole)
  (arg3 : Memref sig .tc .vmem S1x9x2048 .f32) (harg3 : arg3.IsWhole)
  (arg4 : Memref sig .tc .vmem S1x2048 .f32) (harg4 : arg4.IsWhole)
  (arg5 : Memref sig .tc .vmem S1x2048 .f32) (harg5 : arg5.IsWhole)
  (arg6 : Memref sig .tc .vmem S2048x512 .bf16) (harg6 : arg6.IsWhole)
  (arg7 : Memref sig .tc .vmem S2048x512 .bf16) (harg7 : arg7.IsWhole)
  (arg8 : Memref sig .tc .vmem S512x2048 .bf16) (harg8 : arg8.IsWhole)
  (arg9 : Memref sig .tc .vmem S1024x2048 .f32) (harg9 : arg9.IsWhole)
  (arg10 : Memref sig .tc .vmem S1024x2048 .bf16) (harg10 : arg10.IsWhole)
  (x0 : Vec F S1024x2048 .f32)
  (x1 : Vec F S1x9x2048 .f32)
  (x2 : Vec F S1x2048 .f32)
  (x3 : Vec F S1x2048 .f32)
  (x4 : Vec F S2048x512 .bf16)
  (x5 : Vec F S2048x512 .bf16)
  (x6 : Vec F S512x2048 .bf16)

/-- The seven inputs' buffers, each whole and at its block. -/
abbrev Ins : sProp 𝕄 :=
  iprop((arg2.view.loc (c : Thread nD τ) ↦[arg2.view.set]{fullShare} harg2.unread x0)
    ∗ (arg3.view.loc (c : Thread nD τ) ↦[arg3.view.set]{fullShare} harg3.unread x1)
    ∗ (arg4.view.loc (c : Thread nD τ) ↦[arg4.view.set]{fullShare} harg4.unread x2)
    ∗ (arg5.view.loc (c : Thread nD τ) ↦[arg5.view.set]{fullShare} harg5.unread x3)
    ∗ (arg6.view.loc (c : Thread nD τ) ↦[arg6.view.set]{fullShare} harg6.unread x4)
    ∗ (arg7.view.loc (c : Thread nD τ) ↦[arg7.view.set]{fullShare} harg7.unread x5)
    ∗ (arg8.view.loc (c : Thread nD τ) ↦[arg8.view.set]{fullShare} harg8.unread x6))

end Body

end Cert.Proof.Ffn

end
-- ==== Proof.Ffn.RunA.lean ====
/- A point that begins a block of rows: the stores the body makes into the sum and into the normalized rows. -/
module

public import proofs.«01_k».proof.Proof.Ffn.Kit

@[expose] public section

set_option maxRecDepth 16384

noncomputable section

namespace Cert.Proof.Ffn

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (c : Dev nD) (i : grid0.Coords)
  (arg2 : Memref sig .tc .vmem S1024x2048 .f32) (harg2 : arg2.IsWhole)
  (arg3 : Memref sig .tc .vmem S1x9x2048 .f32) (harg3 : arg3.IsWhole)
  (arg4 : Memref sig .tc .vmem S1x2048 .f32) (harg4 : arg4.IsWhole)
  (arg5 : Memref sig .tc .vmem S1x2048 .f32) (harg5 : arg5.IsWhole)
  (arg6 : Memref sig .tc .vmem S2048x512 .bf16) (harg6 : arg6.IsWhole)
  (arg7 : Memref sig .tc .vmem S2048x512 .bf16) (harg7 : arg7.IsWhole)
  (arg8 : Memref sig .tc .vmem S512x2048 .bf16) (harg8 : arg8.IsWhole)
  (arg9 : Memref sig .tc .vmem S1024x2048 .f32) (harg9 : arg9.IsWhole)
  (arg10 : Memref sig .tc .vmem S1024x2048 .bf16) (harg10 : arg10.IsWhole)
  (hc0 : cond0_0 i) (hc1 : ¬cond0_1 i)
  (x0 : Vec F S1024x2048 .f32)
  (x1 : Vec F S1x9x2048 .f32)
  (x2 : Vec F S1x2048 .f32)
  (x3 : Vec F S1x2048 .f32)
  (x4 : Vec F S2048x512 .bf16)
  (x5 : Vec F S2048x512 .bf16)
  (x6 : Vec F S512x2048 .bf16)
  (y : Vec F S1024x2048 .f32) (h : Vec F S1024x2048 .bf16)

set_option backward.proofsInPublic true in
set_option maxHeartbeats 4000000 in
/-- A point that begins a block of rows: the stores the body makes into the sum and into the normalized rows. -/
def runA :
    Σ' (L : List (View.Piece (Elt F) S1024x2048 .f32)), { H : List (View.Piece (Elt F) S1024x2048 .bf16) // ∀ (E : Set ℕ),
      iprop(Ins (F := F) c arg2 harg2 arg3 harg3 arg4 harg4 arg5 harg5 arg6 harg6 arg7 harg7 arg8 harg8 x0 x1 x2 x3 x4 x5 x6
        ∗ (arg9.view.loc (c : Thread nD τ) ↦[arg9.view.set]{fullShare} harg9.unread y)
        ∗ (arg10.view.loc (c : Thread nD τ) ↦[arg10.view.set]{fullShare} harg10.unread h))
      ⊢ wp frame (wpE (defs₀ (F := F)) Variants.none c none) E
          (cc0__ffn_kernel i arg2 harg2 arg3 harg3 arg4 harg4 arg5 harg5 arg6 harg6 arg7 harg7 arg8 harg8 arg9 harg9 arg10 harg10)
          (fun _ => iprop(Ins (F := F) c arg2 harg2 arg3 harg3 arg4 harg4 arg5 harg5 arg6 harg6 arg7 harg7 arg8 harg8 x0 x1 x2 x3 x4 x5 x6
            ∗ (arg9.view.loc (c : Thread nD τ) ↦[arg9.view.set]{fullShare} arg9.view.writes (Elt F) (harg9.unread y) L)
            ∗ (arg10.view.loc (c : Thread nD τ) ↦[arg10.view.set]{fullShare} arg10.view.writes (Elt F) (harg10.unread h) H))) } := by
  refine ⟨?_, ?_, fun E => ?run⟩
  case run =>
    simp only [cc0__ffn_kernel_eq_skeleton]; unfold cc0__ffn_kernel_skel
    simp only [k0_part61_eq_skeleton]
    iintro ⟨⟨H0, H1, H2, H3, H4, H5, H6⟩, H7, H8⟩
    sl_exec (disch := first | sl_exact hc0 | sl_exact hc1)
    sl_step
    sl_close

end

end Cert.Proof.Ffn

end
-- ==== Proof.Ffn.RunB.lean ====
/- A point that neither begins nor ends a block of rows: the stores the body makes into the sum. -/
module

public import proofs.«01_k».proof.Proof.Ffn.RunA

@[expose] public section

set_option maxRecDepth 16384

noncomputable section

namespace Cert.Proof.Ffn

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (c : Dev nD) (i : grid0.Coords)
  (arg2 : Memref sig .tc .vmem S1024x2048 .f32) (harg2 : arg2.IsWhole)
  (arg3 : Memref sig .tc .vmem S1x9x2048 .f32) (harg3 : arg3.IsWhole)
  (arg4 : Memref sig .tc .vmem S1x2048 .f32) (harg4 : arg4.IsWhole)
  (arg5 : Memref sig .tc .vmem S1x2048 .f32) (harg5 : arg5.IsWhole)
  (arg6 : Memref sig .tc .vmem S2048x512 .bf16) (harg6 : arg6.IsWhole)
  (arg7 : Memref sig .tc .vmem S2048x512 .bf16) (harg7 : arg7.IsWhole)
  (arg8 : Memref sig .tc .vmem S512x2048 .bf16) (harg8 : arg8.IsWhole)
  (arg9 : Memref sig .tc .vmem S1024x2048 .f32) (harg9 : arg9.IsWhole)
  (arg10 : Memref sig .tc .vmem S1024x2048 .bf16) (harg10 : arg10.IsWhole)
  (hc0 : ¬cond0_0 i) (hc1 : ¬cond0_1 i)
  (x0 : Vec F S1024x2048 .f32)
  (x1 : Vec F S1x9x2048 .f32)
  (x2 : Vec F S1x2048 .f32)
  (x3 : Vec F S1x2048 .f32)
  (x4 : Vec F S2048x512 .bf16)
  (x5 : Vec F S2048x512 .bf16)
  (x6 : Vec F S512x2048 .bf16)
  (y : Vec F S1024x2048 .f32) (h : Vec F S1024x2048 .bf16)

set_option backward.proofsInPublic true in
set_option maxHeartbeats 4000000 in
/-- A point that neither begins nor ends a block of rows: the stores the body makes into the sum. -/
def runB :
    { L : List (View.Piece (Elt F) S1024x2048 .f32) // ∀ (E : Set ℕ),
      iprop(Ins (F := F) c arg2 harg2 arg3 harg3 arg4 harg4 arg5 harg5 arg6 harg6 arg7 harg7 arg8 harg8 x0 x1 x2 x3 x4 x5 x6
        ∗ (arg9.view.loc (c : Thread nD τ) ↦[arg9.view.set]{fullShare} harg9.unread y)
        ∗ (arg10.view.loc (c : Thread nD τ) ↦[arg10.view.set]{fullShare} harg10.unread h))
      ⊢ wp frame (wpE (defs₀ (F := F)) Variants.none c none) E
          (cc0__ffn_kernel i arg2 harg2 arg3 harg3 arg4 harg4 arg5 harg5 arg6 harg6 arg7 harg7 arg8 harg8 arg9 harg9 arg10 harg10)
          (fun _ => iprop(Ins (F := F) c arg2 harg2 arg3 harg3 arg4 harg4 arg5 harg5 arg6 harg6 arg7 harg7 arg8 harg8 x0 x1 x2 x3 x4 x5 x6
            ∗ (arg9.view.loc (c : Thread nD τ) ↦[arg9.view.set]{fullShare} arg9.view.writes (Elt F) (harg9.unread y) L)
            ∗ (arg10.view.loc (c : Thread nD τ) ↦[arg10.view.set]{fullShare} harg10.unread h))) } := by
  refine ⟨?_, fun E => ?run⟩
  case run =>
    simp only [cc0__ffn_kernel_eq_skeleton]; unfold cc0__ffn_kernel_skel
    simp only [k0_part61_eq_skeleton]
    iintro ⟨⟨H0, H1, H2, H3, H4, H5, H6⟩, H7, H8⟩
    sl_exec (disch := first | sl_exact hc0 | sl_exact hc1)
    sl_step
    sl_close

end

end Cert.Proof.Ffn

end
-- ==== Proof.Ffn.RunC.lean ====
/- A point that ends a block of rows: the stores the body makes into the sum, the finished rows last. -/
module

public import proofs.«01_k».proof.Proof.Ffn.RunB

@[expose] public section

set_option maxRecDepth 16384

noncomputable section

namespace Cert.Proof.Ffn

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (c : Dev nD) (i : grid0.Coords)
  (arg2 : Memref sig .tc .vmem S1024x2048 .f32) (harg2 : arg2.IsWhole)
  (arg3 : Memref sig .tc .vmem S1x9x2048 .f32) (harg3 : arg3.IsWhole)
  (arg4 : Memref sig .tc .vmem S1x2048 .f32) (harg4 : arg4.IsWhole)
  (arg5 : Memref sig .tc .vmem S1x2048 .f32) (harg5 : arg5.IsWhole)
  (arg6 : Memref sig .tc .vmem S2048x512 .bf16) (harg6 : arg6.IsWhole)
  (arg7 : Memref sig .tc .vmem S2048x512 .bf16) (harg7 : arg7.IsWhole)
  (arg8 : Memref sig .tc .vmem S512x2048 .bf16) (harg8 : arg8.IsWhole)
  (arg9 : Memref sig .tc .vmem S1024x2048 .f32) (harg9 : arg9.IsWhole)
  (arg10 : Memref sig .tc .vmem S1024x2048 .bf16) (harg10 : arg10.IsWhole)
  (hc0 : ¬cond0_0 i) (hc1 : cond0_1 i)
  (x0 : Vec F S1024x2048 .f32)
  (x1 : Vec F S1x9x2048 .f32)
  (x2 : Vec F S1x2048 .f32)
  (x3 : Vec F S1x2048 .f32)
  (x4 : Vec F S2048x512 .bf16)
  (x5 : Vec F S2048x512 .bf16)
  (x6 : Vec F S512x2048 .bf16)
  (y : Vec F S1024x2048 .f32) (h : Vec F S1024x2048 .bf16)

set_option backward.proofsInPublic true in
set_option maxHeartbeats 4000000 in
/-- A point that ends a block of rows: the stores the body makes into the sum, the finished rows last. -/
def runC :
    { L : List (View.Piece (Elt F) S1024x2048 .f32) // ∀ (E : Set ℕ),
      iprop(Ins (F := F) c arg2 harg2 arg3 harg3 arg4 harg4 arg5 harg5 arg6 harg6 arg7 harg7 arg8 harg8 x0 x1 x2 x3 x4 x5 x6
        ∗ (arg9.view.loc (c : Thread nD τ) ↦[arg9.view.set]{fullShare} harg9.unread y)
        ∗ (arg10.view.loc (c : Thread nD τ) ↦[arg10.view.set]{fullShare} harg10.unread h))
      ⊢ wp frame (wpE (defs₀ (F := F)) Variants.none c none) E
          (cc0__ffn_kernel i arg2 harg2 arg3 harg3 arg4 harg4 arg5 harg5 arg6 harg6 arg7 harg7 arg8 harg8 arg9 harg9 arg10 harg10)
          (fun _ => iprop(Ins (F := F) c arg2 harg2 arg3 harg3 arg4 harg4 arg5 harg5 arg6 harg6 arg7 harg7 arg8 harg8 x0 x1 x2 x3 x4 x5 x6
            ∗ (arg9.view.loc (c : Thread nD τ) ↦[arg9.view.set]{fullShare} arg9.view.writes (Elt F) (harg9.unread y) L)
            ∗ (arg10.view.loc (c : Thread nD τ) ↦[arg10.view.set]{fullShare} harg10.unread h))) } := by
  refine ⟨?_, fun E => ?run⟩
  case run =>
    simp only [cc0__ffn_kernel_eq_skeleton]; unfold cc0__ffn_kernel_skel
    simp only [k0_part61_eq_skeleton, k0_part60_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton]
    iintro ⟨⟨H0, H1, H2, H3, H4, H5, H6⟩, H7, H8⟩
    sl_exec (disch := first | sl_exact hc0 | sl_exact hc1)
    sl_step
    sl_close

end

end Cert.Proof.Ffn

end
-- ==== Proof.Rows.Load.lean ====
/- Loads of everything a matrix's buffer holds. -/
module

public import proofs.«01_k».proof.Proof.Rows.Chain

@[expose] public section

noncomputable section

namespace Cert.Proof.Rows

open Idealize.ShloMosaic Idealize.ShloMosaic.TcCoe

/-- A load of everything. -/
theorem whole_idx {n k : ℕ} (inb : ∀ a, (![0, 0] : Fin 2 → ℕ) a + (⟨2, ![n, k]⟩ : Shape).size a ≤ (⟨2, ![n, k]⟩ : Shape).size a)
    (j : (⟨2, ![n, k]⟩ : Shape).Idx) :
    (Rect.unit (s := ⟨2, ![n, k]⟩) ![0, 0] (⟨2, ![n, k]⟩ : Shape).size inb).toLoadRect.idx j = j := by
  funext a
  fin_cases a <;> apply Fin.ext <;> simp [Rect.toLoadRect, LoadRect.idx, Rect.unit]

/-- A load of everything reads what the buffer holds. -/
theorem load_whole {sig : RefSig} {κ : Kind} {sp : Space} {n k : ℕ} {e : EltTy} {m : Memref sig κ sp (⟨2, ![n, k]⟩ : Shape) e} (h : m.IsWhole)
    (x : (⟨2, ![n, k]⟩ : Shape).Idx → Elt Ideal e)
    (inb : ∀ a, (![0, 0] : Fin 2 → ℕ) a + (⟨2, ![n, k]⟩ : Shape).size a ≤ (⟨2, ![n, k]⟩ : Shape).size a) :
    View.readAt (Elt Ideal) m.view (Rect.unit (s := ⟨2, ![n, k]⟩) ![0, 0] (⟨2, ![n, k]⟩ : Shape).size inb).toLoadRect (h.unread x) = x := by
  rw [readAt_unread]
  exact funext fun j => congrArg x (whole_idx inb j)

end Cert.Proof.Rows

end
-- ==== Proof.Rows.Norm.lean ====
/- A row normalized and modulated: the first step of the sublayers that read the tokens' rows. -/
module

public import Idealize.ShloMosaic.Lib.Pointwise

@[expose] public section

noncomputable section

namespace Cert.Proof.Rows

open Idealize.ShloMosaic

/-- One entry of a row normalized by the reciprocal root of its mean square, times a gain modulated by a scale, plus a shift. -/
def modulate (x : Fin 2048 → EReal) (d : Fin 2048) (gain scale shift : EReal) : EReal :=
  x d * Ideal.rsqrt (Ideal.div (∑ k : Fin 2048, x k * x k) (Ideal.ofBits .f32 0x45000000#32)
    + Ideal.ofBits .f32 0x358637BD#32) * (gain * (Ideal.ofBits .f32 0x3F800000#32 + scale)) + shift

end Cert.Proof.Rows

end
-- ==== Proof.Ffn.Pay.lean ====
/- The feed-forward kernel's arithmetic at an index: a row normalized and modulated, the gated products of a block of hidden
   columns, and the columns a store adds them to. -/
module

public import proofs.«01_k».proof.Proof.Ffn.RunC
public import proofs.«01_k».proof.Proof.Rows.Load
public import proofs.«01_k».proof.Proof.Rows.Norm
public import Idealize.ShloMosaic.Lib.WritesUnit

@[expose] public section

set_option maxRecDepth 16384

noncomputable section

namespace Cert.Proof.Ffn

open Cert.FfnIdeal Cert.FfnIdeal.Gen Idealize.ShloMosaic Cert.Proof.Rows

/-- One hidden entry: the gate's product times its logistic, times the other product. -/
def hidden (h : Fin 2048 → EReal) (g u : Fin 2048 → EReal) : EReal :=
  have a : EReal := ∑ i : Fin 2048, h i * g i
  a * Ideal.logistic a * ∑ i : Fin 2048, h i * u i

theorem pay233_apply (v45 : Vec Ideal S1x2048 .f32) (v47 v52 : Vec Ideal S1x1x2048 .f32) (v58 : Vec Ideal S16x2048 .f32)
    (r : Fin 16) (d : Fin 2048) :
    k0_pay233 v45 v47 v52 v58 (ix2 r d)
      = modulate (fun k => v58 (ix2 r k)) d (v45 (ix2 0 d)) (v47 (ix3 0 0 d)) (v52 (ix3 0 0 d)) := by
  pointwise [k0_pay233, modulate]

theorem pay234_apply (j : S16x2048.Idx) : (k0_pay234 : FVec Ideal S16x2048 .f32) j = Ideal.ofBits .f32 0x00000000#32 := by
  pointwise [k0_pay234]

theorem pay235_apply (h : Vec Ideal S1024x2048 .bf16) (g u : Vec Ideal S2048x512 .bf16) (r : Fin 1024) (k : Fin 512) :
    k0_pay235 h g u (ix2 r k) = hidden (fun i => h (ix2 r i)) (fun i => g (ix2 i k)) (fun i => u (ix2 i k)) := by
  pointwise [k0_pay235, hidden]

/-- A block of hidden columns times a block of columns of the weights, added to what was there. -/
abbrev added (a : EReal) (v : Fin 512 → EReal) (w : Fin 512 → EReal) : EReal := a + ∑ k : Fin 512, v k * w k

theorem pay1_apply (v : FVec Ideal S1024x512 .bf16) (a : Vec Ideal S1024x512 .f32) (w : Vec Ideal S512x512 .bf16) (r : Fin 1024) (e : Fin 512) :
    k0_pay1 v a w (ix2 r e) = added (a (ix2 r e)) (fun k => v (ix2 r k)) (fun k => w (ix2 k e)) := by
  pointwise [k0_pay1, added]

theorem pay2_eq (v : FVec Ideal S1024x512 .bf16) (a : Vec Ideal S1024x512 .f32) (w : Vec Ideal S512x512 .bf16) :
    k0_pay2 v a w = k0_pay1 v a w := rfl
theorem pay236_eq (h : Vec Ideal S1024x2048 .bf16) (g u : Vec Ideal S2048x512 .bf16) (a : Vec Ideal S1024x512 .f32) (w : Vec Ideal S512x512 .bf16) :
    k0_pay236 h g u a w = k0_pay1 (k0_pay235 h g u) a w := rfl
theorem pay237_eq (h : Vec Ideal S1024x2048 .bf16) (g u : Vec Ideal S2048x512 .bf16) (a : Vec Ideal S1024x512 .f32) (w : Vec Ideal S512x512 .bf16) :
    k0_pay237 h g u a w = k0_pay1 (k0_pay235 h g u) a w := rfl

theorem pay5_apply (v45 : Vec Ideal S1x1x2048 .f32) (v49 : Vec Ideal S1x2048 .f32) (d : Fin 2048) :
    k0_pay5 v45 v49 (ix2 0 d) = Ideal.ofBits .f32 0x3F000000#32 * v45 (ix3 0 0 d) * v49 (ix2 0 d) := by
  pointwise [k0_pay5]

end Cert.Proof.Ffn

end
-- ==== Proof.Ffn.Step.lean ====
/- What one point of the feed-forward kernel leaves, as functions of what it found: the normalized rows and the cleared sum
   of a point that begins a block, the sum a point adds to, the finished rows of a point that ends a block. -/
module

public import proofs.«01_k».proof.Proof.Ffn.Pay

@[expose] public section

set_option maxRecDepth 16384

noncomputable section

namespace Cert.Proof.Ffn

open Cert.FfnIdeal Cert.FfnIdeal.Gen Idealize.ShloMosaic Idealize.ShloMosaic.TcCoe Cert.Proof.Rows

/-! ## The values -/

/-- A block of rows, normalized and modulated. -/
def rowsV (x0 : Vec Ideal S1024x2048 .f32) (x1 : Vec Ideal S1x9x2048 .f32) (x2 : Vec Ideal S1x2048 .f32) : Vec Ideal S1024x2048 .bf16 :=
  fun j => modulate (fun k => x0 (ix2 (j 0 : Fin 1024) k)) (j 1 : Fin 2048) (x2 (ix2 0 (j 1 : Fin 2048)))
    (x1 (ix3 0 7 (j 1 : Fin 2048))) (x1 (ix3 0 6 (j 1 : Fin 2048)))

/-- What a block of 512 hidden columns adds to the sum. -/
def downV (h : Vec Ideal S1024x2048 .bf16) (x4 x5 : Vec Ideal S2048x512 .bf16) (x6 : Vec Ideal S512x2048 .bf16) (r : Fin 1024) (d : Fin 2048) : EReal :=
  ∑ k : Fin 512, hidden (fun i => h (ix2 r i)) (fun i => x4 (ix2 i k)) (fun i => x5 (ix2 i k)) * x6 (ix2 k d)

/-- The sum after a block of hidden columns. -/
def sumV (y : Vec Ideal S1024x2048 .f32) (h : Vec Ideal S1024x2048 .bf16) (x4 x5 : Vec Ideal S2048x512 .bf16) (x6 : Vec Ideal S512x2048 .bf16) :
    Vec Ideal S1024x2048 .f32 := fun j => y j + downV h x4 x5 x6 (j 0) (j 1)

/-- The finished rows. -/
def finV (x0 : Vec Ideal S1024x2048 .f32) (x1 : Vec Ideal S1x9x2048 .f32) (x3 : Vec Ideal S1x2048 .f32) (y : Vec Ideal S1024x2048 .f32) :
    Vec Ideal S1024x2048 .f32 := fun j =>
  finish (x0 j) (fun k => y (ix2 (j 0 : Fin 1024) k)) (j 1 : Fin 2048)
    (Ideal.ofBits .f32 0x3F000000#32 * x1 (ix3 0 8 (j 1 : Fin 2048)) * x3 (ix2 0 (j 1 : Fin 2048)))

/-! ## Four stores of columns -/

/-- Four stores of 512 columns each, over whatever was there, leave a function whose columns their payloads are. -/
theorem read_cols {sig : RefSig} {κ : Kind} {sp : Space} (v : View sig κ sp S1024x2048 .f32) (f : v.ty.Contents (Elt Ideal))
    (p : Fin 4 → Vec Ideal S1024x512 .f32) (L : List (View.Piece (Elt Ideal) S1024x2048 .f32)) (G : Vec Ideal S1024x2048 .f32)
    (hp : ∀ (q : Fin 4) (r : Fin 1024) (e : Fin 512), p q (ix2 r e) = G (ix2 r (⟨512 * q.val + e.val, by omega⟩ : Fin 2048))) :
    v.read (Elt Ideal) (v.writes (Elt Ideal) f (
      ⟨Rect.unit (s := S1024x2048) ![0, 1536] S1024x512.size inb_S1024x2048_S1024x512_0_1536, p 3⟩
      :: ⟨Rect.unit (s := S1024x2048) ![0, 1024] S1024x512.size inb_S1024x2048_S1024x512_0_1024, p 2⟩
      :: ⟨Rect.unit (s := S1024x2048) ![0, 512] S1024x512.size inb_S1024x2048_S1024x512_0_512, p 1⟩
      :: ⟨Rect.unit (s := S1024x2048) ![0, 0] S1024x512.size inb_S1024x2048_S1024x512_0_0, p 0⟩ :: L)) = G := by
  funext j
  obtain ⟨r, d, rfl⟩ : ∃ (r : Fin 1024) (d : Fin 2048), j = ix2 r d := ⟨j 0, j 1, eq_ix2 j⟩
  have key : ∀ (q : Fin 4) (hq : 512 * q.val ≤ d.val ∧ d.val < 512 * q.val + 512),
      p q (ix2 r (⟨d.val - 512 * q.val, by omega⟩ : Fin 512)) = G (ix2 r d) := fun q hq => by
    rw [hp]
    exact congrArg (fun e => G (ix2 r e)) (Fin.ext (show 512 * q.val + (d.val - 512 * q.val) = d.val by omega))
  have skip : ∀ (o : ℕ) (inb : ∀ a, (![0, o] : Fin 2 → ℕ) a + S1024x512.size a ≤ S1024x2048.size a) (w : Vec Ideal S1024x512 .f32)
      (L : List (View.Piece (Elt Ideal) S1024x2048 .f32)), d.val < o →
      v.read (Elt Ideal) (v.writes (Elt Ideal) f (⟨Rect.unit (s := S1024x2048) ![0, o] S1024x512.size inb, w⟩ :: L)) (ix2 r d)
        = v.read (Elt Ideal) (v.writes (Elt Ideal) f L) (ix2 r d) := fun o inb w L h =>
    View.read_writes_cons_unit_of_not_mem v f inb w L (ix2 r d) rfl (1 : Fin 2) (.inl h)
  have take : ∀ (q : Fin 4) (inb : ∀ a, (![0, 512 * q.val] : Fin 2 → ℕ) a + S1024x512.size a ≤ S1024x2048.size a)
      (L : List (View.Piece (Elt Ideal) S1024x2048 .f32)) (hq : 512 * q.val ≤ d.val ∧ d.val < 512 * q.val + 512),
      v.read (Elt Ideal) (v.writes (Elt Ideal) f (⟨Rect.unit (s := S1024x2048) ![0, 512 * q.val] S1024x512.size inb, p q⟩ :: L)) (ix2 r d)
        = G (ix2 r d) := fun q inb L hq =>
    (View.read_writes_cons_unit_of_mem v f inb (p q) L (ix2 r d) (ix2 r (⟨d.val - 512 * q.val, by omega⟩ : Fin 512)) rfl
      (Fin.forall_fin_two.mpr ⟨(Nat.zero_add _).symm, show d.val = 512 * q.val + (d.val - 512 * q.val) by omega⟩)).trans (key q hq)
  by_cases h3 : 1536 ≤ d.val
  · exact take 3 _ _ (by show 512 * 3 ≤ _ ∧ _ < 512 * 3 + 512; omega)
  rw [skip 1536 _ _ _ (by omega)]
  by_cases h2 : 1024 ≤ d.val
  · exact take 2 _ _ (by show 512 * 2 ≤ _ ∧ _ < 512 * 2 + 512; omega)
  rw [skip 1024 _ _ _ (by omega)]
  by_cases h1 : 512 ≤ d.val
  · exact take 1 _ _ (by show 512 * 1 ≤ _ ∧ _ < 512 * 1 + 512; omega)
  rw [skip 512 _ _ _ (by omega)]
  exact take 0 _ _ (by show 512 * 0 ≤ _ ∧ _ < 512 * 0 + 512; omega)

/-- Columns `512 q …` of a buffer read after stores that leave those columns as in `y`. -/
theorem added_eq (y : Vec Ideal S1024x2048 .f32) (h : Vec Ideal S1024x2048 .bf16) (x4 x5 : Vec Ideal S2048x512 .bf16) (x6 : Vec Ideal S512x2048 .bf16)
    (a : Vec Ideal S1024x512 .f32) (w : Vec Ideal S512x512 .bf16) (q : Fin 4)
    (ha : ∀ (r : Fin 1024) (e : Fin 512), a (ix2 r e) = y (ix2 r (⟨512 * q.val + e.val, by omega⟩ : Fin 2048)))
    (hw : ∀ (k e : Fin 512), w (ix2 k e) = x6 (ix2 k (⟨512 * q.val + e.val, by omega⟩ : Fin 2048))) (r : Fin 1024) (e : Fin 512) :
    k0_pay1 (k0_pay235 h x4 x5) a w (ix2 r e) = sumV y h x4 x5 x6 (ix2 r (⟨512 * q.val + e.val, by omega⟩ : Fin 2048)) := by
  rw [pay1_apply]
  simp only [added, pay235_apply, ha, hw]
  rfl

/-- A load of columns from `512 q` on. -/
theorem cols_idx {n : ℕ} (o : ℕ) (inb : ∀ a, (![0, o] : Fin 2 → ℕ) a + (⟨2, ![n, 512]⟩ : Shape).size a ≤ (SRows n).size a)
    (r : Fin n) (e : Fin 512) (h : o + e.val < 2048) :
    (Rect.unit (s := SRows n) ![0, o] (⟨2, ![n, 512]⟩ : Shape).size inb).toLoadRect.idx (ix2 r e) = ix2 r (⟨o + e.val, h⟩ : Fin 2048) := by
  funext a
  fin_cases a <;> apply Fin.ext <;> simp [Rect.toLoadRect, LoadRect.idx, Rect.unit, ix2]

end Cert.Proof.Ffn

end
-- ==== Proof.Ffn.Vals.lean ====
/- What the feed-forward body's stores leave, read back: for a point that begins, continues or ends a block of rows. -/
module

public import proofs.«01_k».proof.Proof.Ffn.Step

@[expose] public section

set_option maxRecDepth 16384

noncomputable section

namespace Cert.Proof.Ffn

open Cert.FfnIdeal Cert.FfnIdeal.Gen Idealize.ShloMosaic Idealize.ShloMosaic.TcCoe Cert.Proof.Rows

/-- The four stores of columns, as the body makes them: each adds a product to what it read. -/
abbrev colsL (H : Vec Ideal S1024x2048 .bf16) (g u : Vec Ideal S2048x512 .bf16) (a0 a1 a2 a3 : Vec Ideal S1024x512 .f32)
    (w0 w1 w2 w3 : Vec Ideal S512x512 .bf16) (L : List (View.Piece (Elt Ideal) S1024x2048 .f32)) : List (View.Piece (Elt Ideal) S1024x2048 .f32) :=
  ⟨Rect.unit (s := S1024x2048) ![0, 1536] S1024x512.size inb_S1024x2048_S1024x512_0_1536, k0_pay2 (k0_pay235 H g u) a3 w3⟩
  :: ⟨Rect.unit (s := S1024x2048) ![0, 1024] S1024x512.size inb_S1024x2048_S1024x512_0_1024, k0_pay1 (k0_pay235 H g u) a2 w2⟩
  :: ⟨Rect.unit (s := S1024x2048) ![0, 512] S1024x512.size inb_S1024x2048_S1024x512_0_512, k0_pay237 H g u a1 w1⟩
  :: ⟨Rect.unit (s := S1024x2048) ![0, 0] S1024x512.size inb_S1024x2048_S1024x512_0_0, k0_pay236 H g u a0 w0⟩ :: L

/-- Columns `512 q …` of `y`. -/
abbrev Cols {n : ℕ} (q : Fin 4) (a : (⟨2, ![n, 512]⟩ : Shape).Idx → EReal) (y : (SRows n).Idx → EReal) : Prop :=
  ∀ (r : Fin n) (e : Fin 512), a (ix2 r e) = y (ix2 r (⟨512 * q.val + e.val, by omega⟩ : Fin 2048))

/-- Read back, the four stores leave the sum. -/
theorem read_colsL {sig : RefSig} {κ : Kind} {sp : Space} (v : View sig κ sp S1024x2048 .f32) (f : v.ty.Contents (Elt Ideal))
    (y : Vec Ideal S1024x2048 .f32) (h : Vec Ideal S1024x2048 .bf16) (x4 x5 : Vec Ideal S2048x512 .bf16) (x6 : Vec Ideal S512x2048 .bf16)
    {H : Vec Ideal S1024x2048 .bf16} {g u : Vec Ideal S2048x512 .bf16} {a0 a1 a2 a3 : Vec Ideal S1024x512 .f32}
    {w0 w1 w2 w3 : Vec Ideal S512x512 .bf16} {L : List (View.Piece (Elt Ideal) S1024x2048 .f32)} (hH : H = h) (hg : g = x4) (hu : u = x5)
    (ha0 : Cols 0 a0 y) (ha1 : Cols 1 a1 y) (ha2 : Cols 2 a2 y) (ha3 : Cols 3 a3 y)
    (hw0 : Cols 0 w0 x6) (hw1 : Cols 1 w1 x6) (hw2 : Cols 2 w2 x6) (hw3 : Cols 3 w3 x6) :
    v.read (Elt Ideal) (v.writes (Elt Ideal) f (colsL H g u a0 a1 a2 a3 w0 w1 w2 w3 L)) = sumV y h x4 x5 x6 := by
  subst hH hg hu
  refine read_cols v f (fun q => k0_pay1 (k0_pay235 H g u) ((![a0, a1, a2, a3] : Fin 4 → Vec Ideal S1024x512 .f32) q)
    ((![w0, w1, w2, w3] : Fin 4 → Vec Ideal S512x512 .bf16) q)) L _ fun q r e => added_eq y H g u x6 _ _ q ?_ ?_ r e
  · match q with
    | 0 => exact ha0
    | 1 => exact ha1
    | 2 => exact ha2
    | 3 => exact ha3
  · match q with
    | 0 => exact hw0
    | 1 => exact hw1
    | 2 => exact hw2
    | 3 => exact hw3

/-! ## Loads -/

theorem load_cols {sig : RefSig} {κ : Kind} {sp : Space} {n : ℕ} {φ : EltTy} {m : Memref sig κ sp (SRows n) φ} (h : m.IsWhole)
    (x : (SRows n).Idx → Elt Ideal φ) (q : Fin 4)
    (inb : ∀ a, (![0, 512 * q.val] : Fin 2 → ℕ) a + (⟨2, ![n, 512]⟩ : Shape).size a ≤ (SRows n).size a) (r : Fin n) (e : Fin 512) :
    View.readAt (Elt Ideal) m.view (Rect.unit (s := SRows n) ![0, 512 * q.val] (⟨2, ![n, 512]⟩ : Shape).size inb).toLoadRect (h.unread x) (ix2 r e)
      = x (ix2 r (⟨512 * q.val + e.val, by omega⟩ : Fin 2048)) := by
  rw [readAt_unread]
  exact congrArg x (cols_idx _ inb r e (by omega))

/-- A load of columns after stores that leave one value from those columns on. -/
theorem load_after {sig : RefSig} {κ : Kind} {sp : Space} {v : View sig κ sp S1024x2048 .f32} {f : v.ty.Contents (Elt Ideal)}
    {L : List (View.Piece (Elt Ideal) S1024x2048 .f32)} {z : EReal} (q : Fin 4)
    (inb : ∀ a, (![0, 512 * q.val] : Fin 2 → ℕ) a + S1024x512.size a ≤ S1024x2048.size a)
    (hL : ∀ (r : Fin 1024) (d : Fin 2048), 512 * q.val ≤ d.val → v.read (Elt Ideal) (v.writes (Elt Ideal) f L) (ix2 r d) = z)
    (r : Fin 1024) (e : Fin 512) :
    View.readAt (Elt Ideal) v (Rect.unit (s := S1024x2048) ![0, 512 * q.val] S1024x512.size inb).toLoadRect (v.writes (Elt Ideal) f L) (ix2 r e) = z := by
  rw [View.readAt_apply]
  exact (congrArg _ (cols_idx (512 * q.val) inb r e (by omega))).trans (hL r _ (by show 512 * q.val ≤ 512 * q.val + e.val; omega))

/-- A store of columns leaves the later columns. -/
theorem after_cols {sig : RefSig} {κ : Kind} {sp : Space} {v : View sig κ sp S1024x2048 .f32} {f : v.ty.Contents (Elt Ideal)}
    {L : List (View.Piece (Elt Ideal) S1024x2048 .f32)} {z : EReal} {o : ℕ}
    {inb : ∀ a, (![0, o] : Fin 2 → ℕ) a + S1024x512.size a ≤ S1024x2048.size a} {p : Vec Ideal S1024x512 .f32}
    (hL : ∀ (r : Fin 1024) (d : Fin 2048), o ≤ d.val → v.read (Elt Ideal) (v.writes (Elt Ideal) f L) (ix2 r d) = z)
    (r : Fin 1024) (d : Fin 2048) (hd : o + 512 ≤ d.val) :
    v.read (Elt Ideal) (v.writes (Elt Ideal) f (⟨Rect.unit (s := S1024x2048) ![0, o] S1024x512.size inb, p⟩ :: L)) (ix2 r d) = z :=
  (View.read_writes_cons_unit_of_not_mem v f inb p L (ix2 r d) rfl (1 : Fin 2) (.inr hd)).trans (hL r d (by omega))

/-! ## The loop that begins a block -/

section Args

variable (c : Dev nD) (i : grid0.Coords)
  (arg2 : Memref sig .tc .vmem S1024x2048 .f32) (harg2 : arg2.IsWhole)
  (arg3 : Memref sig .tc .vmem S1x9x2048 .f32) (harg3 : arg3.IsWhole)
  (arg4 : Memref sig .tc .vmem S1x2048 .f32) (harg4 : arg4.IsWhole)
  (arg5 : Memref sig .tc .vmem S1x2048 .f32) (harg5 : arg5.IsWhole)
  (arg6 : Memref sig .tc .vmem S2048x512 .bf16) (harg6 : arg6.IsWhole)
  (arg7 : Memref sig .tc .vmem S2048x512 .bf16) (harg7 : arg7.IsWhole)
  (arg8 : Memref sig .tc .vmem S512x2048 .bf16) (harg8 : arg8.IsWhole)
  (arg9 : Memref sig .tc .vmem S1024x2048 .f32) (harg9 : arg9.IsWhole)
  (arg10 : Memref sig .tc .vmem S1024x2048 .bf16) (harg10 : arg10.IsWhole)
  (x0 : Vec Ideal S1024x2048 .f32) (x1 : Vec Ideal S1x9x2048 .f32) (x2 x3 : Vec Ideal S1x2048 .f32)
  (x4 x5 : Vec Ideal S2048x512 .bf16) (x6 : Vec Ideal S512x2048 .bf16)
  (y : Vec Ideal S1024x2048 .f32) (h : Vec Ideal S1024x2048 .bf16)

section Loop

variable (hc : k0_cond1 i = 1#1) (v45 : Vec Ideal S1x2048 .f32) (v47 v52 : Vec Ideal S1x1x2048 .f32)

/-- One trip's stores: sixteen rows cleared, sixteen rows normalized. -/
theorem trip_eq (k : Fin k0_t1_loop.trips) :
    tripL_k0_t1 (F := Ideal) Variants.none c none i arg2 harg2 arg3 harg3 arg4 harg4 arg5 harg5 arg6 harg6 arg7 harg7 arg8 harg8 arg9 harg9
        arg10 harg10 hc v45 v47 v52 (harg2.unread x0) k
      = ([⟨Rect.unit (s := S1024x2048) (k0_off1 k) S16x2048.size (k0_off1_inb i k hc), k0_pay234 (F := Ideal)⟩],
         [⟨Rect.unit (s := S1024x2048) (k0_off1 k) S16x2048.size (k0_off1_inb i k hc),
          k0_pay233 v45 v47 v52 (View.readAt (Elt Ideal) arg2.view
            (Rect.unit (s := S1024x2048) (k0_off1 k) S16x2048.size (k0_off1_inb i k hc)).toLoadRect (harg2.unread x0))⟩]) := by
  unfold tripL_k0_t1 trip_k0_t1
  rfl

/-- Sixteen rows from row `16 k` on. -/
theorem rows_idx (k : Fin k0_t1_loop.trips) (r : Fin 16) (d : Fin 2048) (hr : 16 * k.val + r.val < 1024) :
    (Rect.unit (s := S1024x2048) (k0_off1 k) S16x2048.size (k0_off1_inb i k hc)).toLoadRect.idx (ix2 r d)
      = ix2 (⟨16 * k.val + r.val, hr⟩ : Fin 1024) d := by
  have e := k0_off1_eq k
  funext a
  apply Fin.ext
  match a with
  | ⟨0, _⟩ =>
    show k0_off1 k (0 : Fin 2) + 1 * r.val = 16 * k.val + r.val
    rw [e]; simp
  | ⟨1, _⟩ =>
    show k0_off1 k (1 : Fin 2) + 1 * d.val = d.val
    rw [e]; simp

/-- The stores of the first `k` trips leave their rows of the sum cleared, of the other buffer normalized. -/
theorem loop_read (f9 : arg9.view.ty.Contents (Elt Ideal)) (f10 : arg10.view.ty.Contents (Elt Ideal)) (r : Fin 1024) (d : Fin 2048) :
    ∀ k : ℕ, k ≤ 64 → r.val < 16 * k →
      arg9.view.read (Elt Ideal) (arg9.view.writes (Elt Ideal) f9 (pb_k0_t1 (F := Ideal) Variants.none c none i arg2 harg2 arg3 harg3 arg4 harg4
        arg5 harg5 arg6 harg6 arg7 harg7 arg8 harg8 arg9 harg9 arg10 harg10 hc v45 v47 v52 (harg2.unread x0) k).1) (ix2 r d)
          = Ideal.ofBits .f32 0x00000000#32
      ∧ arg10.view.read (Elt Ideal) (arg10.view.writes (Elt Ideal) f10 (pb_k0_t1 (F := Ideal) Variants.none c none i arg2 harg2 arg3 harg3 arg4 harg4
        arg5 harg5 arg6 harg6 arg7 harg7 arg8 harg8 arg9 harg9 arg10 harg10 hc v45 v47 v52 (harg2.unread x0) k).2) (ix2 r d)
          = modulate (fun k => x0 (ix2 r k)) d (v45 (ix2 0 d)) (v47 (ix3 0 0 d)) (v52 (ix3 0 0 d))
  | 0, _, hr => absurd hr (by omega)
  | k + 1, hk, hr => by
    have ht : k < k0_t1_loop.trips := lt_of_lt_of_eq hk (by decide)
    have e := k0_off1_eq ⟨k, ht⟩
    rw [pb_k0_t1_succ (F := Ideal) Variants.none c none i arg2 harg2 arg3 harg3 arg4 harg4 arg5 harg5 arg6 harg6 arg7 harg7 arg8 harg8 arg9 harg9
      arg10 harg10 hc v45 v47 v52 (harg2.unread x0) ⟨k, ht⟩, trip_eq]
    by_cases hr' : r.val < 16 * k
    · have ih := loop_read f9 f10 r d k (by omega) hr'
      refine ⟨Eq.trans (View.read_writes_cons_rows_of_not_mem _ _ _ _ _ _ e rfl (.inl hr')) ih.1,
        Eq.trans (View.read_writes_cons_rows_of_not_mem _ _ _ _ _ _ e rfl (.inl hr')) ih.2⟩
    · have hx : r.val = 16 * k + (r.val - 16 * k) := by omega
      refine ⟨Eq.trans (View.read_writes_cons_rows_of_mem _ _ _ _ _ _ (ix2 (⟨r.val - 16 * k, by omega⟩ : Fin 16) d) e hx rfl) (pay234_apply _),
        Eq.trans (View.read_writes_cons_rows_of_mem _ _ _ _ _ _ (ix2 (⟨r.val - 16 * k, by omega⟩ : Fin 16) d) e hx rfl) ?_⟩
      rw [pay233_apply, readAt_unread]
      refine congrArg (fun x => modulate x d _ _ _) (funext fun j => ?_)
      exact congrArg x0 ((rows_idx i hc ⟨k, ht⟩ (⟨r.val - 16 * k, by omega⟩ : Fin 16) j
        (by show 16 * k + (r.val - 16 * k) < 1024; omega)).trans (congrArg (fun r => ix2 r j) (Fin.ext hx.symm)))

end Loop

end Args

end Cert.Proof.Ffn

end
-- ==== Proof.Ffn.Cases.lean ====
/- The three kinds of point of the feed-forward kernel: what the body's stores leave in the sum and in the normalized rows. -/
module

public import proofs.«01_k».proof.Proof.Ffn.Vals

@[expose] public section

set_option maxRecDepth 16384

noncomputable section

namespace Cert.Proof.Ffn

open Cert.FfnIdeal Cert.FfnIdeal.Gen Idealize.ShloMosaic Idealize.ShloMosaic.TcCoe Cert.Proof.Rows

section Args

variable (c : Dev nD) (i : grid0.Coords)
  (arg2 : Memref sig .tc .vmem S1024x2048 .f32) (harg2 : arg2.IsWhole)
  (arg3 : Memref sig .tc .vmem S1x9x2048 .f32) (harg3 : arg3.IsWhole)
  (arg4 : Memref sig .tc .vmem S1x2048 .f32) (harg4 : arg4.IsWhole)
  (arg5 : Memref sig .tc .vmem S1x2048 .f32) (harg5 : arg5.IsWhole)
  (arg6 : Memref sig .tc .vmem S2048x512 .bf16) (harg6 : arg6.IsWhole)
  (arg7 : Memref sig .tc .vmem S2048x512 .bf16) (harg7 : arg7.IsWhole)
  (arg8 : Memref sig .tc .vmem S512x2048 .bf16) (harg8 : arg8.IsWhole)
  (arg9 : Memref sig .tc .vmem S1024x2048 .f32) (harg9 : arg9.IsWhole)
  (arg10 : Memref sig .tc .vmem S1024x2048 .bf16) (harg10 : arg10.IsWhole)
  (x0 : Vec Ideal S1024x2048 .f32) (x1 : Vec Ideal S1x9x2048 .f32) (x2 x3 : Vec Ideal S1x2048 .f32)
  (x4 x5 : Vec Ideal S2048x512 .bf16) (x6 : Vec Ideal S512x2048 .bf16)
  (y : Vec Ideal S1024x2048 .f32) (h : Vec Ideal S1024x2048 .bf16)

/-- The four stores of columns of a point that does not begin a block. -/
abbrev colsAt : List (View.Piece (Elt Ideal) S1024x2048 .f32) :=
  colsL (View.readAt (Elt Ideal) arg10.view (Rect.unit (s := S1024x2048) ![0, 0] S1024x2048.size inb_S1024x2048_S1024x2048_0_0).toLoadRect (harg10.unread h))
    (View.readAt (Elt Ideal) arg6.view (Rect.unit (s := S2048x512) ![0, 0] S2048x512.size inb_S2048x512_S2048x512_0_0).toLoadRect (harg6.unread x4))
    (View.readAt (Elt Ideal) arg7.view (Rect.unit (s := S2048x512) ![0, 0] S2048x512.size inb_S2048x512_S2048x512_0_0).toLoadRect (harg7.unread x5))
    (View.readAt (Elt Ideal) arg9.view (Rect.unit (s := S1024x2048) ![0, 0] S1024x512.size inb_S1024x2048_S1024x512_0_0).toLoadRect (harg9.unread y))
    (View.readAt (Elt Ideal) arg9.view (Rect.unit (s := S1024x2048) ![0, 512] S1024x512.size inb_S1024x2048_S1024x512_0_512).toLoadRect (harg9.unread y))
    (View.readAt (Elt Ideal) arg9.view (Rect.unit (s := S1024x2048) ![0, 1024] S1024x512.size inb_S1024x2048_S1024x512_0_1024).toLoadRect (harg9.unread y))
    (View.readAt (Elt Ideal) arg9.view (Rect.unit (s := S1024x2048) ![0, 1536] S1024x512.size inb_S1024x2048_S1024x512_0_1536).toLoadRect (harg9.unread y))
    (View.readAt (Elt Ideal) arg8.view (Rect.unit (s := S512x2048) ![0, 0] S512x512.size inb_S512x2048_S512x512_0_0).toLoadRect (harg8.unread x6))
    (View.readAt (Elt Ideal) arg8.view (Rect.unit (s := S512x2048) ![0, 512] S512x512.size inb_S512x2048_S512x512_0_512).toLoadRect (harg8.unread x6))
    (View.readAt (Elt Ideal) arg8.view (Rect.unit (s := S512x2048) ![0, 1024] S512x512.size inb_S512x2048_S512x512_0_1024).toLoadRect (harg8.unread x6))
    (View.readAt (Elt Ideal) arg8.view (Rect.unit (s := S512x2048) ![0, 1536] S512x512.size inb_S512x2048_S512x512_0_1536).toLoadRect (harg8.unread x6)) []

theorem colsAt_read (f : arg9.view.ty.Contents (Elt Ideal)) :
    arg9.view.read (Elt Ideal) (arg9.view.writes (Elt Ideal) f
      (colsAt arg6 harg6 arg7 harg7 arg8 harg8 arg9 harg9 arg10 harg10 x4 x5 x6 y h)) = sumV y h x4 x5 x6 :=
  read_colsL arg9.view f y h x4 x5 x6 (load_whole harg10 h _) (load_whole harg6 x4 _) (load_whole harg7 x5 _)
    (load_cols harg9 y 0 _) (load_cols harg9 y 1 _) (load_cols harg9 y 2 _) (load_cols harg9 y 3 _)
    (load_cols harg8 x6 0 _) (load_cols harg8 x6 1 _) (load_cols harg8 x6 2 _) (load_cols harg8 x6 3 _)

/-- A point in the middle of a block adds its hidden columns' product to the sum. -/
theorem runB_read (hc0 : ¬cond0_0 i) (hc1 : ¬cond0_1 i) :
    arg9.view.read (Elt Ideal) (arg9.view.writes (Elt Ideal) (harg9.unread y)
      (runB (F := Ideal) c i arg2 harg2 arg3 harg3 arg4 harg4 arg5 harg5 arg6 harg6 arg7 harg7 arg8 harg8 arg9 harg9 arg10 harg10 hc0 hc1 x0 x1 x2 x3 x4 x5 x6 y h).1) = sumV y h x4 x5 x6 :=
  colsAt_read arg6 harg6 arg7 harg7 arg8 harg8 arg9 harg9 arg10 harg10 x4 x5 x6 y h (harg9.unread y)

/-- The row of coefficients, as the body reads it. -/
abbrev coefAt : FVec Ideal S1x2048 .f32 :=
  k0_pay5
    (View.readAt (Elt Ideal) arg3.view (Rect.unit (s := S1x9x2048) ![0, 8, 0] S1x1x2048.size inb_S1x9x2048_S1x1x2048_0_8_0).toLoadRect (harg3.unread x1))
    (View.readAt (Elt Ideal) arg5.view (Rect.unit (s := S1x2048) ![0, 0] S1x2048.size inb_S1x2048_S1x2048_0_0).toLoadRect (harg5.unread x3))

theorem coefAt_apply (d : Fin 2048) :
    coefAt arg3 harg3 arg5 harg5 x1 x3 (ix2 0 d) = Ideal.ofBits .f32 0x3F000000#32 * x1 (ix3 0 8 d) * x3 (ix2 0 d) := by
  unfold coefAt
  simp only [readAt_unread, pay5_apply]
  pointwise

set_option maxHeartbeats 4000000 in
/-- The stores of a point that ends a block are the four of columns, then the groups of eight rows finished over them. -/
theorem chain (hc0 : ¬cond0_0 i) (hc1 : cond0_1 i) : Chain arg9.view (fun B => View.readAt (Elt Ideal) arg2.view B (harg2.unread x0))
    (coefAt arg3 harg3 arg5 harg5 x1 x3) (colsAt arg6 harg6 arg7 harg7 arg8 harg8 arg9 harg9 arg10 harg10 x4 x5 x6 y h) 128
    (runC (F := Ideal) c i arg2 harg2 arg3 harg3 arg4 harg4 arg5 harg5 arg6 harg6 arg7 harg7 arg8 harg8 arg9 harg9 arg10 harg10 hc0 hc1 x0 x1 x2 x3 x4 x5 x6 y h).1 := by
  iterate 128 refine Chain.succ _ _ (by omega) ?_
  exact Chain.zero

/-- A point that ends a block leaves the sum's rows finished. -/
theorem runC_read (hc0 : ¬cond0_0 i) (hc1 : cond0_1 i) :
    arg9.view.read (Elt Ideal) (arg9.view.writes (Elt Ideal) (harg9.unread y)
      (runC (F := Ideal) c i arg2 harg2 arg3 harg3 arg4 harg4 arg5 harg5 arg6 harg6 arg7 harg7 arg8 harg8 arg9 harg9 arg10 harg10 hc0 hc1 x0 x1 x2 x3 x4 x5 x6 y h).1) = finV x0 x1 x3 (sumV y h x4 x5 x6) := by
  have hC := chain c i arg2 harg2 arg3 harg3 arg4 harg4 arg5 harg5 arg6 harg6 arg7 harg7 arg8 harg8 arg9 harg9 arg10 harg10 x0 x1 x2 x3 x4 x5 x6 y h hc0 hc1
  funext j
  obtain ⟨r, d, rfl⟩ : ∃ (r : Fin 1024) (d : Fin 2048), j = ix2 r d := ⟨j 0, j 1, eq_ix2 j⟩
  rw [View.read_writes_apply_eq_canon _ _ _ _ (hC.covers r d (by omega))]
  rw [hC.canon_eq (X := x0) (fun B j => ?_) r d, if_pos (by omega), coefAt_apply]
  · refine congrArg (fun y => finish _ y d _) (funext fun e => ?_)
    rw [← View.read_writes_junk_eq_canon arg9.view, colsAt_read]
    rfl
  · show View.readAt (Elt Ideal) arg2.view B (harg2.unread x0) j = _
    rw [readAt_unread]

/-- The cleared sum. -/
abbrev zeroV : Vec Ideal S1024x2048 .f32 := fun _ => Ideal.ofBits .f32 0x00000000#32

/-- A point that begins a block leaves the block's rows normalized. -/
theorem runA_rows (hc0 : cond0_0 i) (hc1 : ¬cond0_1 i) :
    arg10.view.read (Elt Ideal) (arg10.view.writes (Elt Ideal) (harg10.unread h)
      (runA (F := Ideal) c i arg2 harg2 arg3 harg3 arg4 harg4 arg5 harg5 arg6 harg6 arg7 harg7 arg8 harg8 arg9 harg9 arg10 harg10 hc0 hc1 x0 x1 x2 x3 x4 x5 x6 y h).2.1) = rowsV x0 x1 x2 := by
  funext j
  obtain ⟨r, d, rfl⟩ : ∃ (r : Fin 1024) (d : Fin 2048), j = ix2 r d := ⟨j 0, j 1, eq_ix2 j⟩
  have e : Scf.trips k0_t1_loop.lb k0_t1_loop.ub k0_t1_loop.st = 64 := by decide
  refine (loop_read c i arg2 harg2 arg3 harg3 arg4 harg4 arg5 harg5 arg6 harg6 arg7 harg7 arg8 harg8 arg9 harg9 arg10 harg10 x0 hc0 _ _ _ (harg9.unread y) (harg10.unread h) r d
    (Scf.trips k0_t1_loop.lb k0_t1_loop.ub k0_t1_loop.st) e.le (by rw [e]; omega)).2.trans ?_
  simp only [readAt_unread]
  unfold rowsV
  pointwise

/-- A point that begins a block leaves in the sum its hidden columns' product alone. -/
theorem runA_read (hc0 : cond0_0 i) (hc1 : ¬cond0_1 i) :
    arg9.view.read (Elt Ideal) (arg9.view.writes (Elt Ideal) (harg9.unread y)
      (runA (F := Ideal) c i arg2 harg2 arg3 harg3 arg4 harg4 arg5 harg5 arg6 harg6 arg7 harg7 arg8 harg8 arg9 harg9 arg10 harg10 hc0 hc1 x0 x1 x2 x3 x4 x5 x6 y h).1) = sumV zeroV (rowsV x0 x1 x2) x4 x5 x6 := by
  have e : Scf.trips k0_t1_loop.lb k0_t1_loop.ub k0_t1_loop.st = 64 := by decide
  have h0 := fun (r : Fin 1024) (d : Fin 2048) (_ : 0 ≤ d.val) => (loop_read c i arg2 harg2 arg3 harg3 arg4 harg4 arg5 harg5 arg6 harg6 arg7 harg7 arg8 harg8 arg9 harg9 arg10 harg10 x0 hc0
    (View.readAt (Elt Ideal) arg4.view (Rect.unit (s := S1x2048) ![0, 0] S1x2048.size inb_S1x2048_S1x2048_0_0).toLoadRect (harg4.unread x2))
    (View.readAt (Elt Ideal) arg3.view (Rect.unit (s := S1x9x2048) ![0, 7, 0] S1x1x2048.size inb_S1x9x2048_S1x1x2048_0_7_0).toLoadRect (harg3.unread x1))
    (View.readAt (Elt Ideal) arg3.view (Rect.unit (s := S1x9x2048) ![0, 6, 0] S1x1x2048.size inb_S1x9x2048_S1x1x2048_0_6_0).toLoadRect (harg3.unread x1))
    (harg9.unread y) (harg10.unread h) r d
    (Scf.trips k0_t1_loop.lb k0_t1_loop.ub k0_t1_loop.st) e.le (by rw [e]; omega)).1
  refine read_colsL arg9.view _ zeroV (rowsV x0 x1 x2) x4 x5 x6 ?_ (load_whole harg6 x4 _) (load_whole harg7 x5 _)
    ?_ ?_ ?_ ?_ (load_cols harg8 x6 0 _) (load_cols harg8 x6 1 _) (load_cols harg8 x6 2 _) (load_cols harg8 x6 3 _)
  · refine Eq.trans (funext fun j => ?_) (runA_rows c i arg2 harg2 arg3 harg3 arg4 harg4 arg5 harg5 arg6 harg6 arg7 harg7 arg8 harg8 arg9 harg9 arg10 harg10 x0 x1 x2 x3 x4 x5 x6 y h hc0 hc1)
    exact congrArg _ (whole_idx _ j)
  · exact load_after 0 _ h0
  · exact load_after 1 _ (after_cols h0)
  · exact load_after 2 _ (after_cols (after_cols h0))
  · exact load_after 3 _ (after_cols (after_cols (after_cols h0)))

end Args

end Cert.Proof.Ffn

end
-- ==== Proof.Ffn.Frame.lean ====
/- The feed-forward kernel's run over its grid: what the sum and the normalized rows hold after every point, and the run of
   the program with its arrays named. -/
module

public import proofs.«01_k».proof.Proof.Ffn.Cases

@[expose] public section

set_option maxRecDepth 16384

noncomputable section

namespace Cert.Proof.Ffn

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## What the points leave -/

/-- The sum a point leaves, over a sum and normalized rows. -/
abbrev stepSum (c : Dev nD) (t : Fin cfg0.N) (y : Vec Ideal S1024x2048 .f32) (h : Vec Ideal S1024x2048 .bf16) : Vec Ideal S1024x2048 .f32 :=
  sumV y h (iblk m c 4 t) (iblk m c 5 t) (iblk m c 6 t)

/-- The normalized rows of a point's block. -/
abbrev rowsAt (c : Dev nD) (t : Fin cfg0.N) : Vec Ideal S1024x2048 .bf16 := rowsV (iblk m c 0 t) (iblk m c 1 t) (iblk m c 2 t)

/-- The sum and the normalized rows after point `n`: begun at the first point of a block, added to at the others, the rows
    of the sum finished at the last. -/
def outsAt (c : Dev nD) : (n : ℕ) → n < cfg0.N → Vec Ideal S1024x2048 .f32 × Vec Ideal S1024x2048 .bf16
  | 0, hn => (stepSum m c ⟨0, hn⟩ zeroV (rowsAt m c ⟨0, hn⟩), rowsAt m c ⟨0, hn⟩)
  | n + 1, hn =>
    have p := outsAt c n (Nat.lt_of_succ_lt hn)
    if (n + 1) % 11 = 0 then (stepSum m c ⟨n + 1, hn⟩ zeroV (rowsAt m c ⟨n + 1, hn⟩), rowsAt m c ⟨n + 1, hn⟩)
    else if (n + 1) % 11 = 10 then
      (finV (iblk m c 0 ⟨n + 1, hn⟩) (iblk m c 1 ⟨n + 1, hn⟩) (iblk m c 3 ⟨n + 1, hn⟩) (stepSum m c ⟨n + 1, hn⟩ p.1 p.2), p.2)
    else (stepSum m c ⟨n + 1, hn⟩ p.1 p.2, p.2)

theorem outsAt_A (c : Dev nD) (t : Fin cfg0.N) (h0 : t.val % 11 = 0) :
    outsAt m c t.val t.isLt = (stepSum m c t zeroV (rowsAt m c t), rowsAt m c t) := by
  obtain ⟨n, hn⟩ := t
  cases n with
  | zero => rfl
  | succ n => exact if_pos h0

theorem outsAt_B (c : Dev nD) (t : Fin cfg0.N) (h0 : ¬t.val % 11 = 0) (h1 : ¬t.val % 11 = 10) :
    outsAt m c t.val t.isLt = (stepSum m c t (outsAt m c (t.val - 1) (Nat.lt_of_le_of_lt (Nat.sub_le _ _) t.isLt)).1
      (outsAt m c (t.val - 1) (Nat.lt_of_le_of_lt (Nat.sub_le _ _) t.isLt)).2,
      (outsAt m c (t.val - 1) (Nat.lt_of_le_of_lt (Nat.sub_le _ _) t.isLt)).2) := by
  obtain ⟨n, hn⟩ := t
  cases n with
  | zero => exact absurd (Nat.zero_mod _) h0
  | succ n => exact (if_neg h0).trans (if_neg h1)

theorem outsAt_C (c : Dev nD) (t : Fin cfg0.N) (h0 : ¬t.val % 11 = 0) (h1 : t.val % 11 = 10) :
    outsAt m c t.val t.isLt = (finV (iblk m c 0 t) (iblk m c 1 t) (iblk m c 3 t)
      (stepSum m c t (outsAt m c (t.val - 1) (Nat.lt_of_le_of_lt (Nat.sub_le _ _) t.isLt)).1
        (outsAt m c (t.val - 1) (Nat.lt_of_le_of_lt (Nat.sub_le _ _) t.isLt)).2),
      (outsAt m c (t.val - 1) (Nat.lt_of_le_of_lt (Nat.sub_le _ _) t.isLt)).2) := by
  obtain ⟨n, hn⟩ := t
  cases n with
  | zero => exact absurd (Nat.zero_mod _) h0
  | succ n => exact (if_neg h0).trans (if_pos h1)

/-- Before a point: at first what the launch hands over, then the buffer of normalized rows as the point before left it. -/
def Phi (c : Dev nD) : (n : ℕ) → n ≤ cfg0.N → sProp 𝕄
  | 0, _ => Pipeline.ΦA spec0 c
  | n + 1, hn => iprop(owns (c : Thread nD τ) scM0_0 fullShare ((outsAt m c n hn).2) ∗ (∃ r, prngReg c r))

theorem Phi_pos (c : Dev nD) (n : ℕ) (h : n ≤ cfg0.N) (hz : n ≠ 0) :
    Phi m c n h = iprop(owns (c : Thread nD τ) scM0_0 fullShare ((outsAt m c (n - 1) (by omega)).2) ∗ (∃ r, prngReg c r)) := by
  cases n with
  | zero => exact absurd rfl hz
  | succ n => rfl

/-- Whatever the point, the buffer of normalized rows is held at some contents. -/
theorem Phi_any (c : Dev nD) (n : ℕ) (h : n ≤ cfg0.N) : Phi m c n h ⊢ Pipeline.ΦA spec0 c := by
  cases n with
  | zero => exact Idealize.SL.BI.Entails.refl _
  | succ n =>
    rw [Phi_pos m c _ _ (Nat.succ_ne_zero n), PhiA0_eq]
    iintro ⟨HS, Hg⟩
    isplitl [HS]
    · iexists _; iexact HS
    iexact Hg

/-- The launch's data: the inputs' buffers keep their blocks, the result's holds the sum. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt m c t.val t.isLt).1
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = Phi m c t.val (Nat.le_of_lt t.isLt) := by
  dsimp only [dats]; exact Pipeline.Dat.Φ_castSucc (Phi m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- A block of the result is written back at its last point only. -/
theorem flush7 : ∀ t : Fin cfg0.N, (cfg0.win 7).flush t = decide (t.val % 11 = 10) := (by decide +kernel : ∀ t : Fin grid0.N, _)

/-- Inside a block the sum is as the point before left it. -/
theorem before0_7 (c : Dev nD) (t : Fin cfg0.N) (h0 : ¬t.val % 11 = 0) (d) :
    (dats m 0 c).before 7 t d = (outsAt m c (t.val - 1) (Nat.lt_of_le_of_lt (Nat.sub_le _ _) t.isLt)).1 := by
  rw [Dat.before_of_pos (dats m 0 c) 7 t (fun e => h0 (by rw [e])) ((cfg0.win 7).fetch_out rfl t), flush7,
    if_neg (by simp only [decide_eq_true_eq]; omega)]
  show (dats m 0 c).after 7 _ = _
  rw [after0_7]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

/-- A buffer held at given contents is its ownership. -/
theorem owned {sp : Space} {s : Shape} {e : EltTy} {mr : Memref sig .tc sp s e} {c : Dev nD} {f : mr.view.ty.Contents (Elt Ideal)}
    {x : s.Idx → Elt Ideal e} (hx : mr.view.read (Elt Ideal) f = x) :
    (iprop(mr.view.loc (c : Thread nD τ) ↦[mr.view.set]{fullShare} f) : sProp 𝕄) ⊢ owns (c : Thread nD τ) mr fullShare x := by
  unfold owns
  iintro H
  iexists _; isplitr
  swap; · iexact H
  ipureintro; exact hx

/-- What a point's body does: over the inputs' blocks, a sum and rows, it leaves a sum and rows. -/
abbrev Does (c : Dev nD) (t : Fin cfg0.N) (y : Vec Ideal S1024x2048 .f32) (h : Vec Ideal S1024x2048 .bf16)
    (y' : Vec Ideal S1024x2048 .f32) (h' : Vec Ideal S1024x2048 .bf16) : Prop :=
  iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t)
    ∗ owns (c : Thread nD τ) (ms0_7 t) fullShare y ∗ owns (c : Thread nD τ) scM0_0 fullShare h)
  ⊢ wp frame (wpE (defs₀ (F := Ideal)) Variants.none c none) Set.univ (bodyAt0 t)
    (fun _ => (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t)
    ∗ owns (c : Thread nD τ) (ms0_7 t) fullShare y' ∗ owns (c : Thread nD τ) scM0_0 fullShare h') : sProp 𝕄))

end Cert.Proof.Ffn

end
-- ==== Proof.Ffn.Quiet.lean ====
/- The feed-forward kernel's frame at any values of the floats: whatever the buffers of the sum and of the normalized rows
   hold, every point runs and leaves its inputs' blocks as they were. -/
module

public import proofs.«01_k».proof.Proof.Ffn.RunA
public import proofs.«01_k».proof.Proof.Ffn.RunB
public import proofs.«01_k».proof.Proof.Ffn.RunC
public import Idealize.ShloMosaic.Lib.Claim

@[expose] public section

set_option maxRecDepth 16384

noncomputable section

namespace Cert.Proof.Ffn

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One point -/

/-- The buffer of normalized rows is a whole one. -/
theorem whole_rows : scM0_0.IsWhole := Memref.isWhole_whole _

/-- The inputs' buffers of a point, each whole and at its block. -/
abbrev Given (c : Dev nD) (t : Fin cfg0.N) : sProp 𝕄 :=
  Ins (F := F) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t) (iblk m c 6 t)

/-- A point of any kind runs from any sum `y` and any rows `h`, to some sum and some rows. -/
theorem runs (c : Dev nD) (t : Fin cfg0.N) (y : Vec F S1024x2048 .f32) (h : Vec F S1024x2048 .bf16) :
    iprop(Given m c t ∗ ((ms0_7 t).view.loc (c : Thread nD τ) ↦[(ms0_7 t).view.set]{fullShare} (hs0_7 t).unread y)
      ∗ (scM0_0.view.loc (c : Thread nD τ) ↦[scM0_0.view.set]{fullShare} whole_rows.unread h))
    ⊢ wp frame (wpE (defs₀ (F := F)) Variants.none c none) Set.univ (bodyAt0 t)
      (fun _ => (iprop(Given m c t ∗ (∃ f, (ms0_7 t).view.loc (c : Thread nD τ) ↦[(ms0_7 t).view.set]{fullShare} f)
        ∗ (∃ g, scM0_0.view.loc (c : Thread nD τ) ↦[scM0_0.view.set]{fullShare} g)) : sProp 𝕄)) := by
  by_cases h0 : t.val % 11 = 0
  · iintro H
    iapply wp_wand_r
    isplitl [H]
    · iapply ((runA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 whole_rows
        ((hcond0_0 t).mpr h0) (fun h => by have := (hcond0_1 t).mp h; omega) (iblk m c 0 t) (iblk m c 1 t) (iblk m c 2 t) (iblk m c 3 t) (iblk m c 4 t) (iblk m c 5 t) (iblk m c 6 t) y h).2.2 Set.univ)
      iexact H
    iintro %_ ⟨H, H7, H8⟩
    isplitl [H]; · iexact H
    isplitl [H7]; · iexists _; iexact H7
    iexists _; iexact H8
  · by_cases h1 : t.val % 11 = 10
    · iintro H
      iapply wp_wand_r
      isplitl [H]
      · iapply ((runC (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 whole_rows
          (fun h => h0 ((hcond0_0 t).mp h)) ((hcond0_1 t).mpr h1) (iblk m c 0 t) (iblk m c 1 t) (iblk m c 2 t) (iblk m c 3 t) (iblk m c 4 t) (iblk m c 5 t) (iblk m c 6 t) y h).2 Set.univ)
        iexact H
      iintro %_ ⟨H, H7, H8⟩
      isplitl [H]; · iexact H
      isplitl [H7]; · iexists _; iexact H7
      iexists _; iexact H8
    · iintro H
      iapply wp_wand_r
      isplitl [H]
      · iapply ((runB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 whole_rows
          (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) y h).2 Set.univ)
        iexact H
      iintro %_ ⟨H, H7, H8⟩
      isplitl [H]; · iexact H
      isplitl [H7]; · iexists _; iexact H7
      iexists _; iexact H8

/-! ## The launch -/

/-- Nothing is said of what the result's buffer holds. -/
def unsaid : Fin 8 → Bool := fun w => w.val == 7

/-- The launch's data: the inputs' buffers keep their blocks. -/
def held (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ _ := Pipeline.ΦA spec0 c
  q _ := fullShare
  owed _ := 0

theorem held_A (c : Dev nD) (w : Fin cfg0.W) : (held m 0 c).A w = V m c (Pipeline.arrRef spec0 w) := by
  dsimp only [held]
theorem held_after0 (c : Dev nD) (t : Fin cfg0.N) : (held m 0 c).after 0 t = iblk m c 0 t := by dsimp only [held]
theorem held_after1 (c : Dev nD) (t : Fin cfg0.N) : (held m 0 c).after 1 t = iblk m c 1 t := by dsimp only [held]
theorem held_after2 (c : Dev nD) (t : Fin cfg0.N) : (held m 0 c).after 2 t = iblk m c 2 t := by dsimp only [held]
theorem held_after3 (c : Dev nD) (t : Fin cfg0.N) : (held m 0 c).after 3 t = iblk m c 3 t := by dsimp only [held]
theorem held_after4 (c : Dev nD) (t : Fin cfg0.N) : (held m 0 c).after 4 t = iblk m c 4 t := by dsimp only [held]
theorem held_after5 (c : Dev nD) (t : Fin cfg0.N) : (held m 0 c).after 5 t = iblk m c 5 t := by dsimp only [held]
theorem held_after6 (c : Dev nD) (t : Fin cfg0.N) : (held m 0 c).after 6 t = iblk m c 6 t := by dsimp only [held]
theorem held_before0 (c : Dev nD) (t : Fin cfg0.N) (d) : (held m 0 c).before 0 t d = iblk m c 0 t :=
  before0_0_of m (held m 0 c) (held_A m c 0) (held_after0 m c) t d
theorem held_before1 (c : Dev nD) (t : Fin cfg0.N) (d) : (held m 0 c).before 1 t d = iblk m c 1 t :=
  before0_1_of m (held m 0 c) (held_A m c 1) (held_after1 m c) t d
theorem held_before2 (c : Dev nD) (t : Fin cfg0.N) (d) : (held m 0 c).before 2 t d = iblk m c 2 t :=
  before0_2_of m (held m 0 c) (held_A m c 2) (held_after2 m c) t d
theorem held_before3 (c : Dev nD) (t : Fin cfg0.N) (d) : (held m 0 c).before 3 t d = iblk m c 3 t :=
  before0_3_of m (held m 0 c) (held_A m c 3) (held_after3 m c) t d
theorem held_before4 (c : Dev nD) (t : Fin cfg0.N) (d) : (held m 0 c).before 4 t d = iblk m c 4 t :=
  before0_4_of m (held m 0 c) (held_A m c 4) (held_after4 m c) t d
theorem held_before5 (c : Dev nD) (t : Fin cfg0.N) (d) : (held m 0 c).before 5 t d = iblk m c 5 t :=
  before0_5_of m (held m 0 c) (held_A m c 5) (held_after5 m c) t d
theorem held_before6 (c : Dev nD) (t : Fin cfg0.N) (d) : (held m 0 c).before 6 t d = iblk m c 6 t :=
  before0_6_of m (held m 0 c) (held_A m c 6) (held_after6 m c) t d

/-- What the body is called with at a point, -/
def heldPre (c : Dev nD) (t : Fin cfg0.N) : sProp 𝕄 :=
  iprop((held m 0 c).Φ t.castSucc ∗ (held m 0 c).owesAt () t.castSucc
    ∗ (∃ d, owns (c : Thread nD τ) (ms0_0 t) fullShare ((held m 0 c).before 0 t d))
    ∗ (∃ d, owns (c : Thread nD τ) (ms0_1 t) fullShare ((held m 0 c).before 1 t d))
    ∗ (∃ d, owns (c : Thread nD τ) (ms0_2 t) fullShare ((held m 0 c).before 2 t d))
    ∗ (∃ d, owns (c : Thread nD τ) (ms0_3 t) fullShare ((held m 0 c).before 3 t d))
    ∗ (∃ d, owns (c : Thread nD τ) (ms0_4 t) fullShare ((held m 0 c).before 4 t d))
    ∗ (∃ d, owns (c : Thread nD τ) (ms0_5 t) fullShare ((held m 0 c).before 5 t d))
    ∗ (∃ d, owns (c : Thread nD τ) (ms0_6 t) fullShare ((held m 0 c).before 6 t d))
    ∗ (∃ d, owns (c : Thread nD τ) (ms0_7 t) fullShare d))

/-- and what it leaves. -/
def heldPost (c : Dev nD) (t : Fin cfg0.N) : sProp 𝕄 :=
  iprop((held m 0 c).Φ t.succ ∗ (held m 0 c).owesAt () t.succ
    ∗ owns (c : Thread nD τ) (ms0_0 t) fullShare ((held m 0 c).after 0 t)
    ∗ owns (c : Thread nD τ) (ms0_1 t) fullShare ((held m 0 c).after 1 t)
    ∗ owns (c : Thread nD τ) (ms0_2 t) fullShare ((held m 0 c).after 2 t)
    ∗ owns (c : Thread nD τ) (ms0_3 t) fullShare ((held m 0 c).after 3 t)
    ∗ owns (c : Thread nD τ) (ms0_4 t) fullShare ((held m 0 c).after 4 t)
    ∗ owns (c : Thread nD τ) (ms0_5 t) fullShare ((held m 0 c).after 5 t)
    ∗ owns (c : Thread nD τ) (ms0_6 t) fullShare ((held m 0 c).after 6 t)
    ∗ (∃ d, owns (c : Thread nD τ) (ms0_7 t) fullShare d))

set_option maxHeartbeats 4000000 in
/-- At every point the body, from any sum and any rows, leaves its inputs' blocks as they were. -/
theorem held_body (c : Dev nD) (t : Fin cfg0.N) :
    heldPre m c t ⊢ wp frame (wpE (defs₀ (F := F)) Variants.none c none) Set.univ (bodyAt0 t) (fun _ => heldPost m c t) := by
  unfold heldPre heldPost
  simp only [held_before0, held_before1, held_before2, held_before3, held_before4, held_before5, held_before6]
  rw [show (held m 0 c).Φ t.succ = (held m 0 c).Φ t.castSucc from rfl,
    show (held m 0 c).owesAt () t.succ = (held m 0 c).owesAt () t.castSucc from rfl,
    held_after0, held_after1, held_after2, held_after3, held_after4, held_after5, held_after6,
    show (held m 0 c).Φ t.castSucc = Pipeline.ΦA spec0 c from rfl, PhiA0_eq]
  unfold owns
  iintro ⟨⟨⟨%h, %f8, %hf8, H8⟩, Hg⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%y, %f7, %hf7, H7⟩⟩
  obtain rfl := (hs0_0 t).eq_unread hf0; obtain rfl := (hs0_1 t).eq_unread hf1; obtain rfl := (hs0_2 t).eq_unread hf2; obtain rfl := (hs0_3 t).eq_unread hf3; obtain rfl := (hs0_4 t).eq_unread hf4; obtain rfl := (hs0_5 t).eq_unread hf5; obtain rfl := (hs0_6 t).eq_unread hf6; obtain rfl := (hs0_7 t).eq_unread hf7
  obtain rfl := whole_rows.eq_unread hf8
  iapply wp_wand_r
  isplitl [H0 H1 H2 H3 H4 H5 H6 H7 H8]
  · iapply (runs m c t y h)
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexact H7
    iexact H8
  iintro %_ ⟨⟨G0, G1, G2, G3, G4, G5, G6⟩, ⟨%f, G7⟩, ⟨%g, G8⟩⟩
  isplitl [G8 Hg]
  · isplitl [G8]
    · iexists _, g; isplitr; · ipureintro; rfl
      iexact G8
    iexact Hg
  isplitl [Ho]; · iexact Ho
  isplitl [G0]
  · iexists _; isplitr; · ipureintro; exact (hs0_0 t).read_unread _
    iexact G0
  isplitl [G1]
  · iexists _; isplitr; · ipureintro; exact (hs0_1 t).read_unread _
    iexact G1
  isplitl [G2]
  · iexists _; isplitr; · ipureintro; exact (hs0_2 t).read_unread _
    iexact G2
  isplitl [G3]
  · iexists _; isplitr; · ipureintro; exact (hs0_3 t).read_unread _
    iexact G3
  isplitl [G4]
  · iexists _; isplitr; · ipureintro; exact (hs0_4 t).read_unread _
    iexact G4
  isplitl [G5]
  · iexists _; isplitr; · ipureintro; exact (hs0_5 t).read_unread _
    iexact G5
  isplitl [G6]
  · iexists _; isplitr; · ipureintro; exact (hs0_6 t).read_unread _
    iexact G6
  iexists _, f; isplitr; · ipureintro; rfl
  iexact G7

/-- The body's row at a point is the body on the point's buffers. -/
theorem held_row (t : Fin cfg0.N) : defs₀ (F := F) .tc cfg0.body (cfg0.bodyArgs t (cfg0.slots t)) = bodyAt0 t := by
  unfold defs₀; rw [Defs.onTc_tc]

theorem held_obligation (c : Dev nD) : BodyObligation (held (F := F) m 0 c) (defs₀ (F := F)) Variants.none () Set.univ unsaid := fun t => by
  rw [bigSep_W0, bigSep_W0, held_row]
  exact triple_restated (held_body m c t) rfl .rfl fun _ => .rfl

set_option backward.isDefEq.respectTransparency.types false in
/-- The program runs, and every array no window writes is as it was, no semaphore signalled. -/
theorem held_run : θ_run defs (onTc (τ := τ) (main (F := F))) (s₀ m ρ)
    (fun r => (Pipeline.RDat.FramePost (cfgs 0) (fun c => (held m 0 c).toRForget unsaid) (V m)) r ∧ r.2.sem = fun _ => 0) :=
  Pipeline.θ_run_frame_forget (Q' := _) cfgs (held m) (0 : Fin 1) launch0 (defs₀ (F := F)) Variants.none unsaid m ρ main
    (hbody := fun c => (held_obligation m c).loose) (hshare := fun c => (held m 0 c).share_full fun _ => rfl)
    (howed := fun _ _ => rfl) (V := V m) (hmain := hmain m Variants.none) (hA := held_A m) (hΦ := fun _ _ => rfl)

/-- The run leaves every argument as it was and no semaphore signalled. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩, h.2⟩) (held_run m ρ)

end Cert.Proof.Ffn

end
-- ==== Proof.Ffn.Launch.lean ====
/- The feed-forward kernel's launch: every point does what the launch's data say, so the program runs and leaves the arrays
   they name. -/
module

public import proofs.«01_k».proof.Proof.Ffn.Frame
public import proofs.«01_k».proof.Proof.Ffn.Quiet
public import Idealize.ShloMosaic.Lib.Pipeline.Value
public import Idealize.ShloMosaic.Lib.Claim

@[expose] public section

set_option maxRecDepth 16384

noncomputable section

namespace Cert.Proof.Ffn

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The inputs' buffers of a point, each whole and at its block. -/
abbrev InsAt (c : Dev nD) (t : Fin cfg0.N) : sProp 𝕄 :=
  Ins (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (iblk m c 0 t) (iblk m c 1 t) (iblk m c 2 t) (iblk m c 3 t) (iblk m c 4 t) (iblk m c 5 t) (iblk m c 6 t)

/-- A run of the body from buffers at given contents to buffers at others does what the contents read. -/
theorem does_of (c : Dev nD) (t : Fin cfg0.N) {y y' : Vec Ideal S1024x2048 .f32} {h h' : Vec Ideal S1024x2048 .bf16}
    {f : (ms0_7 t).view.ty.Contents (Elt Ideal)} {g : scM0_0.view.ty.Contents (Elt Ideal)}
    (hf : (ms0_7 t).view.read (Elt Ideal) f = y') (hg : scM0_0.view.read (Elt Ideal) g = h')
    (hr : iprop(InsAt m c t ∗ ((ms0_7 t).view.loc (c : Thread nD τ) ↦[(ms0_7 t).view.set]{fullShare} (hs0_7 t).unread y)
          ∗ (scM0_0.view.loc (c : Thread nD τ) ↦[scM0_0.view.set]{fullShare} whole_rows.unread h))
        ⊢ wp frame (wpE (defs₀ (F := Ideal)) Variants.none c none) Set.univ (bodyAt0 t)
          (fun _ => (iprop(InsAt m c t ∗ ((ms0_7 t).view.loc (c : Thread nD τ) ↦[(ms0_7 t).view.set]{fullShare} f)
            ∗ (scM0_0.view.loc (c : Thread nD τ) ↦[scM0_0.view.set]{fullShare} g)) : sProp 𝕄))) :
    Does m c t y h y' h' := by
  unfold Does owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩
  obtain rfl := (hs0_0 t).eq_unread hf0; obtain rfl := (hs0_1 t).eq_unread hf1; obtain rfl := (hs0_2 t).eq_unread hf2
  obtain rfl := (hs0_3 t).eq_unread hf3; obtain rfl := (hs0_4 t).eq_unread hf4; obtain rfl := (hs0_5 t).eq_unread hf5
  obtain rfl := (hs0_6 t).eq_unread hf6; obtain rfl := (hs0_7 t).eq_unread hf7; obtain rfl := whole_rows.eq_unread hf8
  iapply wp_wand_r
  isplitl
  · iapply hr
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexact H7
    iexact H8
  iintro %_ ⟨⟨G0, G1, G2, G3, G4, G5, G6⟩, G7, G8⟩
  isplitl [G0]
  · iexists _; isplitr; · ipureintro; exact (hs0_0 t).read_unread _
    iexact G0
  isplitl [G1]
  · iexists _; isplitr; · ipureintro; exact (hs0_1 t).read_unread _
    iexact G1
  isplitl [G2]
  · iexists _; isplitr; · ipureintro; exact (hs0_2 t).read_unread _
    iexact G2
  isplitl [G3]
  · iexists _; isplitr; · ipureintro; exact (hs0_3 t).read_unread _
    iexact G3
  isplitl [G4]
  · iexists _; isplitr; · ipureintro; exact (hs0_4 t).read_unread _
    iexact G4
  isplitl [G5]
  · iexists _; isplitr; · ipureintro; exact (hs0_5 t).read_unread _
    iexact G5
  isplitl [G6]
  · iexists _; isplitr; · ipureintro; exact (hs0_6 t).read_unread _
    iexact G6
  isplitl [G7]
  · iexists _; isplitr; · ipureintro; exact hf
    iexact G7
  iexists _; isplitr; · ipureintro; exact hg
  iexact G8

/-- The first point of a block begins the sum and normalizes the rows, whatever the buffers held. -/
theorem doesA (c : Dev nD) (t : Fin cfg0.N) (h0 : t.val % 11 = 0) (y : Vec Ideal S1024x2048 .f32) (h : Vec Ideal S1024x2048 .bf16) :
    Does m c t y h (stepSum m c t zeroV (rowsAt m c t)) (rowsAt m c t) :=
  have hc0 := (hcond0_0 t).mpr h0
  have hc1 : ¬cond0_1 (grid0.coords t) := fun h => by have := (hcond0_1 t).mp h; omega
  does_of m c t
    (runA_read c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 whole_rows (iblk m c 0 t) (iblk m c 1 t) (iblk m c 2 t) (iblk m c 3 t) (iblk m c 4 t) (iblk m c 5 t) (iblk m c 6 t) y h hc0 hc1)
    (runA_rows c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 whole_rows (iblk m c 0 t) (iblk m c 1 t) (iblk m c 2 t) (iblk m c 3 t) (iblk m c 4 t) (iblk m c 5 t) (iblk m c 6 t) y h hc0 hc1)
    ((runA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 whole_rows hc0 hc1 (iblk m c 0 t) (iblk m c 1 t) (iblk m c 2 t) (iblk m c 3 t) (iblk m c 4 t) (iblk m c 5 t) (iblk m c 6 t) y h).2.2 Set.univ)

/-- A point inside a block adds its share to the sum. -/
theorem doesB (c : Dev nD) (t : Fin cfg0.N) (h0 : ¬t.val % 11 = 0) (h1 : ¬t.val % 11 = 10) (y : Vec Ideal S1024x2048 .f32) (h : Vec Ideal S1024x2048 .bf16) :
    Does m c t y h (stepSum m c t y h) h :=
  have hc0 := fun h => h0 ((hcond0_0 t).mp h)
  have hc1 := fun h => h1 ((hcond0_1 t).mp h)
  does_of m c t
    (runB_read c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 whole_rows (iblk m c 0 t) (iblk m c 1 t) (iblk m c 2 t) (iblk m c 3 t) (iblk m c 4 t) (iblk m c 5 t) (iblk m c 6 t) y h hc0 hc1)
    (whole_rows.read_unread h)
    ((runB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 whole_rows hc0 hc1 (iblk m c 0 t) (iblk m c 1 t) (iblk m c 2 t) (iblk m c 3 t) (iblk m c 4 t) (iblk m c 5 t) (iblk m c 6 t) y h).2 Set.univ)

/-- The last point of a block adds its share and finishes the rows of the sum. -/
theorem doesC (c : Dev nD) (t : Fin cfg0.N) (h1 : t.val % 11 = 10) (y : Vec Ideal S1024x2048 .f32) (h : Vec Ideal S1024x2048 .bf16) :
    Does m c t y h (finV (iblk m c 0 t) (iblk m c 1 t) (iblk m c 3 t) (stepSum m c t y h)) h :=
  have hc0 : ¬cond0_0 (grid0.coords t) := fun h => by have := (hcond0_0 t).mp h; omega
  have hc1 := (hcond0_1 t).mpr h1
  does_of m c t
    (runC_read c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 whole_rows (iblk m c 0 t) (iblk m c 1 t) (iblk m c 2 t) (iblk m c 3 t) (iblk m c 4 t) (iblk m c 5 t) (iblk m c 6 t) y h hc0 hc1)
    (whole_rows.read_unread h)
    ((runC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 whole_rows hc0 hc1 (iblk m c 0 t) (iblk m c 1 t) (iblk m c 2 t) (iblk m c 3 t) (iblk m c 4 t) (iblk m c 5 t) (iblk m c 6 t) y h).2 Set.univ)

/-- A point that does from some contents what the data say carries the launch's hold past it. -/
theorem carry (c : Dev nD) (t : Fin cfg0.N) (y : Vec Ideal S1024x2048 .f32) (h : Vec Ideal S1024x2048 .bf16)
    (hd : Does m c t y h (outsAt m c t.val t.isLt).1 (outsAt m c t.val t.isLt).2) :
    iprop((owns (c : Thread nD τ) scM0_0 fullShare h ∗ (∃ r, prngReg c r)) ∗ (dats m 0 c).owesAt () t.castSucc
      ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t)
      ∗ owns (c : Thread nD τ) (ms0_7 t) fullShare y)
    ⊢ wp frame (wpE (defs₀ (F := Ideal)) Variants.none c none) Set.univ (bodyAt0 t) (fun _ => bodyPost m c t) := by
  unfold bodyPost
  rw [show (dats m 0 c).owesAt () t.succ = (dats m 0 c).owesAt () t.castSucc from rfl,
    after0_0, after0_1, after0_2, after0_3, after0_4, after0_5, after0_6, after0_7]
  rw [show (dats m 0 c).Φ t.succ = Phi m c (t.val + 1) t.isLt from rfl, Phi_pos m c _ _ (Nat.succ_ne_zero _)]
  iintro ⟨⟨HS, Hg⟩, Ho, H0, H1, H2, H3, H4, H5, H6, H7⟩
  iapply wp_wand_r
  isplitl [HS H0 H1 H2 H3 H4 H5 H6 H7]
  · iapply hd
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iintro %_ ⟨G0, G1, G2, G3, G4, G5, G6, G7, GS⟩
  isplitl [GS Hg]
  · isplitl [GS]; · iexact GS
    iexact Hg
  isplitl [Ho]; · iexact Ho
  isplitl [G0]; · iexact G0
  isplitl [G1]; · iexact G1
  isplitl [G2]; · iexact G2
  isplitl [G3]; · iexact G3
  isplitl [G4]; · iexact G4
  isplitl [G5]; · iexact G5
  isplitl [G6]; · iexact G6
  iexact G7

/-- At every point the body, from what the launch holds before it, leaves what the launch holds after it. -/
theorem sound_body (c : Dev nD) (t : Fin cfg0.N) :
    bodyPre m c t ⊢ wp frame (wpE (defs₀ (F := Ideal)) Variants.none c none) Set.univ (bodyAt0 t) (fun _ => bodyPost m c t) := by
  unfold bodyPre
  simp only [before0_0, before0_1, before0_2, before0_3, before0_4, before0_5, before0_6]
  rw [Phi_castSucc]
  by_cases h0 : t.val % 11 = 0
  · refine BIBase.Entails.trans (sep_mono_left ((Phi_any m c t.val (Nat.le_of_lt t.isLt)).trans (Entails.of_eq (PhiA0_eq c)))) ?_
    iintro ⟨⟨⟨%h, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (carry m c t ((dats m 0 c).before 7 t d7) h (by rw [outsAt_A m c t h0]; exact doesA m c t h0 _ _))
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · simp only [before0_7 m c t h0]
    rw [Phi_pos m c _ _ (fun e => h0 (by rw [e]))]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (carry m c t (outsAt m c (t.val - 1) (Nat.lt_of_le_of_lt (Nat.sub_le _ _) t.isLt)).1 (outsAt m c (t.val - 1) (Nat.lt_of_le_of_lt (Nat.sub_le _ _) t.isLt)).2 (by
      by_cases h1 : t.val % 11 = 10
      · rw [outsAt_C m c t h0 h1]; exact doesC m c t h1 _ _
      · rw [outsAt_B m c t h0 h1]; exact doesB m c t h0 h1 _ _))
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-! ## The launch -/

theorem body_obligation (c : Dev nD) : BodyObligation (dats m 0 c) (defs₀ (F := Ideal)) Variants.none () Set.univ := fun t => by
  rw [bigSep_W0, bigSep_W0, held_row]
  exact triple_restated (sound_body m c t) rfl .rfl fun _ => .rfl

theorem hin (c : Dev nD) : Pipeline.ΦA spec0 c ⊢ (dats m 0 c).Φ 0 := Entails.refl _

theorem hout (c : Dev nD) : (dats m 0 c).Φ (Fin.last cfg0.N) ⊢ Pipeline.ΦA spec0 c := Phi_any m c cfg0.N (Nat.le_refl _)

set_option backward.isDefEq.respectTransparency.types false in
/-- The program runs, leaves the arrays the data name and no semaphore signalled. -/
theorem run_main : θ_run defs (onTc (τ := τ) (main (F := Ideal))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run leaves the result's array as the data name it, and every argument as it was. -/
theorem run_blocks : θ_run defs (onTc (τ := τ) (main (F := Ideal))) ⟨m, fun _ => 0, ρ⟩ fun r => ∀ c : Dev nD,
      r.2.mem ((c : Thread nD τ).loc main_v11) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1 7,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    ((θ_run defs _ _).mono (fun _ h => h.1) (run_main m ρ))

end Cert.Proof.Ffn

end
-- ==== Proof.Ffn.Args.lean ====
/- The feed-forward kernel's blocks: the arrays the host prepares, what block each grid point reads of them, and the result
   as one function of the arguments. -/
module

public import proofs.«01_k».proof.Proof.Ffn.Launch

@[expose] public section

set_option maxRecDepth 16384

noncomputable section

namespace Cert.Proof.Ffn

open Cert.FfnIdeal Cert.FfnIdeal.Gen Idealize.ShloMosaic Idealize.ShloMosaic.TcCoe Idealize.SL.Sem
open Cert.Proof.Rows

/-! ## The result as a function of the arguments -/

section Result

variable (x : Vec Ideal S4x2048x2048 .f32) (mod : Vec Ideal S4x3x3x2048 .f32) (pre post : Vec Ideal S3x2048 .f32)
  (wg wu : Vec Ideal S2048x5632 .f32) (wd : Vec Ideal S5632x2048 .f32)

/-- A token's row, normalized and modulated. -/
def nrow (b : Fin 4) (s : Fin 2048) : Fin 2048 → EReal := fun d =>
  modulate (fun k => x (ix3 b s k)) d (pre (ix2 2 d)) (mod (ix4 b 2 1 d)) (mod (ix4 b 2 0 d))

/-- A token's product of hidden entry `f` with the last weights at column `e`. -/
def term (b : Fin 4) (s : Fin 2048) (e : Fin 2048) (f : Fin 5632) : EReal :=
  hidden (nrow x mod pre b s) (fun i => wg (ix2 i f)) (fun i => wu (ix2 i f)) * wd (ix2 f e)

/-- The feed-forward sublayer at a row of the flattened tokens and a column: the residual plus half the gate times the
    gain times the row of the feed-forward network, normalized. -/
def G : Vec Ideal S8192x2048 .f32 := fun j =>
  have b : Fin 4 := ⟨(j 0).val / 2048, by have : (j 0).val < 8192 := (j 0).isLt; omega⟩
  have s : Fin 2048 := ⟨(j 0).val % 2048, by omega⟩
  have d : Fin 2048 := j 1
  finish (x (ix3 b s d)) (fun e => ∑ f : Fin 5632, term x mod pre wg wu wd b s e f) d
    (Ideal.ofBits .f32 0x3F000000#32 * mod (ix4 b 2 2 d) * post (ix2 2 d))

end Result

/-- The batch of block `u` of the rows, its token `q`, and that token's row. -/
abbrev bat (u : Fin 8) : Fin 4 := ⟨u.val / 2, by omega⟩
abbrev tok (u : Fin 8) (q : Fin 1024) : Fin 2048 := ⟨1024 * (u.val % 2) + q.val, by omega⟩
abbrev row (u : Fin 8) (q : Fin 1024) : Fin 8192 := ⟨1024 * u.val + q.val, by omega⟩

/-- Entry `k` of block `i` of the hidden columns. -/
abbrev col (i : ℕ) (k : Fin 512) : Fin 5632 := ⟨(512 * i + k.val) % 5632, Nat.mod_lt _ (by decide)⟩

/-- The block of rows of a grid point. -/
abbrev blkOf (t : Fin cfg0.N) : Fin 8 := ⟨t.val / 11, by have : t.val < 88 := t.isLt; omega⟩

variable (m : (ℓ : Loc nD τ sig) → Buf (Elt Ideal) ℓ)

/-! ## The host's part: the arrays the grid reads -/

theorem V0 (c : Dev nD) : V m c main_v0 = shapeCast S4x9x2048 (m ((c : Thread nD τ).loc main_arg1)) shapeCasts_S4x3x3x2048_S4x9x2048 := by
  unfold_abbrev_sides
  after_results_simp <;> rfl
theorem V3 (c : Dev nD) : V m c main_v3 = truncf (F := Ideal) (s := S2048x5632) (φ := .f32) .bf16 (m ((c : Thread nD τ).loc main_arg4) : FVec Ideal S2048x5632 .f32) bitsLt_bf16_f32 := by
  unfold_abbrev_sides
  after_results_simp <;> rfl
theorem V4 (c : Dev nD) : V m c main_v4 = truncf (F := Ideal) (s := S2048x5632) (φ := .f32) .bf16 (m ((c : Thread nD τ).loc main_arg5) : FVec Ideal S2048x5632 .f32) bitsLt_bf16_f32 := by
  unfold_abbrev_sides
  after_results_simp <;> rfl
theorem V5 (c : Dev nD) : V m c main_v5 = truncf (F := Ideal) (s := S5632x2048) (φ := .f32) .bf16 (m ((c : Thread nD τ).loc main_arg6) : FVec Ideal S5632x2048 .f32) bitsLt_bf16_f32 := by
  unfold_abbrev_sides
  after_results_simp <;> rfl
theorem V6 (c : Dev nD) : V m c main_v6 = shapeCast S8192x2048 (m ((c : Thread nD τ).loc main_arg0)) shapeCasts_S4x2048x2048_S8192x2048 := by
  unfold_abbrev_sides
  after_results_simp <;> rfl
theorem V8 (c : Dev nD) : V m c main_v8 = shapeCast S1x2048 (extractStridedSlice S1x1x2048 ![2, 0, 0]
    (shapeCast S3x1x2048 (m ((c : Thread nD τ).loc main_arg2)) shapeCasts_S3x2048_S3x1x2048) slices_S3x1x2048_S1x1x2048_2_0_0)
    shapeCasts_S1x1x2048_S1x2048 := by
  unfold_abbrev_sides
  after_results_simp <;> rfl
theorem V10 (c : Dev nD) : V m c main_v10 = shapeCast S1x2048 (extractStridedSlice S1x1x2048 ![2, 0, 0]
    (shapeCast S3x1x2048 (m ((c : Thread nD τ).loc main_arg3)) shapeCasts_S3x2048_S3x1x2048) slices_S3x1x2048_S1x1x2048_2_0_0)
    shapeCasts_S1x1x2048_S1x2048 := by
  unfold_abbrev_sides
  after_results_simp <;> rfl

/-! ## The blocks' indices -/

theorem idx0 : ∀ t : Fin cfg0.N, win0_0.index t (0 : Fin 2) = t.val / 11 ∧ win0_0.index t (1 : Fin 2) = 0 := (by decide +kernel : ∀ t : Fin grid0.N, _)
theorem idx1 : ∀ t : Fin cfg0.N, win0_1.index t (0 : Fin 3) = t.val / 11 / 2 ∧ win0_1.index t (1 : Fin 3) = 0 ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = t.val % 11 := (by decide +kernel : ∀ t : Fin grid0.N, _)
theorem idx5 : ∀ t : Fin cfg0.N, win0_5.index t (0 : Fin 2) = 0 ∧ win0_5.index t (1 : Fin 2) = t.val % 11 := (by decide +kernel : ∀ t : Fin grid0.N, _)
theorem idx6 : ∀ t : Fin cfg0.N, win0_6.index t (0 : Fin 2) = t.val % 11 ∧ win0_6.index t (1 : Fin 2) = 0 := (by decide +kernel : ∀ t : Fin grid0.N, _)
theorem idx7 : ∀ t : Fin cfg0.N, win0_7.index t (0 : Fin 2) = t.val / 11 ∧ win0_7.index t (1 : Fin 2) = 0 := (by decide +kernel : ∀ t : Fin grid0.N, _)

theorem emb0 (t : Fin cfg0.N) (q : Fin 1024) (d : Fin 2048) : ((cfg0.win 0).blk t).view.emb (ix2 q d) = ix2 (row (blkOf t) q) d := by
  obtain ⟨e0, e1⟩ := idx0 t
  funext a; apply Fin.ext
  match a with
  | ⟨0, _⟩ => show win0_0.index t (0 : Fin 2) * 1024 + 1 * q.val = 1024 * (t.val / 11) + q.val; omega
  | ⟨1, _⟩ => show win0_0.index t (1 : Fin 2) * 2048 + 1 * d.val = d.val; omega
theorem emb1 (t : Fin cfg0.N) (p : Fin 9) (d : Fin 2048) : ((cfg0.win 1).blk t).view.emb (ix3 0 p d) = ix3 (bat (blkOf t)) p d := by
  obtain ⟨e0, e1, e2⟩ := idx1 t
  funext a; apply Fin.ext
  match a with
  | ⟨0, _⟩ => show win0_1.index t (0 : Fin 3) * 1 + 1 * 0 = t.val / 11 / 2; omega
  | ⟨1, _⟩ => show win0_1.index t (1 : Fin 3) * 9 + 1 * p.val = p.val; omega
  | ⟨2, _⟩ => show win0_1.index t (2 : Fin 3) * 2048 + 1 * d.val = d.val; omega
theorem emb2 (t : Fin cfg0.N) (d : Fin 2048) : ((cfg0.win 2).blk t).view.emb (ix2 0 d) = ix2 0 d := by
  obtain ⟨e0, e1⟩ := idx2 t
  funext a; apply Fin.ext
  match a with
  | ⟨0, _⟩ => show win0_2.index t (0 : Fin 2) * 1 + 1 * 0 = 0; omega
  | ⟨1, _⟩ => show win0_2.index t (1 : Fin 2) * 2048 + 1 * d.val = d.val; omega
theorem emb3 (t : Fin cfg0.N) (d : Fin 2048) : ((cfg0.win 3).blk t).view.emb (ix2 0 d) = ix2 0 d := by
  obtain ⟨e0, e1⟩ := idx3 t
  funext a; apply Fin.ext
  match a with
  | ⟨0, _⟩ => show win0_3.index t (0 : Fin 2) * 1 + 1 * 0 = 0; omega
  | ⟨1, _⟩ => show win0_3.index t (1 : Fin 2) * 2048 + 1 * d.val = d.val; omega
theorem emb4 (t : Fin cfg0.N) (i : Fin 2048) (k : Fin 512) : ((cfg0.win 4).blk t).view.emb (ix2 i k) = ix2 i (col (t.val % 11) k) := by
  obtain ⟨e0, e1⟩ := idx4 t
  funext a; apply Fin.ext
  match a with
  | ⟨0, _⟩ => show win0_4.index t (0 : Fin 2) * 2048 + 1 * i.val = i.val; omega
  | ⟨1, _⟩ => show win0_4.index t (1 : Fin 2) * 512 + 1 * k.val = (512 * (t.val % 11) + k.val) % 5632; omega
theorem emb5 (t : Fin cfg0.N) (i : Fin 2048) (k : Fin 512) : ((cfg0.win 5).blk t).view.emb (ix2 i k) = ix2 i (col (t.val % 11) k) := by
  obtain ⟨e0, e1⟩ := idx5 t
  funext a; apply Fin.ext
  match a with
  | ⟨0, _⟩ => show win0_5.index t (0 : Fin 2) * 2048 + 1 * i.val = i.val; omega
  | ⟨1, _⟩ => show win0_5.index t (1 : Fin 2) * 512 + 1 * k.val = (512 * (t.val % 11) + k.val) % 5632; omega
theorem emb6 (t : Fin cfg0.N) (k : Fin 512) (d : Fin 2048) : ((cfg0.win 6).blk t).view.emb (ix2 k d) = ix2 (col (t.val % 11) k) d := by
  obtain ⟨e0, e1⟩ := idx6 t
  funext a; apply Fin.ext
  match a with
  | ⟨0, _⟩ => show win0_6.index t (0 : Fin 2) * 512 + 1 * k.val = (512 * (t.val % 11) + k.val) % 5632; omega
  | ⟨1, _⟩ => show win0_6.index t (1 : Fin 2) * 2048 + 1 * d.val = d.val; omega
theorem emb7 (t : Fin cfg0.N) (q : Fin 1024) (d : Fin 2048) : ((cfg0.win 7).blk t).view.emb (ix2 q d) = ix2 (row (blkOf t) q) d := by
  obtain ⟨e0, e1⟩ := idx7 t
  funext a; apply Fin.ext
  match a with
  | ⟨0, _⟩ => show win0_7.index t (0 : Fin 2) * 1024 + 1 * q.val = 1024 * (t.val / 11) + q.val; omega
  | ⟨1, _⟩ => show win0_7.index t (1 : Fin 2) * 2048 + 1 * d.val = d.val; omega

/-! ## The blocks' entries -/

theorem flat_apply (v : Vec Ideal S4x2048x2048 .f32) (u : Fin 8) (q : Fin 1024) (d : Fin 2048) :
    shapeCast S8192x2048 v shapeCasts_S4x2048x2048_S8192x2048 (ix2 (row u q) d) = v (ix3 (bat u) (tok u q) d) := by
  pointwise
  have hb : (1024 * u.val + q.val) / 2048 = u.val / 2 := by omega
  have hs : (1024 * u.val + q.val) % 2048 = 1024 * (u.val % 2) + q.val := by omega
  simp only [hb, hs]
theorem shift_apply (v : Vec Ideal S4x3x3x2048 .f32) (b : Fin 4) (d : Fin 2048) :
    shapeCast S4x9x2048 v shapeCasts_S4x3x3x2048_S4x9x2048 (ix3 b 6 d) = v (ix4 b 2 0 d) := by
  pointwise
theorem scale_apply (v : Vec Ideal S4x3x3x2048 .f32) (b : Fin 4) (d : Fin 2048) :
    shapeCast S4x9x2048 v shapeCasts_S4x3x3x2048_S4x9x2048 (ix3 b 7 d) = v (ix4 b 2 1 d) := by
  pointwise
theorem gate_apply (v : Vec Ideal S4x3x3x2048 .f32) (b : Fin 4) (d : Fin 2048) :
    shapeCast S4x9x2048 v shapeCasts_S4x3x3x2048_S4x9x2048 (ix3 b 8 d) = v (ix4 b 2 2 d) := by
  pointwise
theorem gain_apply (v : Vec Ideal S3x2048 .f32) (d : Fin 2048) :
    shapeCast S1x2048 (extractStridedSlice S1x1x2048 ![2, 0, 0] (shapeCast S3x1x2048 v shapeCasts_S3x2048_S3x1x2048)
      slices_S3x1x2048_S1x1x2048_2_0_0) shapeCasts_S1x1x2048_S1x2048 (ix2 0 d) = v (ix2 2 d) := by
  pointwise

theorem blk0 (c : Dev nD) (t : Fin cfg0.N) (q : Fin 1024) (d : Fin 2048) :
    iblk m c 0 t (ix2 q d) = (m ((c : Thread nD τ).loc main_arg0) : Vec Ideal S4x2048x2048 .f32) (ix3 (bat (blkOf t)) (tok (blkOf t) q) d) := by
  show V m c main_v6 (((cfg0.win 0).blk t).view.emb (ix2 q d)) = _
  rw [emb0, V6]
  exact flat_apply _ (blkOf t) q d
theorem blk1_shift (c : Dev nD) (t : Fin cfg0.N) (d : Fin 2048) :
    iblk m c 1 t (ix3 0 6 d) = (m ((c : Thread nD τ).loc main_arg1) : Vec Ideal S4x3x3x2048 .f32) (ix4 (bat (blkOf t)) 2 0 d) := by
  show V m c main_v0 (((cfg0.win 1).blk t).view.emb (ix3 0 6 d)) = _
  rw [emb1, V0]
  exact shift_apply _ (bat (blkOf t)) d
theorem blk1_scale (c : Dev nD) (t : Fin cfg0.N) (d : Fin 2048) :
    iblk m c 1 t (ix3 0 7 d) = (m ((c : Thread nD τ).loc main_arg1) : Vec Ideal S4x3x3x2048 .f32) (ix4 (bat (blkOf t)) 2 1 d) := by
  show V m c main_v0 (((cfg0.win 1).blk t).view.emb (ix3 0 7 d)) = _
  rw [emb1, V0]
  exact scale_apply _ (bat (blkOf t)) d
theorem blk1_gate (c : Dev nD) (t : Fin cfg0.N) (d : Fin 2048) :
    iblk m c 1 t (ix3 0 8 d) = (m ((c : Thread nD τ).loc main_arg1) : Vec Ideal S4x3x3x2048 .f32) (ix4 (bat (blkOf t)) 2 2 d) := by
  show V m c main_v0 (((cfg0.win 1).blk t).view.emb (ix3 0 8 d)) = _
  rw [emb1, V0]
  exact gate_apply _ (bat (blkOf t)) d
theorem blk2 (c : Dev nD) (t : Fin cfg0.N) (d : Fin 2048) :
    iblk m c 2 t (ix2 0 d) = (m ((c : Thread nD τ).loc main_arg2) : Vec Ideal S3x2048 .f32) (ix2 2 d) := by
  show V m c main_v8 (((cfg0.win 2).blk t).view.emb (ix2 0 d)) = _
  rw [emb2, V8]
  exact gain_apply _ d
theorem blk3 (c : Dev nD) (t : Fin cfg0.N) (d : Fin 2048) :
    iblk m c 3 t (ix2 0 d) = (m ((c : Thread nD τ).loc main_arg3) : Vec Ideal S3x2048 .f32) (ix2 2 d) := by
  show V m c main_v10 (((cfg0.win 3).blk t).view.emb (ix2 0 d)) = _
  rw [emb3, V10]
  exact gain_apply _ d
theorem blk4 (c : Dev nD) (t : Fin cfg0.N) (i : Fin 2048) (k : Fin 512) :
    iblk m c 4 t (ix2 i k) = (m ((c : Thread nD τ).loc main_arg4) : Vec Ideal S2048x5632 .f32) (ix2 i (col (t.val % 11) k)) := by
  show V m c main_v3 (((cfg0.win 4).blk t).view.emb (ix2 i k)) = _
  rw [emb4, V3]
  rfl
theorem blk5 (c : Dev nD) (t : Fin cfg0.N) (i : Fin 2048) (k : Fin 512) :
    iblk m c 5 t (ix2 i k) = (m ((c : Thread nD τ).loc main_arg5) : Vec Ideal S2048x5632 .f32) (ix2 i (col (t.val % 11) k)) := by
  show V m c main_v4 (((cfg0.win 5).blk t).view.emb (ix2 i k)) = _
  rw [emb5, V4]
  rfl
theorem blk6 (c : Dev nD) (t : Fin cfg0.N) (k : Fin 512) (d : Fin 2048) :
    iblk m c 6 t (ix2 k d) = (m ((c : Thread nD τ).loc main_arg6) : Vec Ideal S5632x2048 .f32) (ix2 (col (t.val % 11) k) d) := by
  show V m c main_v5 (((cfg0.win 6).blk t).view.emb (ix2 k d)) = _
  rw [emb6, V5]
  rfl

end Cert.Proof.Ffn

end
-- ==== Proof.Ffn.Run.lean ====
/- The feed-forward kernel's run: its result array as one function of its arguments. -/
module

public import proofs.«01_k».proof.Proof.Ffn.Args

@[expose] public section

set_option maxRecDepth 16384

noncomputable section

namespace Cert.Proof.Ffn

open Cert.FfnIdeal Cert.FfnIdeal.Gen Idealize.ShloMosaic Idealize.ShloMosaic.TcCoe Idealize.SL.Sem
open Cert.Proof.Rows

variable (m : (ℓ : Loc nD τ sig) → Buf (Elt Ideal) ℓ) (ρ : Dev nD → PrngReg)

/-! ## The sum over the blocks of hidden columns -/

/-- `nrow`, `term` and `G` of the arguments as launched. -/
abbrev nrowM (c : Dev nD) (u : Fin 8) (q : Fin 1024) : Fin 2048 → EReal :=
  nrow (m ((c : Thread nD τ).loc main_arg0)) (m ((c : Thread nD τ).loc main_arg1)) (m ((c : Thread nD τ).loc main_arg2)) (bat u) (tok u q)
abbrev termM (c : Dev nD) (u : Fin 8) (q : Fin 1024) (e : Fin 2048) (f : Fin 5632) : EReal :=
  term (m ((c : Thread nD τ).loc main_arg0)) (m ((c : Thread nD τ).loc main_arg1)) (m ((c : Thread nD τ).loc main_arg2))
    (m ((c : Thread nD τ).loc main_arg4)) (m ((c : Thread nD τ).loc main_arg5)) (m ((c : Thread nD τ).loc main_arg6)) (bat u) (tok u q) e f
abbrev GM (c : Dev nD) : Vec Ideal S8192x2048 .f32 :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The normalized rows of a point's block, in the arguments. -/
theorem rowsAt_apply (c : Dev nD) (t : Fin cfg0.N) (q : Fin 1024) (d : Fin 2048) :
    rowsAt m c t (ix2 q d) = nrowM m c (blkOf t) q d := by
  show modulate (fun k => iblk m c 0 t (ix2 q k)) d (iblk m c 2 t (ix2 0 d)) (iblk m c 1 t (ix3 0 7 d)) (iblk m c 1 t (ix3 0 6 d)) = _
  simp only [blk0, blk1_shift, blk1_scale, blk2]
  rfl

/-- The sum after a point, over normalized rows that are the block's. -/
theorem stepSum_apply (c : Dev nD) (t : Fin cfg0.N) (y : Vec Ideal S1024x2048 .f32) (h : Vec Ideal S1024x2048 .bf16)
    (hh : ∀ (q : Fin 1024) (d : Fin 2048), h (ix2 q d) = nrowM m c (blkOf t) q d) (q : Fin 1024) (e : Fin 2048) :
    stepSum m c t y h (ix2 q e) = y (ix2 q e) + ∑ k : Fin 512, termM m c (blkOf t) q e (col (t.val % 11) k) := by
  show y (ix2 q e) + ∑ k : Fin 512, hidden (fun i => h (ix2 q i)) (fun i => iblk m c 4 t (ix2 i k)) (fun i => iblk m c 5 t (ix2 i k)) * iblk m c 6 t (ix2 k e) = _
  simp only [hh, blk4, blk5, blk6]
  rfl

/-- The sum of blocks `0 … n` of the hidden columns. -/
abbrev upTo (c : Dev nD) (u : Fin 8) (q : Fin 1024) (e : Fin 2048) (n : ℕ) : EReal :=
  ∑ i ∈ Finset.range (n + 1), ∑ k : Fin 512, termM m c u q e (col i k)

theorem zero_bits : Ideal.ofBits .f32 0x00000000#32 = 0 := Ideal.ofBits_zero_f32

/-- Before a block's last point the buffers hold the sum so far and the block's normalized rows. -/
theorem outsAt_sum (c : Dev nD) (n : ℕ) (hn : n < cfg0.N) (h1 : ¬n % 11 = 10) :
    (∀ (q : Fin 1024) (e : Fin 2048), (outsAt m c n hn).1 (ix2 q e) = upTo m c (blkOf ⟨n, hn⟩) q e (n % 11))
    ∧ ∀ (q : Fin 1024) (d : Fin 2048), (outsAt m c n hn).2 (ix2 q d) = nrowM m c (blkOf ⟨n, hn⟩) q d := by
  induction n with
  | zero =>
    have e := outsAt_A m c ⟨0, hn⟩ rfl
    dsimp only at e
    rw [e]
    refine ⟨fun q e => ?_, rowsAt_apply m c _⟩
    refine (stepSum_apply m c _ _ _ (rowsAt_apply m c _) q e).trans ?_
    rw [show zeroV (ix2 q e) = 0 from zero_bits, zero_add]
    simp [upTo]
  | succ n ih =>
    by_cases h0 : (n + 1) % 11 = 0
    · have e := outsAt_A m c ⟨n + 1, hn⟩ h0
      dsimp only at e
      rw [e]
      refine ⟨fun q e => ?_, rowsAt_apply m c _⟩
      refine (stepSum_apply m c _ _ _ (rowsAt_apply m c _) q e).trans ?_
      rw [show zeroV (ix2 q e) = 0 from zero_bits, zero_add]
      simp [upTo, h0]
    · have e := outsAt_B m c ⟨n + 1, hn⟩ h0 h1
      dsimp only [Nat.add_sub_cancel] at e
      obtain ⟨i1, i2⟩ := ih (Nat.lt_of_succ_lt hn) (by omega)
      have hu : blkOf ⟨n, Nat.lt_of_succ_lt hn⟩ = blkOf ⟨n + 1, hn⟩ := Fin.ext (show n / 11 = (n + 1) / 11 by omega)
      rw [hu] at i1 i2
      rw [e]
      refine ⟨fun q e => ?_, i2⟩
      refine (stepSum_apply m c _ _ _ i2 q e).trans ?_
      have hm : (n + 1) % 11 = n % 11 + 1 := by omega
      refine (congrArg (· + _) (i1 q e)).trans ?_
      show upTo m c _ q e (n % 11) + ∑ k : Fin 512, termM m c _ q e (col ((n + 1) % 11) k) = upTo m c _ q e ((n + 1) % 11)
      rw [hm]
      exact (Finset.sum_range_succ (fun i => ∑ k : Fin 512, termM m c _ q e (col i k)) (n % 11 + 1)).symm

/-- Eleven blocks of 512 hidden columns are all of them. -/
theorem sum_cols (g : Fin 5632 → EReal) : ∑ i ∈ Finset.range 11, ∑ k : Fin 512, g (col i k) = ∑ f : Fin 5632, g f := by
  rw [Finset.sum_range, ← Fintype.sum_prod_type']
  refine Fintype.sum_equiv (finProdFinEquiv (m := 11) (n := 512)) _ (fun f : Fin (11 * 512) => g f) fun p => ?_
  refine congrArg g (Fin.ext ?_)
  show (512 * p.1.val + p.2.val) % 5632 = p.2.val + 512 * p.1.val
  omega

/-- After a block's last point the buffer holds the finished rows. -/
theorem outsAt_last (c : Dev nD) (t : Fin cfg0.N) (h1 : t.val % 11 = 10) (q : Fin 1024) (d : Fin 2048) :
    (outsAt m c t.val t.isLt).1 (ix2 q d) = finish ((m ((c : Thread nD τ).loc main_arg0) : Vec Ideal S4x2048x2048 .f32) (ix3 (bat (blkOf t)) (tok (blkOf t) q) d))
      (fun e => ∑ f : Fin 5632, termM m c (blkOf t) q e f) d
      (Ideal.ofBits .f32 0x3F000000#32 * (m ((c : Thread nD τ).loc main_arg1) : Vec Ideal S4x3x3x2048 .f32) (ix4 (bat (blkOf t)) 2 2 d)
        * (m ((c : Thread nD τ).loc main_arg3) : Vec Ideal S3x2048 .f32) (ix2 2 d)) := by
  have hlt : t.val - 1 < cfg0.N := Nat.lt_of_le_of_lt (Nat.sub_le _ _) t.isLt
  obtain ⟨i1, i2⟩ := outsAt_sum m c (t.val - 1) hlt (by omega)
  have hu : blkOf ⟨t.val - 1, hlt⟩ = blkOf t := Fin.ext (show (t.val - 1) / 11 = t.val / 11 by omega)
  rw [hu] at i1 i2
  rw [outsAt_C m c t (by omega) h1]
  show finish (iblk m c 0 t (ix2 q d)) (fun k => stepSum m c t (outsAt m c (t.val - 1) hlt).1 (outsAt m c (t.val - 1) hlt).2 (ix2 q k)) d
    (Ideal.ofBits .f32 0x3F000000#32 * iblk m c 1 t (ix3 0 8 d) * iblk m c 3 t (ix2 0 d)) = _
  rw [blk0, blk1_gate, blk3]
  refine congrArg (fun y => finish _ y d _) (funext fun e => ?_)
  refine (stepSum_apply m c t _ _ i2 q e).trans ((congrArg (· + _) (i1 q e)).trans ?_)
  have h9 : (t.val - 1) % 11 = 9 := by omega
  show upTo m c _ q e ((t.val - 1) % 11) + ∑ k : Fin 512, termM m c _ q e (col (t.val % 11) k) = _
  rw [h9, h1]
  exact (Finset.sum_range_succ (fun i => ∑ k : Fin 512, termM m c (blkOf t) q e (col i k)) 10).symm.trans (sum_cols _)

/-! ## The result array -/

theorem G_row (x : Vec Ideal S4x2048x2048 .f32) (mod : Vec Ideal S4x3x3x2048 .f32) (pre post : Vec Ideal S3x2048 .f32)
    (wg wu : Vec Ideal S2048x5632 .f32) (wd : Vec Ideal S5632x2048 .f32) (u : Fin 8) (q : Fin 1024) (d : Fin 2048) :
    G x mod pre post wg wu wd (ix2 (row u q) d) = finish (x (ix3 (bat u) (tok u q) d))
      (fun e => ∑ f : Fin 5632, term x mod pre wg wu wd (bat u) (tok u q) e f) d
      (Ideal.ofBits .f32 0x3F000000#32 * mod (ix4 (bat u) 2 2 d) * post (ix2 2 d)) := by
  have hb : (⟨(row u q).val / 2048, by show (1024 * u.val + q.val) / 2048 < 4; omega⟩ : Fin 4) = bat u :=
    Fin.ext (show (1024 * u.val + q.val) / 2048 = u.val / 2 by omega)
  have hs : (⟨(row u q).val % 2048, by omega⟩ : Fin 2048) = tok u q :=
    Fin.ext (show (1024 * u.val + q.val) % 2048 = 1024 * (u.val % 2) + q.val by omega)
  rw [← hb, ← hs]
  rfl

/-- What a block's last point writes back is the block of the result. -/
theorem flushed_eq (c : Dev nD) (t : Fin cfg0.N) (hf : (cfg0.win 7).flush t = true) :
    (dats m 0 c).flushed 7 t = ((cfg0.win 7).blk t).view.read (Elt Ideal) (GM m c) := by
  rw [flush7, decide_eq_true_eq] at hf
  show (cfg0.win 7).cut (grid0.coords t) ((dats m 0 c).after 7 t) = _
  rw [after0_7]
  funext j
  obtain ⟨q, d, rfl⟩ : ∃ (q : Fin 1024) (d : Fin 2048), j = ix2 q d := ⟨j 0, j 1, eq_ix2 j⟩
  show (outsAt m c t.val t.isLt).1 (ix2 q d) = GM m c (((cfg0.win 7).blk t).view.emb (ix2 q d))
  rw [emb7, outsAt_last m c t hf]
  exact (G_row _ _ _ _ _ _ _ (blkOf t) q d).symm

/-- Every index of the result is in a block. -/
theorem covered (j : S8192x2048.Idx) :
    ∃ t : Fin cfg0.N, (cfg0.win 7).flush t = true ∧ j ∈ ((cfg0.win 7).blk t).view.set := by
  obtain ⟨r, d, rfl⟩ : ∃ (r : Fin 8192) (d : Fin 2048), j = ix2 r d := ⟨j 0, j 1, eq_ix2 j⟩
  have ht : 11 * (r.val / 1024) + 10 < cfg0.N := by show _ < 88; omega
  refine ⟨⟨11 * (r.val / 1024) + 10, ht⟩, by rw [flush7, decide_eq_true_eq]; show (11 * (r.val / 1024) + 10) % 11 = 10; omega, ?_⟩
  have h := ((cfg0.win 7).blk ⟨11 * (r.val / 1024) + 10, ht⟩).view.emb_mem_set (ix2 (⟨r.val % 1024, by omega⟩ : Fin 1024) d)
  rw [emb7] at h
  have e : row (blkOf ⟨11 * (r.val / 1024) + 10, ht⟩) ⟨r.val % 1024, by omega⟩ = r :=
    Fin.ext (show 1024 * ((11 * (r.val / 1024) + 10) / 11) + r.val % 1024 = r.val by omega)
  rwa [e] at h

/-- The run of the feed-forward kernel with its result named. -/
theorem run : θ_run defs (onTc (τ := τ) (main (F := Ideal))) ⟨m, fun _ => 0, ρ⟩ fun r => ∀ c : Dev nD,
      r.2.mem ((c : Thread nD τ).loc main_v11) = GM m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c =>
    ⟨(h c).1.trans ((dats m 0 c).arrAt_eq_of_cover 7 (GM m c) (fun t hf => flushed_eq m c t hf) covered), (h c).2⟩) (run_blocks m ρ)

end Cert.Proof.Ffn

end
-- ==== Proof.Ffn.Ref.lean ====
/- The feed-forward sublayer's reference, element by element, and the equality of the two results. -/
module

public import proofs.«01_k».proof.Defs
public import proofs.«01_k».proof.Proof.Ffn.Run
public import proofs.«01_k».proof.Proof.Gen.FfnRefIdeal.Run
public import Idealize.ShloMosaic.Lib.IdealHost

@[expose] public section

set_option maxRecDepth 16384

noncomputable section

namespace Cert.Proof.Ffn

open Cert.FfnRefIdeal Cert.FfnRefIdeal.Gen Idealize.ShloMosaic Idealize.ShloMosaic.TcCoe Idealize.SL.Sem
open Cert.Proof.Rows

section Term

variable (x : FVec Ideal S4x2048x2048 .f32) (mod : FVec Ideal S4x3x3x2048 .f32) (pre post : FVec Ideal S3x2048 .f32)
  (wg wu : FVec Ideal S2048x5632 .f32) (wd : FVec Ideal S5632x2048 .f32)

/-- The reference's reciprocal roots, one for each row of `y`. -/
def refRoot (y : FVec Ideal S4x2048x2048 .f32) : FVec Ideal S4x2048x1 .f32 :=
  Host.rsqrt (addf (Host.divf
    (broadcastInDim S4x2048x1 ![0, 1] bcast_S4x2048_S4x2048x1_0_1
      (Host.reduceAdd (mulf y y) (constant S_ .f32 0x00000000#32) reducesTo_S4x2048x2048_S4x2048_d2 h_S_))
    (broadcastInDim S4x2048x1 ![] bcast_S_S4x2048x1 (constant S_ .f32 0x45000000#32)))
    (broadcastInDim S4x2048x1 ![] bcast_S_S4x2048x1 (constant S_ .f32 0x358637BD#32)))

/-- The rows of `y`, each times its reciprocal root. -/
def refScaled (y : FVec Ideal S4x2048x2048 .f32) : FVec Ideal S4x2048x2048 .f32 :=
  mulf y (broadcastInDim S4x2048x2048 ![0, 1, 2] bcast_S4x2048x1_S4x2048x2048_0_1_2 (refRoot y))

/-- A gain of the sublayer, at every row. -/
def refGain (g : FVec Ideal S3x2048 .f32) : FVec Ideal S4x2048x2048 .f32 :=
  broadcastInDim S4x2048x2048 ![0, 1, 2] bcast_S1x1x2048_S4x2048x2048_0_1_2
    (broadcastInDim S1x1x2048 ![2] bcast_S2048_S1x1x2048_2
      (shapeCast S2048 (extractStridedSlice S1x2048 ![2, 0] g slices_S3x2048_S1x2048_2_0) shapeCasts_S1x2048_S2048))

/-- The shift, at every row. -/
def refShift : FVec Ideal S4x2048x2048 .f32 :=
  broadcastInDim S4x2048x2048 ![0, 1, 2] bcast_S4x1x2048_S4x2048x2048_0_1_2
    (broadcastInDim S4x1x2048 ![0, 2] bcast_S4x2048_S4x1x2048_0_2
      (shapeCast S4x2048 (extractStridedSlice S4x1x1x2048 ![0, 2, 0, 0] mod slices_S4x3x3x2048_S4x1x1x2048_0_2_0_0)
        shapeCasts_S4x1x1x2048_S4x2048))

/-- One plus the scale, at every row. -/
def refScale : FVec Ideal S4x2048x2048 .f32 :=
  broadcastInDim S4x2048x2048 ![0, 1, 2] bcast_S4x1x2048_S4x2048x2048_0_1_2
    (addf (broadcastInDim S4x1x2048 ![] bcast_S_S4x1x2048 (constant S_ .f32 0x3F800000#32))
      (broadcastInDim S4x1x2048 ![0, 2] bcast_S4x2048_S4x1x2048_0_2
        (shapeCast S4x2048 (extractStridedSlice S4x1x1x2048 ![0, 2, 1, 0] mod slices_S4x3x3x2048_S4x1x1x2048_0_2_1_0)
          shapeCasts_S4x1x1x2048_S4x2048)))

/-- Half the gate, at every row. -/
def refGate : FVec Ideal S4x2048x2048 .f32 :=
  broadcastInDim S4x2048x2048 ![0, 1, 2] bcast_S4x1x2048_S4x2048x2048_0_1_2
    (mulf (broadcastInDim S4x1x2048 ![] bcast_S_S4x1x2048 (constant S_ .f32 0x3F000000#32))
      (broadcastInDim S4x1x2048 ![0, 2] bcast_S4x2048_S4x1x2048_0_2
        (shapeCast S4x2048 (extractStridedSlice S4x1x1x2048 ![0, 2, 2, 0] mod slices_S4x3x3x2048_S4x1x1x2048_0_2_2_0)
          shapeCasts_S4x1x1x2048_S4x2048)))

/-- The tokens' rows, normalized and modulated. -/
def refRows : FVec Ideal S4x2048x2048 .f32 :=
  addf (mulf (mulf (refScaled x) (refGain pre)) (refScale mod)) (refShift mod)

/-- The rows `h` times weights. -/
def refUp (h : FVec Ideal S4x2048x2048 .f32) (w : FVec Ideal S2048x5632 .f32) : FVec Ideal S4x2048x5632 .f32 :=
  Host.dotGeneral dot_S4x2048x2048_S2048x5632_S4x2048x5632_2_0_01_1_n_n none h w

/-- An array times its logistic. -/
def refSilu (a : FVec Ideal S4x2048x5632 .f32) : FVec Ideal S4x2048x5632 .f32 :=
  mulf a (Host.divf (broadcastInDim S4x2048x5632 ![] bcast_S_S4x2048x5632 (constant S_ .f32 0x3F800000#32))
    (addf (broadcastInDim S4x2048x5632 ![] bcast_S_S4x2048x5632 (constant S_ .f32 0x3F800000#32)) (Host.exp (Host.negf a))))

/-- The feed-forward network of the rows `h`. -/
def refProd (h : FVec Ideal S4x2048x2048 .f32) : FVec Ideal S4x2048x2048 .f32 :=
  Host.dotGeneral dot_S4x2048x5632_S5632x2048_S4x2048x2048_2_0_01_1_n_n none (mulf (refSilu (refUp h wg)) (refUp h wu)) wd

/-- The reference's result. -/
def refOut : FVec Ideal S8192x2048 .f32 :=
  shapeCast S8192x2048 (addf x (mulf (refGate mod) (mulf (refScaled (refProd wg wu wd (refRows x mod pre))) (refGain post))))
    shapeCasts_S4x2048x2048_S8192x2048

theorem refScaled_apply (y : FVec Ideal S4x2048x2048 .f32) (b : Fin 4) (s d : Fin 2048) : refScaled y (ix3 b s d)
    = y (ix3 b s d) * Ideal.rsqrt (Ideal.div (∑ k : Fin 2048, y (ix3 b s k) * y (ix3 b s k))
        (Ideal.ofBits .f32 0x45000000#32) + Ideal.ofBits .f32 0x358637BD#32) := by
  pointwise [refScaled, refRoot]

theorem refGain_apply (g : FVec Ideal S3x2048 .f32) (b : Fin 4) (s d : Fin 2048) : refGain g (ix3 b s d) = g (ix2 2 d) := by
  pointwise [refGain]
theorem refShift_apply (b : Fin 4) (s d : Fin 2048) : refShift mod (ix3 b s d) = mod (ix4 b 2 0 d) := by
  pointwise [refShift]
theorem refScale_apply (b : Fin 4) (s d : Fin 2048) :
    refScale mod (ix3 b s d) = Ideal.ofBits .f32 0x3F800000#32 + mod (ix4 b 2 1 d) := by
  pointwise [refScale]
theorem refGate_apply (b : Fin 4) (s d : Fin 2048) :
    refGate mod (ix3 b s d) = Ideal.ofBits .f32 0x3F000000#32 * mod (ix4 b 2 2 d) := by
  pointwise [refGate]

/-- The normalized rows are the kernel's. -/
theorem refRows_apply (b : Fin 4) (s d : Fin 2048) : refRows x mod pre (ix3 b s d) = nrow x mod pre b s d := by
  have e : refRows x mod pre (ix3 b s d)
      = refScaled x (ix3 b s d) * refGain pre (ix3 b s d) * refScale mod (ix3 b s d) + refShift mod (ix3 b s d) := rfl
  rw [e, refScaled_apply, refGain_apply, refScale_apply, refShift_apply, mul_assoc (_ * _)]
  rfl

theorem refUp_apply (h : FVec Ideal S4x2048x2048 .f32) (w : FVec Ideal S2048x5632 .f32) (b : Fin 4) (s : Fin 2048) (f : Fin 5632) :
    refUp h w (ix3 b s f) = ∑ i : Fin 2048, h (ix3 b s i) * w (ix2 i f) := by
  pointwise [refUp]

theorem refSilu_apply (a : FVec Ideal S4x2048x5632 .f32) (b : Fin 4) (s : Fin 2048) (f : Fin 5632) :
    refSilu a (ix3 b s f) = a (ix3 b s f) * Ideal.logistic (a (ix3 b s f)) := by
  have e : refSilu a (ix3 b s f) = a (ix3 b s f)
      * Ideal.div (Ideal.ofBits .f32 0x3F800000#32) (Ideal.ofBits .f32 0x3F800000#32 + Ideal.exp (-(a (ix3 b s f)))) := by
    pointwise [refSilu]
  rw [e, Ideal.ofBits_one_f32]
  rfl

theorem refProd_apply (h : FVec Ideal S4x2048x2048 .f32) (b : Fin 4) (s e : Fin 2048) : refProd wg wu wd h (ix3 b s e)
    = ∑ f : Fin 5632, hidden (fun i => h (ix3 b s i)) (fun i => wg (ix2 i f)) (fun i => wu (ix2 i f)) * wd (ix2 f e) := by
  have e1 : ∀ v : FVec Ideal S4x2048x5632 .f32, Host.dotGeneral dot_S4x2048x5632_S5632x2048_S4x2048x2048_2_0_01_1_n_n none v wd (ix3 b s e)
      = ∑ f : Fin 5632, v (ix3 b s f) * wd (ix2 f e) := fun v => by pointwise
  refine (e1 _).trans (Finset.sum_congr rfl fun f _ => congrArg (· * _) ?_)
  show refSilu (refUp h wg) (ix3 b s f) * refUp h wu (ix3 b s f) = _
  rw [refSilu_apply, refUp_apply, refUp_apply]
  rfl

theorem flat_ref (y : FVec Ideal S4x2048x2048 .f32) (r : Fin 8192) (d : Fin 2048) :
    shapeCast S8192x2048 y shapeCasts_S4x2048x2048_S8192x2048 (ix2 r d)
      = y (ix3 (⟨r.val / 2048, by omega⟩ : Fin 4) (⟨r.val % 2048, by omega⟩ : Fin 2048) d) := by
  pointwise

/-- The gate times the scaled row times the gain is the scaled row times the coefficient. -/
theorem gate_times_gain (a u p q h : EReal) : a + u * (p * q * h) = a + p * q * (u * h) := by
  rw [mul_left_comm u (p * q) h]

/-- The reference's result is the kernel's. -/
theorem refOut_eq : refOut x mod pre post wg wu wd = G x mod pre post wg wu wd := by
  funext j
  obtain ⟨r, d, rfl⟩ : ∃ (r : Fin 8192) (d : Fin 2048), j = ix2 r d := ⟨j 0, j 1, eq_ix2 j⟩
  refine (flat_ref _ r d).trans ?_
  generalize hb : (⟨r.val / 2048, by omega⟩ : Fin 4) = b
  generalize hs : (⟨r.val % 2048, by omega⟩ : Fin 2048) = s
  have e : (addf x (mulf (refGate mod) (mulf (refScaled (refProd wg wu wd (refRows x mod pre))) (refGain post)))) (ix3 b s d)
      = x (ix3 b s d) + refGate mod (ix3 b s d) * (refScaled (refProd wg wu wd (refRows x mod pre)) (ix3 b s d) * refGain post (ix3 b s d)) := rfl
  rw [e, refScaled_apply, refGate_apply, refGain_apply, gate_times_gain]
  simp only [refProd_apply, refRows_apply]
  subst hb hs
  rfl

end Term

end Cert.Proof.Ffn

end
-- ==== Proof.Ffn.Claim.lean ====
/- The feed-forward sublayer's claims: what its reference leaves, that the kernel leaves the same, and that kernel and
   reference change no argument and end with every semaphore at zero. -/
module

public import proofs.«01_k».proof.Proof.Ffn.Ref
public import Idealize.ShloMosaic.Lib.Quiescent

@[expose] public section

set_option maxRecDepth 16384

noncomputable section

namespace Cert.Proof.Ffn

open Cert.FfnRefIdeal Cert.FfnRefIdeal.Gen Idealize.ShloMosaic Idealize.ShloMosaic.TcCoe Idealize.SL.Sem

/-- The reference's run with its result named. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v55) = refOut (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.FfnRefIdeal.Value.run m ρ

/-- The feed-forward kernel and its reference leave the same result. -/
theorem algebraic : Cert.algebraic_FfnIdeal_FfnRefIdeal (hFfnIdeal := Cert.FfnIdeal.Gen.facts)
    (hFfnRefIdeal := Cert.FfnRefIdeal.Gen.facts) := fun m g m' g' _ hagree =>
  ⟨GM m, run m g, (θ_run _ _ _).mono (fun r h c => by
    obtain ⟨h0, h'⟩ := h c
    obtain ⟨a0, a1, a2, a3, a4, a5, a6⟩ := hagree c
    refine ⟨h0.trans ?_, h'⟩
    rw [a0, a1, a2, a3, a4, a5, a6]
    exact refOut_eq _ _ _ _ _ _ _) (ref_run m' g')⟩

/-- The reference ends, its arguments as they were; it declares no semaphore, so none is left raised. -/
theorem frame_ref : Cert.quiescent_FfnRefIdeal (hFfnRefIdeal := Cert.FfnRefIdeal.Gen.facts) := fun m ρ _ =>
  (θ_run _ _ _).mono (fun r h => ⟨fun c => (h c).2, sem_eq_zero_of_no_sems rfl r.2⟩) (ref_run m ρ)

/-- The kernel ends, its arguments as they were, every semaphore at zero. -/
theorem frame_ideal : Cert.quiescent_FfnIdeal (hFfnIdeal := Cert.FfnIdeal.Gen.facts) := fun m ρ _ => frame_any m ρ

end Cert.Proof.Ffn

end
-- ==== Proof.Ffn.Words.lean ====
/- The feed-forward kernel's frame at float words: its text is the idealized one's, so the run is the same. -/
module

public import proofs.«01_k».proof.Defs
public import proofs.«01_k».proof.Proof.Gen.Ffn
public import proofs.«01_k».proof.Proof.Ffn.Quiet

@[expose] public section

set_option maxRecDepth 16384

noncomputable section

namespace Cert.Proof.Ffn

open Idealize.ShloMosaic Idealize.SL.Sem

/-- The two texts give every label the same body, -/
theorem bodies_eq {F : FTy → Type} [FloatOps F] : Cert.Ffn.defs₀ (F := F) = Cert.FfnIdeal.defs₀ (F := F) := by
  unfold Cert.Ffn.defs₀ Cert.FfnIdeal.defs₀
  refine congrArg Defs.onTc (funext fun l => funext fun a => ?_)
  match l, a with
  | 0, (t, s) => rfl

/-- so they define the same program. -/
theorem defs_eq {F : FTy → Type} [FloatOps F] : Cert.Ffn.defs (F := F) = Cert.FfnIdeal.defs (F := F) :=
  congrArg (Pipeline.defs (Cert.FfnIdeal.pcfgs (F := F))) bodies_eq

/-- The kernel ends, its arguments as they were, every semaphore at zero. -/
theorem frame_kernel : Cert.quiescent_Ffn (hFfn := Cert.Ffn.Gen.facts) := fun m ρ _ => by
  rw [defs_eq]
  exact frame_any m ρ

end Cert.Proof.Ffn

end
-- ==== Proof.Inproj.Pay.lean ====
/- The input projection's arithmetic at an index: a row normalized and modulated, and the eight stores that leave a product of
   rows and weights head by head. -/
module

public import proofs.«01_k».proof.Proof.Gen.InprojIdeal.Value
public import proofs.«01_k».proof.Proof.Rows.Chain
public import proofs.«01_k».proof.Proof.Rows.Norm
public import Idealize.ShloMosaic.Lib.WritesUnit
public import Idealize.ShloMosaic.Lib.Pipeline.ValueKit.Tiles

@[expose] public section

set_option maxRecDepth 16384

noncomputable section

namespace Cert.Proof.Inproj

open Cert.InprojIdeal Cert.InprojIdeal.Gen Idealize.ShloMosaic Cert.Proof.Rows

theorem pay5_apply (v47 : Vec Ideal S1x2048 .f32) (v49 v54 : Vec Ideal S1x1x2048 .f32) (v60 : Vec Ideal S16x2048 .f32)
    (r : Fin 16) (d : Fin 2048) :
    k0_pay5 v47 v49 v54 v60 (ix2 r d)
      = modulate (fun k => v60 (ix2 r k)) d (v47 (ix2 0 d)) (v49 (ix3 0 0 d)) (v54 (ix3 0 0 d)) := by
  pointwise [k0_pay5, modulate]

/-- A block of rows, normalized and modulated. -/
def rowsV (x0 : Vec Ideal S1024x2048 .f32) (x1 : Vec Ideal S1x9x2048 .f32) (x2 : Vec Ideal S1x2048 .f32) : Vec Ideal S1024x2048 .bf16 :=
  fun j => modulate (fun k => x0 (ix2 (j 0 : Fin 1024) k)) (j 1 : Fin 2048) (x2 (ix2 0 (j 1 : Fin 2048)))
    (x1 (ix3 0 4 (j 1 : Fin 2048))) (x1 (ix3 0 3 (j 1 : Fin 2048)))

/-- A row times column `e` of head `p` of the block of weights. -/
def headV (h : Vec Ideal S1024x2048 .bf16) (w : Vec Ideal S2048x1024 .bf16) (p : Fin 8) (r : Fin 1024) (e : Fin 128) : EReal :=
  ∑ i : Fin 2048, h (ix2 r i) * w (ix2 i (⟨128 * p.val + e.val, by omega⟩ : Fin 1024))

/-- The product laid out head by head. -/
def outV (h : Vec Ideal S1024x2048 .bf16) (w : Vec Ideal S2048x1024 .bf16) : Vec Ideal S1x8x1024x128 .bf16 :=
  fun j => headV h w (j 1) (j 2) (j 3)

theorem pay6_apply (h : Vec Ideal S1024x2048 .bf16) (w : Vec Ideal S2048x1024 .bf16) (r : Fin 1024) (k : Fin 1024) :
    k0_pay6 h w (ix2 r k) = ∑ i : Fin 2048, h (ix2 r i) * w (ix2 i k) := by
  pointwise [k0_pay6]

/-- Columns `128 p …` of a product, stored as one head. -/
theorem head_apply (v : FVec Ideal S1024x1024 .f32) (p : Fin 8) (hs : S1024x1024.Slices ![0, 128 * p.val] S1024x128) (r : Fin 1024) (e : Fin 128) :
    shapeCast S1x1x1024x128 (truncf .bf16 (extractStridedSlice S1024x128 ![0, 128 * p.val] v hs) bitsLt_bf16_f32 : FVec Ideal S1024x128 .bf16)
      shapeCasts_S1024x128_S1x1x1024x128 (ix4 0 0 r e) = v (ix2 r (⟨128 * p.val + e.val, by omega⟩ : Fin 1024)) := by
  pointwise

theorem head_eq (h : Vec Ideal S1024x2048 .bf16) (w : Vec Ideal S2048x1024 .bf16) (p : Fin 8) (hs : S1024x1024.Slices ![0, 128 * p.val] S1024x128)
    (r : Fin 1024) (e : Fin 128) :
    shapeCast S1x1x1024x128 (truncf .bf16 (extractStridedSlice S1024x128 ![0, 128 * p.val] (k0_pay6 h w) hs) bitsLt_bf16_f32 : FVec Ideal S1024x128 .bf16)
      shapeCasts_S1024x128_S1x1x1024x128 (ix4 0 0 r e) = headV h w p r e :=
  (head_apply _ p hs r e).trans (pay6_apply h w r _)

end Cert.Proof.Inproj

end
-- ==== Proof.Inproj.Step.lean ====
/- What the input projection's body leaves: its block of rows normalized by a point that begins a block, and at every point
   the product of those rows with the point's weights, head by head. -/
module

public import proofs.«01_k».proof.Proof.Inproj.Pay
public import proofs.«01_k».proof.Proof.Rows.Load

@[expose] public section

set_option maxRecDepth 16384

noncomputable section

namespace Cert.Proof.Inproj

open Cert.InprojIdeal Cert.InprojIdeal.Gen Idealize.ShloMosaic Idealize.ShloMosaic.TcCoe Cert.Proof.Rows

/-! ## The eight stores -/

/-- The eight stores of heads, as the body makes them. -/
abbrev headsL (h : Vec Ideal S1024x2048 .bf16) (w : Vec Ideal S2048x1024 .bf16) : List (View.Piece (Elt Ideal) S1x8x1024x128 .bf16) :=
  [⟨Rect.unit (s := S1x8x1024x128) ![0, 7, 0, 0] S1x1x1024x128.size inb_S1x8x1024x128_S1x1x1024x128_0_7_0_0, k0_pay4 (k0_pay6 h w)⟩,
   ⟨Rect.unit (s := S1x8x1024x128) ![0, 6, 0, 0] S1x1x1024x128.size inb_S1x8x1024x128_S1x1x1024x128_0_6_0_0, k0_pay3 (k0_pay6 h w)⟩,
   ⟨Rect.unit (s := S1x8x1024x128) ![0, 5, 0, 0] S1x1x1024x128.size inb_S1x8x1024x128_S1x1x1024x128_0_5_0_0, k0_pay2 (k0_pay6 h w)⟩,
   ⟨Rect.unit (s := S1x8x1024x128) ![0, 4, 0, 0] S1x1x1024x128.size inb_S1x8x1024x128_S1x1x1024x128_0_4_0_0, k0_pay1 (k0_pay11 h w)⟩,
   ⟨Rect.unit (s := S1x8x1024x128) ![0, 3, 0, 0] S1x1x1024x128.size inb_S1x8x1024x128_S1x1x1024x128_0_3_0_0, k0_pay10 h w⟩,
   ⟨Rect.unit (s := S1x8x1024x128) ![0, 2, 0, 0] S1x1x1024x128.size inb_S1x8x1024x128_S1x1x1024x128_0_2_0_0, k0_pay9 h w⟩,
   ⟨Rect.unit (s := S1x8x1024x128) ![0, 1, 0, 0] S1x1x1024x128.size inb_S1x8x1024x128_S1x1x1024x128_0_1_0_0, k0_pay8 h w⟩,
   ⟨Rect.unit (s := S1x8x1024x128) ![0, 0, 0, 0] S1x1x1024x128.size inb_S1x8x1024x128_S1x1x1024x128_0_0_0_0, k0_pay7 h w⟩]

/-- A store of head `p` agrees with the product where it stores. -/
theorem tile_head {h : Vec Ideal S1024x2048 .bf16} {w : Vec Ideal S2048x1024 .bf16} (p : Fin 8) {a : Vec Ideal S1x1x1024x128 .bf16}
    (ha : ∀ (r : Fin 1024) (e : Fin 128), a (ix4 0 0 r e) = headV h w p r e) (y : S1x8x1024x128.Idx) :
    View.TileAt y ![0, p.val, 0, 0] S1x1x1024x128.size a (outV h w y) := by
  intro x hx
  obtain ⟨u, v, r, e, rfl⟩ : ∃ (u v : Fin 1) (r : Fin 1024) (e : Fin 128), x = ix4 u v r e := ⟨x 0, x 1, x 2, x 3, eq_ix4 x⟩
  obtain ⟨z, q, s, d, rfl⟩ : ∃ (z : Fin 1) (q : Fin 8) (s : Fin 1024) (d : Fin 128), y = ix4 z q s d := ⟨y 0, y 1, y 2, y 3, eq_ix4 y⟩
  have h1 : q.val = p.val + v.val := hx 1
  have h2 : s.val = 0 + r.val := hx 2
  have h3 : d.val = 0 + e.val := hx 3
  obtain rfl : u = 0 := Subsingleton.elim _ _
  obtain rfl : v = 0 := Subsingleton.elim _ _
  obtain rfl : q = p := Fin.ext (by simpa using h1)
  obtain rfl : s = r := Fin.ext (by omega)
  obtain rfl : d = e := Fin.ext (by omega)
  exact ha s d

/-- The eight stores, read back through any view, are the product head by head. -/
theorem read_headsL {sig : RefSig} {κ : Kind} {sp : Space} (v : View sig κ sp S1x8x1024x128 .bf16) (f : v.ty.Contents (Elt Ideal))
    (h : Vec Ideal S1024x2048 .bf16) (w : Vec Ideal S2048x1024 .bf16)
    (hc : ∀ y : S1x8x1024x128.Idx, ∃ p ∈ headsL h w, y ∈ p.1.set) :
    v.read (Elt Ideal) (v.writes (Elt Ideal) f (headsL h w)) = outV h w := by
  funext y
  refine (View.read_writes_apply_eq_canon v f y _ (hc y)).trans (View.canon_eq_of_allAt _ y _ (hc y) ?_)
  exact View.allAt_cons_unit _ _ _ _ _ (tile_head 7 (head_eq h w 7 _) y)
    (View.allAt_cons_unit _ _ _ _ _ (tile_head 6 (head_eq h w 6 _) y)
    (View.allAt_cons_unit _ _ _ _ _ (tile_head 5 (head_eq h w 5 _) y)
    (View.allAt_cons_unit _ _ _ _ _ (tile_head 4 (head_eq h w 4 _) y)
    (View.allAt_cons_unit _ _ _ _ _ (tile_head 3 (head_eq h w 3 _) y)
    (View.allAt_cons_unit _ _ _ _ _ (tile_head 2 (head_eq h w 2 _) y)
    (View.allAt_cons_unit _ _ _ _ _ (tile_head 1 (head_eq h w 1 _) y)
    (View.allAt_cons_unit _ _ _ _ _ (tile_head 0 (head_eq h w 0 _) y) (View.allAt_nil _ _))))))))

/-! ## The loop that begins a block -/

section Args

variable (c : Dev nD) (i : grid0.Coords)
  (arg2 : Memref sig .tc .vmem S1024x2048 .f32) (harg2 : arg2.IsWhole)
  (arg3 : Memref sig .tc .vmem S1x9x2048 .f32) (harg3 : arg3.IsWhole)
  (arg4 : Memref sig .tc .vmem S1x2048 .f32) (harg4 : arg4.IsWhole)
  (arg5 : Memref sig .tc .vmem S2048x1024 .bf16) (harg5 : arg5.IsWhole)
  (arg6 : Memref sig .tc .vmem S1x8x1024x128 .bf16) (harg6 : arg6.IsWhole)
  (arg7 : Memref sig .tc .vmem S1024x2048 .bf16) (harg7 : arg7.IsWhole)
  (x0 : Vec Ideal S1024x2048 .f32) (x1 : Vec Ideal S1x9x2048 .f32) (x2 : Vec Ideal S1x2048 .f32) (x3 : Vec Ideal S2048x1024 .bf16)

section Loop

variable (hc : k0_cond1 i = 1#1) (v47 : Vec Ideal S1x2048 .f32) (v49 v54 : Vec Ideal S1x1x2048 .f32)

/-- One trip's store: sixteen rows normalized. -/
theorem trip_eq (k : Fin k0_t1_loop.trips) :
    tripL_k0_t1 (F := Ideal) Variants.none c none i arg2 harg2 arg3 harg3 arg4 harg4 arg5 harg5 arg6 harg6 arg7 harg7 hc v47 v49 v54 (harg2.unread x0) k
      = [⟨Rect.unit (s := S1024x2048) (k0_off1 k) S16x2048.size (k0_off1_inb i k hc),
          k0_pay5 v47 v49 v54 (View.readAt (Elt Ideal) arg2.view
            (Rect.unit (s := S1024x2048) (k0_off1 k) S16x2048.size (k0_off1_inb i k hc)).toLoadRect (harg2.unread x0))⟩] := by
  unfold tripL_k0_t1 trip_k0_t1
  rfl

/-- Sixteen rows from row `16 k` on. -/
theorem rows_idx (k : Fin k0_t1_loop.trips) (r : Fin 16) (d : Fin 2048) (hr : 16 * k.val + r.val < 1024) :
    (Rect.unit (s := S1024x2048) (k0_off1 k) S16x2048.size (k0_off1_inb i k hc)).toLoadRect.idx (ix2 r d)
      = ix2 (⟨16 * k.val + r.val, hr⟩ : Fin 1024) d := by
  have e := k0_off1_eq k
  funext a
  apply Fin.ext
  match a with
  | ⟨0, _⟩ =>
    show k0_off1 k (0 : Fin 2) + 1 * r.val = 16 * k.val + r.val
    rw [e]; simp
  | ⟨1, _⟩ =>
    show k0_off1 k (1 : Fin 2) + 1 * d.val = d.val
    rw [e]; simp

/-- The stores of the first `k` trips leave their rows normalized. -/
theorem loop_read {κ : Kind} {sp : Space} (v : View sig κ sp S1024x2048 .bf16) (f : v.ty.Contents (Elt Ideal)) (r : Fin 1024) (d : Fin 2048) :
    ∀ k : ℕ, k ≤ 64 → r.val < 16 * k →
      v.read (Elt Ideal) (v.writes (Elt Ideal) f (pb_k0_t1 (F := Ideal) Variants.none c none i arg2 harg2 arg3 harg3 arg4 harg4
        arg5 harg5 arg6 harg6 arg7 harg7 hc v47 v49 v54 (harg2.unread x0) k)) (ix2 r d)
          = modulate (fun k => x0 (ix2 r k)) d (v47 (ix2 0 d)) (v49 (ix3 0 0 d)) (v54 (ix3 0 0 d))
  | 0, _, hr => absurd hr (by omega)
  | k + 1, hk, hr => by
    have ht : k < k0_t1_loop.trips := lt_of_lt_of_eq hk (by decide)
    have e := k0_off1_eq ⟨k, ht⟩
    rw [pb_k0_t1_succ (F := Ideal) Variants.none c none i arg2 harg2 arg3 harg3 arg4 harg4 arg5 harg5 arg6 harg6 arg7 harg7 hc v47 v49 v54
      (harg2.unread x0) ⟨k, ht⟩, trip_eq]
    by_cases hr' : r.val < 16 * k
    · exact Eq.trans (View.read_writes_cons_rows_of_not_mem _ _ _ _ _ _ e rfl (.inl hr')) (loop_read v f r d k (by omega) hr')
    · have hx : r.val = 16 * k + (r.val - 16 * k) := by omega
      refine Eq.trans (View.read_writes_cons_rows_of_mem _ _ _ _ _ _ (ix2 (⟨r.val - 16 * k, by omega⟩ : Fin 16) d) e hx rfl) ?_
      rw [pay5_apply, readAt_unread]
      refine congrArg (fun x => modulate x d _ _ _) (funext fun j => ?_)
      exact congrArg x0 ((rows_idx i hc ⟨k, ht⟩ (⟨r.val - 16 * k, by omega⟩ : Fin 16) j
        (by show 16 * k + (r.val - 16 * k) < 1024; omega)).trans (congrArg (fun r => ix2 r j) (Fin.ext hx.symm)))

end Loop

/-! ## A point's contents -/

/-- A point that begins a block leaves the block's rows normalized, whatever view reads them. -/
theorem rows_read (hc0 : cond0_0 i) {κ : Kind} {sp : Space} (v : View sig κ sp S1024x2048 .bf16) (f : v.ty.Contents (Elt Ideal)) :
    v.read (Elt Ideal) (v.writes (Elt Ideal) f
      (kernelRun0_A (F := Ideal) c i arg2 harg2 arg3 harg3 arg4 harg4 arg5 harg5 arg6 harg6 arg7 harg7 hc0 x0 x1 x2 x3).2.1) = rowsV x0 x1 x2 := by
  funext j
  obtain ⟨r, d, rfl⟩ : ∃ (r : Fin 1024) (d : Fin 2048), j = ix2 r d := ⟨j 0, j 1, eq_ix2 j⟩
  have e : Scf.trips k0_t1_loop.lb k0_t1_loop.ub k0_t1_loop.st = 64 := by decide
  refine (loop_read c i arg2 harg2 arg3 harg3 arg4 harg4 arg5 harg5 arg6 harg6 arg7 harg7 x0 hc0 _ _ _ v f r d
    (Scf.trips k0_t1_loop.lb k0_t1_loop.ub k0_t1_loop.st) e.le (by rw [e]; omega)).trans ?_
  simp only [readAt_unread]
  unfold rowsV
  pointwise

/-- A point that begins a block leaves its rows in the carried buffer … -/
theorem sout_A (hc0 : cond0_0 i) :
    sout0_A_0 (F := Ideal) c i arg2 harg2 arg3 harg3 arg4 harg4 arg5 harg5 arg6 harg6 arg7 harg7 hc0 x0 x1 x2 x3 = rowsV x0 x1 x2 :=
  rows_read c i arg2 harg2 arg3 harg3 arg4 harg4 arg5 harg5 arg6 harg6 arg7 harg7 x0 x1 x2 x3 hc0 _ _

/-- … and their product with its weights in the result's. -/
theorem out_A (hc0 : cond0_0 i) :
    out0_A_4 (F := Ideal) c i arg2 harg2 arg3 harg3 arg4 harg4 arg5 harg5 arg6 harg6 arg7 harg7 hc0 x0 x1 x2 x3 = outV (rowsV x0 x1 x2) x3 := by
  have hc := cover0_A_4 (F := Ideal) c i arg2 harg2 arg3 harg3 arg4 harg4 arg5 harg5 arg6 harg6 arg7 harg7 hc0 x0 x1 x2 x3
  have hR : arg7.view.readCov (kernelRun0_A (F := Ideal) c i arg2 harg2 arg3 harg3 arg4 harg4 arg5 harg5 arg6 harg6 arg7 harg7 hc0 x0 x1 x2 x3).2.1
      (Rect.unit (s := S1024x2048) ![0, 0] S1024x2048.size inb_S1024x2048_S1024x2048_0_0).toLoadRect = rowsV x0 x1 x2 := by
    refine Eq.trans (funext fun j => ?_) (rows_read c i arg2 harg2 arg3 harg3 arg4 harg4 arg5 harg5 arg6 harg6 arg7 harg7 x0 x1 x2 x3 hc0 arg7.view arg7.view.junk)
    exact congrArg _ (whole_idx _ j)
  refine (read_headsL VO0_4 VO0_4.junk _ _ hc).trans ?_
  exact congrArg₂ outV hR (load_whole harg5 x3 _)

/-- A later point of a block leaves the product of the carried rows with its weights. -/
theorem out_B (hc0 : ¬cond0_0 i) (h : Vec Ideal S1024x2048 .bf16) :
    out0_B_4 (F := Ideal) c i arg2 harg2 arg3 harg3 arg4 harg4 arg5 harg5 arg6 harg6 arg7 harg7 hc0 x0 x1 x2 x3 h = outV h x3 := by
  have hc := cover0_B_4 (F := Ideal) c i arg2 harg2 arg3 harg3 arg4 harg4 arg5 harg5 arg6 harg6 arg7 harg7 hc0 x0 x1 x2 x3 h
  refine (read_headsL VO0_4 VO0_4.junk _ _ hc).trans ?_
  exact congrArg₂ outV (load_whole harg7 h _) (load_whole harg5 x3 _)

end Args

end Cert.Proof.Inproj

end
-- ==== Proof.Inproj.Args.lean ====
/- The input projection's blocks: the arrays the host prepares, what block each grid point reads of them, and the result as
   one function of the arguments. -/
module

public import proofs.«01_k».proof.Proof.Inproj.Step

@[expose] public section

set_option maxRecDepth 16384

noncomputable section

namespace Cert.Proof.Inproj

open Cert.InprojIdeal Cert.InprojIdeal.Gen Idealize.ShloMosaic Idealize.ShloMosaic.TcCoe Idealize.SL.Sem
open Cert.Proof.Rows

/-! ## The result as a function of the arguments -/

section Result

variable (x : Vec Ideal S4x2048x2048 .f32) (mod : Vec Ideal S4x3x3x2048 .f32) (pre : Vec Ideal S3x2048 .f32)
  (w : Vec Ideal S2048x6144 .f32)

/-- A token's row, normalized and modulated. -/
def nrow (b : Fin 4) (s : Fin 2048) : Fin 2048 → EReal := fun d =>
  modulate (fun k => x (ix3 b s k)) d (pre (ix2 1 d)) (mod (ix4 b 1 1 d)) (mod (ix4 b 1 0 d))

/-- A token's row times the weights of entry `e` of head `n`. -/
def proj (b : Fin 4) (n : Fin 48) (s : Fin 2048) (e : Fin 128) : EReal :=
  ∑ i : Fin 2048, nrow x mod pre b s i * w (ix2 i (⟨128 * n.val + e.val, by omega⟩ : Fin 6144))

/-- The projection, at a batch, a head, a token and an entry. -/
def G : Vec Ideal S4x48x2048x128 .bf16 := fun j => proj x mod pre w (j 0) (j 1) (j 2) (j 3)

end Result

/-- The batch of block `u` of the rows, its token `q`, and that token's row. -/
abbrev bat (u : Fin 8) : Fin 4 := ⟨u.val / 2, by omega⟩
abbrev tok (u : Fin 8) (q : Fin 1024) : Fin 2048 := ⟨1024 * (u.val % 2) + q.val, by omega⟩
abbrev row (u : Fin 8) (q : Fin 1024) : Fin 8192 := ⟨1024 * u.val + q.val, by omega⟩

/-- Column `k` of block `i` of the weights, and head `p` of those columns. -/
abbrev col (i : Fin 6) (k : Fin 1024) : Fin 6144 := ⟨1024 * i.val + k.val, by omega⟩
abbrev headOf (i : Fin 6) (p : Fin 8) : Fin 48 := ⟨8 * i.val + p.val, by omega⟩

/-- The block of rows of a grid point, and its block of columns. -/
abbrev blkOf (t : Fin cfg0.N) : Fin 8 := ⟨t.val / 6, by have : t.val < 48 := t.isLt; omega⟩
abbrev colOf (t : Fin cfg0.N) : Fin 6 := ⟨t.val % 6, Nat.mod_lt _ (by decide)⟩

variable (m : (ℓ : Loc nD τ sig) → Buf (Elt Ideal) ℓ)

/-! ## The host's part: the arrays the grid reads -/

theorem V0 (c : Dev nD) : V m c main_v0 = shapeCast S4x9x2048 (m ((c : Thread nD τ).loc main_arg1)) shapeCasts_S4x3x3x2048_S4x9x2048 := by
  unfold_abbrev_sides
  after_results_simp <;> rfl
theorem V2 (c : Dev nD) : V m c main_v2 = shapeCast S8192x2048 (m ((c : Thread nD τ).loc main_arg0)) shapeCasts_S4x2048x2048_S8192x2048 := by
  unfold_abbrev_sides
  after_results_simp <;> rfl
theorem V4 (c : Dev nD) : V m c main_v4 = shapeCast S1x2048 (extractStridedSlice S1x1x2048 ![1, 0, 0]
    (shapeCast S3x1x2048 (m ((c : Thread nD τ).loc main_arg2)) shapeCasts_S3x2048_S3x1x2048) slices_S3x1x2048_S1x1x2048_1_0_0)
    shapeCasts_S1x1x2048_S1x2048 := by
  unfold_abbrev_sides
  after_results_simp <;> rfl
theorem V5 (c : Dev nD) : V m c main_v5 = truncf (F := Ideal) (s := S2048x6144) (φ := .f32) .bf16 (m ((c : Thread nD τ).loc main_arg3) : FVec Ideal S2048x6144 .f32) bitsLt_bf16_f32 := by
  unfold_abbrev_sides
  after_results_simp <;> rfl

/-! ## The blocks' indices -/

theorem idx0 : ∀ t : Fin cfg0.N, win0_0.index t (0 : Fin 2) = t.val / 6 ∧ win0_0.index t (1 : Fin 2) = 0 := (by decide +kernel : ∀ t : Fin grid0.N, _)
theorem idx1 : ∀ t : Fin cfg0.N, win0_1.index t (0 : Fin 3) = t.val / 6 / 2 ∧ win0_1.index t (1 : Fin 3) = 0 ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = t.val % 6 := (by decide +kernel : ∀ t : Fin grid0.N, _)
theorem idx4 : ∀ t : Fin cfg0.N, win0_4.index t (0 : Fin 4) = t.val / 6 / 2 ∧ win0_4.index t (1 : Fin 4) = t.val % 6
    ∧ win0_4.index t (2 : Fin 4) = t.val / 6 % 2 ∧ win0_4.index t (3 : Fin 4) = 0 := (by decide +kernel : ∀ t : Fin grid0.N, _)

theorem emb0 (t : Fin cfg0.N) (q : Fin 1024) (d : Fin 2048) : ((cfg0.win 0).blk t).view.emb (ix2 q d) = ix2 (row (blkOf t) q) d := by
  obtain ⟨e0, e1⟩ := idx0 t
  funext a; apply Fin.ext
  match a with
  | ⟨0, _⟩ => show win0_0.index t (0 : Fin 2) * 1024 + 1 * q.val = 1024 * (t.val / 6) + q.val; omega
  | ⟨1, _⟩ => show win0_0.index t (1 : Fin 2) * 2048 + 1 * d.val = d.val; omega
theorem emb1 (t : Fin cfg0.N) (p : Fin 9) (d : Fin 2048) : ((cfg0.win 1).blk t).view.emb (ix3 0 p d) = ix3 (bat (blkOf t)) p d := by
  obtain ⟨e0, e1, e2⟩ := idx1 t
  funext a; apply Fin.ext
  match a with
  | ⟨0, _⟩ => show win0_1.index t (0 : Fin 3) * 1 + 1 * 0 = t.val / 6 / 2; omega
  | ⟨1, _⟩ => show win0_1.index t (1 : Fin 3) * 9 + 1 * p.val = p.val; omega
  | ⟨2, _⟩ => show win0_1.index t (2 : Fin 3) * 2048 + 1 * d.val = d.val; omega
theorem emb2 (t : Fin cfg0.N) (d : Fin 2048) : ((cfg0.win 2).blk t).view.emb (ix2 0 d) = ix2 0 d := by
  obtain ⟨e0, e1⟩ := idx2 t
  funext a; apply Fin.ext
  match a with
  | ⟨0, _⟩ => show win0_2.index t (0 : Fin 2) * 1 + 1 * 0 = 0; omega
  | ⟨1, _⟩ => show win0_2.index t (1 : Fin 2) * 2048 + 1 * d.val = d.val; omega
theorem emb3 (t : Fin cfg0.N) (i : Fin 2048) (k : Fin 1024) : ((cfg0.win 3).blk t).view.emb (ix2 i k) = ix2 i (col (colOf t) k) := by
  obtain ⟨e0, e1⟩ := idx3 t
  funext a; apply Fin.ext
  match a with
  | ⟨0, _⟩ => show win0_3.index t (0 : Fin 2) * 2048 + 1 * i.val = i.val; omega
  | ⟨1, _⟩ => show win0_3.index t (1 : Fin 2) * 1024 + 1 * k.val = 1024 * (t.val % 6) + k.val; omega
theorem emb4 (t : Fin cfg0.N) (p : Fin 8) (q : Fin 1024) (e : Fin 128) :
    ((cfg0.win 4).blk t).view.emb (ix4 0 p q e) = ix4 (bat (blkOf t)) (headOf (colOf t) p) (tok (blkOf t) q) e := by
  obtain ⟨e0, e1, e2, e3⟩ := idx4 t
  funext a; apply Fin.ext
  match a with
  | ⟨0, _⟩ => show win0_4.index t (0 : Fin 4) * 1 + 1 * 0 = t.val / 6 / 2; omega
  | ⟨1, _⟩ => show win0_4.index t (1 : Fin 4) * 8 + 1 * p.val = 8 * (t.val % 6) + p.val; omega
  | ⟨2, _⟩ => show win0_4.index t (2 : Fin 4) * 1024 + 1 * q.val = 1024 * (t.val / 6 % 2) + q.val; omega
  | ⟨3, _⟩ => show win0_4.index t (3 : Fin 4) * 128 + 1 * e.val = e.val; omega

/-! ## The blocks' entries -/

theorem flat_apply (v : Vec Ideal S4x2048x2048 .f32) (u : Fin 8) (q : Fin 1024) (d : Fin 2048) :
    shapeCast S8192x2048 v shapeCasts_S4x2048x2048_S8192x2048 (ix2 (row u q) d) = v (ix3 (bat u) (tok u q) d) := by
  pointwise
  have hb : (1024 * u.val + q.val) / 2048 = u.val / 2 := by omega
  have hs : (1024 * u.val + q.val) % 2048 = 1024 * (u.val % 2) + q.val := by omega
  simp only [hb, hs]
theorem shift_apply (v : Vec Ideal S4x3x3x2048 .f32) (b : Fin 4) (d : Fin 2048) :
    shapeCast S4x9x2048 v shapeCasts_S4x3x3x2048_S4x9x2048 (ix3 b 3 d) = v (ix4 b 1 0 d) := by
  pointwise
theorem scale_apply (v : Vec Ideal S4x3x3x2048 .f32) (b : Fin 4) (d : Fin 2048) :
    shapeCast S4x9x2048 v shapeCasts_S4x3x3x2048_S4x9x2048 (ix3 b 4 d) = v (ix4 b 1 1 d) := by
  pointwise
theorem gain_apply (v : Vec Ideal S3x2048 .f32) (d : Fin 2048) :
    shapeCast S1x2048 (extractStridedSlice S1x1x2048 ![1, 0, 0] (shapeCast S3x1x2048 v shapeCasts_S3x2048_S3x1x2048)
      slices_S3x1x2048_S1x1x2048_1_0_0) shapeCasts_S1x1x2048_S1x2048 (ix2 0 d) = v (ix2 1 d) := by
  pointwise

theorem blk0 (c : Dev nD) (t : Fin cfg0.N) (q : Fin 1024) (d : Fin 2048) :
    iblk m c 0 t (ix2 q d) = (m ((c : Thread nD τ).loc main_arg0) : Vec Ideal S4x2048x2048 .f32) (ix3 (bat (blkOf t)) (tok (blkOf t) q) d) := by
  show V m c main_v2 (((cfg0.win 0).blk t).view.emb (ix2 q d)) = _
  rw [emb0, V2]
  exact flat_apply _ (blkOf t) q d
theorem blk1_shift (c : Dev nD) (t : Fin cfg0.N) (d : Fin 2048) :
    iblk m c 1 t (ix3 0 3 d) = (m ((c : Thread nD τ).loc main_arg1) : Vec Ideal S4x3x3x2048 .f32) (ix4 (bat (blkOf t)) 1 0 d) := by
  show V m c main_v0 (((cfg0.win 1).blk t).view.emb (ix3 0 3 d)) = _
  rw [emb1, V0]
  exact shift_apply _ (bat (blkOf t)) d
theorem blk1_scale (c : Dev nD) (t : Fin cfg0.N) (d : Fin 2048) :
    iblk m c 1 t (ix3 0 4 d) = (m ((c : Thread nD τ).loc main_arg1) : Vec Ideal S4x3x3x2048 .f32) (ix4 (bat (blkOf t)) 1 1 d) := by
  show V m c main_v0 (((cfg0.win 1).blk t).view.emb (ix3 0 4 d)) = _
  rw [emb1, V0]
  exact scale_apply _ (bat (blkOf t)) d
theorem blk2 (c : Dev nD) (t : Fin cfg0.N) (d : Fin 2048) :
    iblk m c 2 t (ix2 0 d) = (m ((c : Thread nD τ).loc main_arg2) : Vec Ideal S3x2048 .f32) (ix2 1 d) := by
  show V m c main_v4 (((cfg0.win 2).blk t).view.emb (ix2 0 d)) = _
  rw [emb2, V4]
  exact gain_apply _ d
theorem blk3 (c : Dev nD) (t : Fin cfg0.N) (i : Fin 2048) (k : Fin 1024) :
    iblk m c 3 t (ix2 i k) = (m ((c : Thread nD τ).loc main_arg3) : Vec Ideal S2048x6144 .f32) (ix2 i (col (colOf t) k)) := by
  show V m c main_v5 (((cfg0.win 3).blk t).view.emb (ix2 i k)) = _
  rw [emb3, V5]
  rfl

end Cert.Proof.Inproj

end
-- ==== Proof.Inproj.Run.lean ====
/- The input projection's run: its result array as one function of its arguments. -/
module

public import proofs.«01_k».proof.Proof.Inproj.Args

@[expose] public section

set_option maxRecDepth 16384

noncomputable section

namespace Cert.Proof.Inproj

open Cert.InprojIdeal Cert.InprojIdeal.Gen Idealize.ShloMosaic Idealize.ShloMosaic.TcCoe Idealize.SL.Sem
open Cert.InprojIdeal.Value Cert.Proof.Rows

variable (m : (ℓ : Loc nD τ sig) → Buf (Elt Ideal) ℓ) (ρ : Dev nD → PrngReg)

/-- Block `u` of the rows, normalized and modulated, and `G`, of the arguments as launched. -/
def rowsM (c : Dev nD) (u : Fin 8) : Vec Ideal S1024x2048 .bf16 := fun j =>
  nrow (m ((c : Thread nD τ).loc main_arg0)) (m ((c : Thread nD τ).loc main_arg1)) (m ((c : Thread nD τ).loc main_arg2)) (bat u)
    (tok u (j 0)) (j 1)
abbrev GM (c : Dev nD) : Vec Ideal S4x48x2048x128 .bf16 :=
  G (m ((c : Thread nD τ).loc main_arg0)) (m ((c : Thread nD τ).loc main_arg1)) (m ((c : Thread nD τ).loc main_arg2))
    (m ((c : Thread nD τ).loc main_arg3))

/-- What a point that begins a block normalizes are the block's rows. -/
theorem rowsV_eq (c : Dev nD) (t : Fin cfg0.N) : rowsV (iblk m c 0 t) (iblk m c 1 t) (iblk m c 2 t) = rowsM m c (blkOf t) := by
  funext j
  obtain ⟨q, d, rfl⟩ : ∃ (q : Fin 1024) (d : Fin 2048), j = ix2 q d := ⟨j 0, j 1, eq_ix2 j⟩
  show modulate (fun k => iblk m c 0 t (ix2 q k)) d (iblk m c 2 t (ix2 0 d)) (iblk m c 1 t (ix3 0 4 d)) (iblk m c 1 t (ix3 0 3 d)) = _
  simp only [blk0, blk1_shift, blk1_scale, blk2]
  rfl

/-- After every point the carried buffer holds the rows of the point's block. -/
theorem carried (c : Dev nD) : ∀ (n : ℕ) (hn : n < cfg0.N), (outsAt0 m c n hn).2 = rowsM m c (blkOf ⟨n, hn⟩) := by
  intro n
  induction n with
  | zero =>
    intro hn
    rw [outsAt0_A m c ⟨0, hn⟩ rfl]
    exact (sout_A c _ _ _ _ _ _ _ _ _ _ _ _ _ _ _ _ _ _).trans (rowsV_eq m c ⟨0, hn⟩)
  | succ n ih =>
    intro hn
    by_cases h0 : (n + 1) % 6 = 0
    · rw [outsAt0_A m c ⟨n + 1, hn⟩ h0]
      exact (sout_A c _ _ _ _ _ _ _ _ _ _ _ _ _ _ _ _ _ _).trans (rowsV_eq m c ⟨n + 1, hn⟩)
    · rw [outsAt0_B m c ⟨n + 1, hn⟩ h0]
      refine (ih (Nat.lt_of_succ_lt hn)).trans (congrArg (rowsM m c) (Fin.ext ?_))
      show n / 6 = (n + 1) / 6
      omega

/-- After every point the result's buffer holds the product of the block's rows with the point's weights. -/
theorem left (c : Dev nD) (t : Fin cfg0.N) : (outsAt0 m c t.val t.isLt).1 = outV (rowsM m c (blkOf t)) (iblk m c 3 t) := by
  by_cases h0 : t.val % 6 = 0
  · rw [outsAt0_A m c t h0]
    dsimp only
    rw [out_A, rowsV_eq]
  · rw [outsAt0_B m c t h0]
    dsimp only
    rw [out_B, carried m c (t.val - 1)]
    refine congrArg (fun u => outV (rowsM m c u) (iblk m c 3 t)) (Fin.ext ?_)
    show (t.val - 1) / 6 = t.val / 6
    omega

/-- What a point writes back is its block of the result. -/
theorem flushed_eq (c : Dev nD) (t : Fin cfg0.N) :
    (dats m 0 c).flushed 4 t = ((cfg0.win 4).blk t).view.read (Elt Ideal) (GM m c) := by
  rw [flushed4, left]
  funext j
  obtain ⟨z, p, q, e, rfl⟩ : ∃ (z : Fin 1) (p : Fin 8) (q : Fin 1024) (e : Fin 128), j = ix4 z p q e := ⟨j 0, j 1, j 2, j 3, eq_ix4 j⟩
  obtain rfl : z = 0 := Subsingleton.elim _ _
  show headV (rowsM m c (blkOf t)) (iblk m c 3 t) p q e = GM m c (((cfg0.win 4).blk t).view.emb (ix4 0 p q e))
  rw [emb4]
  show headV (rowsM m c (blkOf t)) (iblk m c 3 t) p q e = proj _ _ _ _ _ _ _ _
  unfold headV proj
  refine Finset.sum_congr rfl fun i _ => ?_
  rw [blk3]
  refine congrArg (_ * ·) (congrArg (fun k => (m ((c : Thread nD τ).loc main_arg3) : Vec Ideal S2048x6144 .f32) (ix2 i k)) (Fin.ext ?_))
  show 1024 * (t.val % 6) + (128 * p.val + e.val) = 128 * (8 * (t.val % 6) + p.val) + e.val
  omega

/-- Every index of the result is in a block. -/
theorem covered (j : S4x48x2048x128.Idx) :
    ∃ t : Fin cfg0.N, (cfg0.win 4).flush t = true ∧ j ∈ ((cfg0.win 4).blk t).view.set := by
  obtain ⟨b, n, s, e, rfl⟩ : ∃ (b : Fin 4) (n : Fin 48) (s : Fin 2048) (e : Fin 128), j = ix4 b n s e := ⟨j 0, j 1, j 2, j 3, eq_ix4 j⟩
  have ht : 6 * (2 * b.val + s.val / 1024) + n.val / 8 < cfg0.N := by show _ < 48; omega
  refine ⟨⟨6 * (2 * b.val + s.val / 1024) + n.val / 8, ht⟩, flush0_4 _, ?_⟩
  have h := ((cfg0.win 4).blk ⟨6 * (2 * b.val + s.val / 1024) + n.val / 8, ht⟩).view.emb_mem_set
    (ix4 0 (⟨n.val % 8, by omega⟩ : Fin 8) (⟨s.val % 1024, by omega⟩ : Fin 1024) e)
  rw [emb4] at h
  have e0 : bat (blkOf ⟨6 * (2 * b.val + s.val / 1024) + n.val / 8, ht⟩) = b :=
    Fin.ext (show (6 * (2 * b.val + s.val / 1024) + n.val / 8) / 6 / 2 = b.val by omega)
  have e1 : headOf (colOf ⟨6 * (2 * b.val + s.val / 1024) + n.val / 8, ht⟩) ⟨n.val % 8, by omega⟩ = n :=
    Fin.ext (show 8 * ((6 * (2 * b.val + s.val / 1024) + n.val / 8) % 6) + n.val % 8 = n.val by omega)
  have e2 : tok (blkOf ⟨6 * (2 * b.val + s.val / 1024) + n.val / 8, ht⟩) ⟨s.val % 1024, by omega⟩ = s :=
    Fin.ext (show 1024 * ((6 * (2 * b.val + s.val / 1024) + n.val / 8) / 6 % 2) + s.val % 1024 = s.val by omega)
  rwa [e0, e1, e2] at h

/-- The run of the input projection with its result named. -/
theorem run : θ_run defs (onTc (τ := τ) (main (F := Ideal))) ⟨m, fun _ => 0, ρ⟩ fun r => ∀ c : Dev nD,
      r.2.mem ((c : Thread nD τ).loc main_v6) = GM m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨(h c).1.trans ((dats m 0 c).arrAt_eq_of_cover 4 (GM m c) (fun t _ => flushed_eq m c t) covered), (h c).2⟩) (run_blocks m ρ)

end Cert.Proof.Inproj

end
-- ==== Proof.Inproj.Ref.lean ====
/- The input projection's reference, element by element, and the equality of the two results. -/
module

public import proofs.«01_k».proof.Defs
public import proofs.«01_k».proof.Proof.Inproj.Run
public import proofs.«01_k».proof.Proof.Gen.InprojRefIdeal.Run
public import Idealize.ShloMosaic.Lib.IdealHost

@[expose] public section

set_option maxRecDepth 16384

noncomputable section

namespace Cert.Proof.Inproj

open Cert.InprojRefIdeal Cert.InprojRefIdeal.Gen Idealize.ShloMosaic Idealize.ShloMosaic.TcCoe Idealize.SL.Sem
open Cert.Proof.Rows

section Term

variable (x : FVec Ideal S4x2048x2048 .f32) (mod : FVec Ideal S4x3x3x2048 .f32) (pre : FVec Ideal S3x2048 .f32)
  (w : FVec Ideal S2048x6144 .f32)

/-- The tokens' rows, each times the reciprocal root of its mean square. -/
def refScaled : FVec Ideal S4x2048x2048 .f32 :=
  mulf x (broadcastInDim S4x2048x2048 ![0, 1, 2] bcast_S4x2048x1_S4x2048x2048_0_1_2 (Host.rsqrt (addf (Host.divf
    (broadcastInDim S4x2048x1 ![0, 1] bcast_S4x2048_S4x2048x1_0_1
      (Host.reduceAdd (mulf x x) (constant S_ .f32 0x00000000#32) reducesTo_S4x2048x2048_S4x2048_d2 h_S_))
    (broadcastInDim S4x2048x1 ![] bcast_S_S4x2048x1 (constant S_ .f32 0x45000000#32)))
    (broadcastInDim S4x2048x1 ![] bcast_S_S4x2048x1 (constant S_ .f32 0x358637BD#32)))))

/-- The gain, at every row. -/
def refGain : FVec Ideal S4x2048x2048 .f32 :=
  broadcastInDim S4x2048x2048 ![0, 1, 2] bcast_S1x1x2048_S4x2048x2048_0_1_2
    (broadcastInDim S1x1x2048 ![2] bcast_S2048_S1x1x2048_2
      (shapeCast S2048 (extractStridedSlice S1x2048 ![1, 0] pre slices_S3x2048_S1x2048_1_0) shapeCasts_S1x2048_S2048))

/-- The shift, at every row. -/
def refShift : FVec Ideal S4x2048x2048 .f32 :=
  broadcastInDim S4x2048x2048 ![0, 1, 2] bcast_S4x1x2048_S4x2048x2048_0_1_2
    (broadcastInDim S4x1x2048 ![0, 2] bcast_S4x2048_S4x1x2048_0_2
      (shapeCast S4x2048 (extractStridedSlice S4x1x1x2048 ![0, 1, 0, 0] mod slices_S4x3x3x2048_S4x1x1x2048_0_1_0_0)
        shapeCasts_S4x1x1x2048_S4x2048))

/-- One plus the scale, at every row. -/
def refScale : FVec Ideal S4x2048x2048 .f32 :=
  broadcastInDim S4x2048x2048 ![0, 1, 2] bcast_S4x1x2048_S4x2048x2048_0_1_2
    (addf (broadcastInDim S4x1x2048 ![] bcast_S_S4x1x2048 (constant S_ .f32 0x3F800000#32))
      (broadcastInDim S4x1x2048 ![0, 2] bcast_S4x2048_S4x1x2048_0_2
        (shapeCast S4x2048 (extractStridedSlice S4x1x1x2048 ![0, 1, 1, 0] mod slices_S4x3x3x2048_S4x1x1x2048_0_1_1_0)
          shapeCasts_S4x1x1x2048_S4x2048)))

/-- The tokens' rows, normalized and modulated. -/
def refRows : FVec Ideal S4x2048x2048 .f32 :=
  addf (mulf (mulf (refScaled x) (refGain pre)) (refScale mod)) (refShift mod)

/-- Rows times the weights. -/
def refDot (h : FVec Ideal S4x2048x2048 .f32) : FVec Ideal S4x2048x6144 .f32 :=
  Host.dotGeneral dot_S4x2048x2048_S2048x6144_S4x2048x6144_2_0_01_1_n_n none h w

/-- A product's columns cut into heads, the heads before the tokens, in the narrower format. -/
def refHeads (p : FVec Ideal S4x2048x6144 .f32) : FVec Ideal S4x48x2048x128 .bf16 :=
  truncf .bf16 (transpose S4x48x2048x128 [0, 2, 1, 3] (shapeCast S4x2048x48x128 p shapeCasts_S4x2048x6144_S4x2048x48x128)
    transposes_S4x2048x48x128_S4x48x2048x128_0_2_1_3) bitsLt_bf16_f32

/-- The reference's result. -/
def refOut : FVec Ideal S4x48x2048x128 .bf16 := refHeads (refDot w (refRows x mod pre))

theorem refScaled_apply (b : Fin 4) (s d : Fin 2048) : refScaled x (ix3 b s d)
    = x (ix3 b s d) * Ideal.rsqrt (Ideal.div (∑ k : Fin 2048, x (ix3 b s k) * x (ix3 b s k))
        (Ideal.ofBits .f32 0x45000000#32) + Ideal.ofBits .f32 0x358637BD#32) := by
  pointwise [refScaled]

theorem refGain_apply (b : Fin 4) (s d : Fin 2048) : refGain pre (ix3 b s d) = pre (ix2 1 d) := by
  pointwise [refGain]
theorem refShift_apply (b : Fin 4) (s d : Fin 2048) : refShift mod (ix3 b s d) = mod (ix4 b 1 0 d) := by
  pointwise [refShift]
theorem refScale_apply (b : Fin 4) (s d : Fin 2048) :
    refScale mod (ix3 b s d) = Ideal.ofBits .f32 0x3F800000#32 + mod (ix4 b 1 1 d) := by
  pointwise [refScale]

/-- The normalized rows are the kernel's. -/
theorem refRows_apply (b : Fin 4) (s d : Fin 2048) : refRows x mod pre (ix3 b s d) = nrow x mod pre b s d := by
  have e : refRows x mod pre (ix3 b s d)
      = refScaled x (ix3 b s d) * refGain pre (ix3 b s d) * refScale mod (ix3 b s d) + refShift mod (ix3 b s d) := rfl
  rw [e, refScaled_apply, refGain_apply, refScale_apply, refShift_apply, mul_assoc (_ * _)]
  rfl

theorem refDot_apply (h : FVec Ideal S4x2048x2048 .f32) (b : Fin 4) (s : Fin 2048) (f : Fin 6144) :
    refDot w h (ix3 b s f) = ∑ i : Fin 2048, h (ix3 b s i) * w (ix2 i f) := by
  pointwise [refDot]

theorem refHeads_apply (p : FVec Ideal S4x2048x6144 .f32) (b : Fin 4) (n : Fin 48) (s : Fin 2048) (e : Fin 128) :
    refHeads p (ix4 b n s e) = p (ix3 b s (⟨128 * n.val + e.val, by omega⟩ : Fin 6144)) := by
  pointwise [refHeads]
  simp only [Nat.mul_comm]

/-- The reference's result is the kernel's. -/
theorem refOut_eq : refOut x mod pre w = G x mod pre w := by
  funext j
  obtain ⟨b, n, s, e, rfl⟩ : ∃ (b : Fin 4) (n : Fin 48) (s : Fin 2048) (e : Fin 128), j = ix4 b n s e := ⟨j 0, j 1, j 2, j 3, eq_ix4 j⟩
  refine (refHeads_apply _ b n s e).trans ((refDot_apply _ _ b s _).trans ?_)
  simp only [refRows_apply]
  rfl

end Term

end Cert.Proof.Inproj

end
-- ==== Proof.Inproj.Claim.lean ====
/- The input projection's claims: what its reference leaves, that the kernel leaves the same, and that the reference changes
   no argument and ends with every semaphore at zero. -/
module

public import proofs.«01_k».proof.Proof.Inproj.Ref
public import Idealize.ShloMosaic.Lib.Quiescent

@[expose] public section

set_option maxRecDepth 16384

noncomputable section

namespace Cert.Proof.Inproj

open Cert.InprojRefIdeal Cert.InprojRefIdeal.Gen Idealize.ShloMosaic Idealize.ShloMosaic.TcCoe Idealize.SL.Sem

/-- The reference's run with its result named. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v30) = refOut (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.InprojRefIdeal.Value.run m ρ

/-- The input projection and its reference leave the same result. -/
theorem algebraic : Cert.algebraic_InprojIdeal_InprojRefIdeal (hInprojIdeal := Cert.InprojIdeal.Gen.facts)
    (hInprojRefIdeal := Cert.InprojRefIdeal.Gen.facts) := fun m g m' g' _ hagree =>
  ⟨GM m, run m g, (θ_run _ _ _).mono (fun r h c => by
    obtain ⟨h0, h'⟩ := h c
    obtain ⟨a0, a1, a2, a3⟩ := hagree c
    refine ⟨h0.trans ?_, h'⟩
    rw [a0, a1, a2, a3]
    exact refOut_eq _ _ _ _) (ref_run m' g')⟩

/-- The reference ends, its arguments as they were; it declares no semaphore, so none is left raised. -/
theorem frame_ref : Cert.quiescent_InprojRefIdeal (hInprojRefIdeal := Cert.InprojRefIdeal.Gen.facts) := fun m ρ _ =>
  (θ_run _ _ _).mono (fun r h => ⟨fun c => (h c).2, sem_eq_zero_of_no_sems rfl r.2⟩) (ref_run m ρ)

end Cert.Proof.Inproj

end
-- ==== Proof.lean ====
module

public import proofs.«01_k».proof.Defs
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnRefIdeal
public import proofs.«01_k».proof.Proof.Gen.AttnRefIdeal.Run
public import proofs.«01_k».proof.Proof.Gen.Outproj
public import proofs.«01_k».proof.Proof.Gen.Outproj.Frame
public import proofs.«01_k».proof.Proof.Gen.OutprojIdeal
public import proofs.«01_k».proof.Proof.Gen.OutprojIdeal.Frame
public import proofs.«01_k».proof.Proof.Gen.OutprojIdeal.Value
public import proofs.«01_k».proof.Proof.Gen.OutprojRefIdeal
public import proofs.«01_k».proof.Proof.Gen.OutprojRefIdeal.Run
public import proofs.«01_k».proof.Proof.Attn.Claims
public import proofs.«01_k».proof.Proof.Out.Claim
public import proofs.«01_k».proof.Proof.Gen.FfnIdeal.Frame
public import proofs.«01_k».proof.Proof.Gen.FfnRefIdeal.Run
public import proofs.«01_k».proof.Proof.Gen.Ffn
public import proofs.«01_k».proof.Proof.Gen.Ffn.Frame
public import proofs.«01_k».proof.Proof.Ffn.Claim
public import proofs.«01_k».proof.Proof.Ffn.Words
public import proofs.«01_k».proof.Proof.Gen.Inproj.Frame
public import proofs.«01_k».proof.Proof.Gen.InprojIdeal.Frame
public import proofs.«01_k».proof.Proof.Gen.InprojIdeal.Value
public import proofs.«01_k».proof.Proof.Gen.InprojRefIdeal.Run
public import proofs.«01_k».proof.Proof.Inproj.Claim
public import Idealize.ShloMosaic.Adequacy
public import Idealize.ShloMosaic.Init

@[expose] public section

noncomputable section

namespace Cert.Proof

open Idealize.ShloMosaic Idealize.SL.Sem

/-- The output projection is its idealization: nothing was rewritten. -/
theorem preserves_out : Cert.preserves_Outproj_OutprojIdeal := trivial

/-- The input projection is its idealization: nothing was rewritten. -/
theorem preserves_in : Cert.preserves_Inproj_InprojIdeal := trivial

/-- The feed-forward sublayer is its idealization: nothing was rewritten. -/
theorem preserves_ffn : Cert.preserves_Ffn_FfnIdeal := trivial

/-- Everything the certificate claims: the attention's frames, every claim of the output projection, of the feed-forward
    sublayer and of the input projection. -/
theorem claim : Cert.Claim :=
  ⟨Cert.AttnIdeal.Gen.facts, Cert.AttnRefIdeal.Gen.facts, Cert.Outproj.Gen.facts, Cert.OutprojIdeal.Gen.facts,
    Cert.OutprojRefIdeal.Gen.facts, Cert.Ffn.Gen.facts, Cert.FfnIdeal.Gen.facts, Cert.FfnRefIdeal.Gen.facts,
    Cert.Inproj.Gen.facts, Cert.InprojIdeal.Gen.facts, Cert.InprojRefIdeal.Gen.facts,
    Attn.frame_ideal, Attn.frame_ref,
    fun m ρ _ => Cert.Outproj.Gen.frame m ρ, fun m ρ _ => Cert.OutprojIdeal.Gen.frame m ρ, Out.frame_ref,
    Ffn.frame_kernel, Ffn.frame_ideal, Ffn.frame_ref,
    fun m ρ _ => Cert.Inproj.Gen.frame m ρ, fun m ρ _ => Cert.InprojIdeal.Gen.frame m ρ, Inproj.frame_ref,
    preserves_out, Out.algebraic, preserves_ffn, Ffn.algebraic, preserves_in, Inproj.algebraic⟩

end Cert.Proof

end
